-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x256 : Shape := ⟨2, ![8192, 256]⟩
abbrev S16x18 : Shape := ⟨2, ![16, 18]⟩
abbrev S2x256x8192 : Shape := ⟨3, ![2, 256, 8192]⟩
abbrev S256x8192 : Shape := ⟨2, ![256, 8192]⟩
abbrev S4x2 : Shape := ⟨2, ![4, 2]⟩
abbrev S_ : Shape := ⟨0, ![]⟩
abbrev S1x1 : Shape := ⟨2, ![1, 1]⟩
abbrev S1x256x8192 : Shape := ⟨3, ![1, 256, 8192]⟩
abbrev S256x256 : Shape := ⟨2, ![256, 256]⟩

abbrev nBuf : Space → Nat
  | .hbm => 4
  | .vmem => 8
  | .smem => 1
  | _ => 0

abbrev bufTy : (tb : Table) → Fin (tcTables nBuf tb) → BufTy
  | .hbm, ⟨0, _⟩ => ⟨S512x8192, .f32⟩
  | .hbm, ⟨1, _⟩ => ⟨S8192x256, .f32⟩
  | .hbm, ⟨2, _⟩ => ⟨S16x18, .i32⟩
  | .hbm, ⟨3, _⟩ => ⟨S8192x256, .bf16⟩
  | .local _ .vmem, ⟨0, _⟩ => ⟨S8192x256, .f32⟩
  | .local _ .vmem, ⟨1, _⟩ => ⟨S8192x256, .bf16⟩
  | .local _ .vmem, ⟨2, _⟩ => ⟨S2x256x8192, .bf16⟩
  | .local _ .vmem, ⟨3, _⟩ => ⟨S2x256x8192, .bf16⟩
  | .local _ .vmem, ⟨4, _⟩ => ⟨S2x256x8192, .bf16⟩
  | .local _ .vmem, ⟨5, _⟩ => ⟨S2x256x8192, .bf16⟩
  | .local _ .vmem, ⟨6, _⟩ => ⟨S256x8192, .f32⟩
  | .local _ .vmem, ⟨7, _⟩ => ⟨S8192x256, .bf16⟩
  | .local _ .smem, ⟨0, _⟩ => ⟨S16x18, .i32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 5 20 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  let c0 : Index := 0#32
  ![v3.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5 : Index := Scalar.indexCast v2
  let c1 : Index := 1#32
  ![v5.toNat, 1]
def k0_dev1 (v6 : BitVec 32) : Nat :=
  let c0_i32 : BitVec 32 := 0#32
  let c1_i32_1 : BitVec 32 := 1#32
  let v8 : BitVec 32 := Scalar.muli v6 c1_i32_1
  let v9 : BitVec 32 := Scalar.addi c0_i32 v8
  v9.toNat

def k0_dev2 (v4 : BitVec 32) : Nat :=
  let c0_i32_4 : BitVec 32 := 0#32
  let c1_i32_3 : BitVec 32 := 1#32
  let v10 : BitVec 32 := Scalar.muli v4 c1_i32_3
  let v11 : BitVec 32 := Scalar.addi c0_i32_4 v10
  v11.toNat

def k0_dev3 (v4 : BitVec 32) : Nat :=
  let c0_i32_21 : BitVec 32 := 0#32
  let c1_i32_20 : BitVec 32 := 1#32
  let v19 : BitVec 32 := Scalar.muli v4 c1_i32_20
  let v20 : BitVec 32 := Scalar.addi c0_i32_21 v19
  v20.toNat
def k0_dev4 (v6 : BitVec 32) : Nat :=
  let c0_i32_33 : BitVec 32 := 0#32
  let c1_i32_32 : BitVec 32 := 1#32
  let v29 : BitVec 32 := Scalar.muli v6 c1_i32_32
  let v30 : BitVec 32 := Scalar.addi c0_i32_33 v29
  v30.toNat
def k0_dev5 (v4 : BitVec 32) : Nat :=
  let c0_i32_57 : BitVec 32 := 0#32
  let c1_i32_56 : BitVec 32 := 1#32
  let v52 : BitVec 32 := Scalar.muli v4 c1_i32_56
  let v53 : BitVec 32 := Scalar.addi c0_i32_57 v52
  v53.toNat
def k0_dev6 (v6 : BitVec 32) : Nat :=
  let c0_i32_68 : BitVec 32 := 0#32
  let c1_i32_67 : BitVec 32 := 1#32
  let v62 : BitVec 32 := Scalar.muli v6 c1_i32_67
  let v63 : BitVec 32 := Scalar.addi c0_i32_68 v62
  v63.toNat
def k0_off3 (d0 : Dev nD) (c0_i32_79 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v79 : BitVec 32 := Scalar.muli v2 c512_i32
  let v80 : BitVec 32 := Scalar.addi v79 c0_i32_79
  let v81 : Index := Scalar.indexCast v80
  let c0_80 : Index := 0#32
  ![v81.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v104 : Index := Scalar.indexCast v2
  let c2 : Index := 2#32
  ![v104.toNat, 2]
def k0_off5 (v105 : BitVec 32) : Fin 2 → Nat :=
  let c512_i32_110 : BitVec 32 := 512#32
  let v111 : BitVec 32 := Scalar.muli v105 c512_i32_110
  let c0_i32_111 : BitVec 32 := 0#32
  let v112 : BitVec 32 := Scalar.addi v111 c0_i32_111
  let v113 : Index := Scalar.indexCast v112
  let c0_112 : Index := 0#32
  ![v113.toNat, 0]

def k0_chk3 (v105 : BitVec 32) : Prop :=
  (∀ a, (k0_off5 v105) a + S256x256.size a ≤ S8192x256.size a) ∧
  (∀ (hinb : ∀ a, (k0_off5 v105) a + S256x256.size a ≤ S8192x256.size a), (Rect.unit (s := S8192x256) (k0_off5 v105) S256x256.size hinb).PackedRows (EltTy.packing .bf16))
theorem k0_off5_inb : ∀ (v105 : BitVec 32) (k0_hw3 : k0_chk3 v105), ∀ a, (k0_off5 v105) a + S256x256.size a ≤ S8192x256.size a := fun v105 k0_hw3 => k0_hw3.1
theorem k0_off5_packedbf16 : ∀ (v105 : BitVec 32) (k0_hw3 : k0_chk3 v105), (Rect.unit (s := S8192x256) (k0_off5 v105) S256x256.size (k0_off5_inb v105 k0_hw3)).PackedRows (EltTy.packing .bf16) := fun v105 k0_hw3 => k0_hw3.2 (k0_off5_inb v105 k0_hw3)

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v125 : Index := Scalar.indexCast v2
  let c10 : Index := 10#32
  ![v125.toNat, 10]
def k0_off7 (v126 : BitVec 32) : Fin 2 → Nat :=
  let c512_i32_132 : BitVec 32 := 512#32
  let v132 : BitVec 32 := Scalar.muli v126 c512_i32_132
  let c0_i32_133 : BitVec 32 := 0#32
  let v133 : BitVec 32 := Scalar.addi v132 c0_i32_133
  let v134 : Index := Scalar.indexCast v133
  let c0_134 : Index := 0#32
  ![v134.toNat, 0]

def k0_chk4 (v126 : BitVec 32) : Prop :=
  (∀ a, (k0_off7 v126) a + S256x256.size a ≤ S8192x256.size a) ∧
  (∀ (hinb : ∀ a, (k0_off7 v126) a + S256x256.size a ≤ S8192x256.size a), (Rect.unit (s := S8192x256) (k0_off7 v126) S256x256.size hinb).PackedRows (EltTy.packing .bf16))
theorem k0_off7_inb : ∀ (v126 : BitVec 32) (k0_hw4 : k0_chk4 v126), ∀ a, (k0_off7 v126) a + S256x256.size a ≤ S8192x256.size a := fun v126 k0_hw4 => k0_hw4.1
theorem k0_off7_packedbf16 : ∀ (v126 : BitVec 32) (k0_hw4 : k0_chk4 v126), (Rect.unit (s := S8192x256) (k0_off7 v126) S256x256.size (k0_off7_inb v126 k0_hw4)).PackedRows (EltTy.packing .bf16) := fun v126 k0_hw4 => k0_hw4.2 (k0_off7_inb v126 k0_hw4)

def k0_dev7 (v6 : BitVec 32) : Nat :=
  let c0_i32_159 : BitVec 32 := 0#32
  let c1_i32_158 : BitVec 32 := 1#32
  let v148 : BitVec 32 := Scalar.muli v6 c1_i32_158
  let v149 : BitVec 32 := Scalar.addi c0_i32_159 v148
  v149.toNat
def k0_dev8 (v4 : BitVec 32) : Nat :=
  let c0_i32_162 : BitVec 32 := 0#32
  let c1_i32_161 : BitVec 32 := 1#32
  let v150 : BitVec 32 := Scalar.muli v4 c1_i32_161
  let v151 : BitVec 32 := Scalar.addi c0_i32_162 v150
  v151.toNat
def k0_dev9 (v4 : BitVec 32) : Nat :=
  let c0_i32_172 : BitVec 32 := 0#32
  let c1_i32_171 : BitVec 32 := 1#32
  let v152 : BitVec 32 := Scalar.muli v4 c1_i32_171
  let v153 : BitVec 32 := Scalar.addi c0_i32_172 v152
  v153.toNat
def k0_dev10 (v6 : BitVec 32) : Nat :=
  let c0_i32_186 : BitVec 32 := 0#32
  let c1_i32_185 : BitVec 32 := 1#32
  let v162 : BitVec 32 := Scalar.muli v6 c1_i32_185
  let v163 : BitVec 32 := Scalar.addi c0_i32_186 v162
  v163.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v182 : Index := Scalar.indexCast v2
  let c2_206 : Index := 2#32
  ![v182.toNat, 2]
def k0_off9 (v183 : BitVec 32) : Fin 2 → Nat :=
  let c512_i32_211 : BitVec 32 := 512#32
  let v189 : BitVec 32 := Scalar.muli v183 c512_i32_211
  let c256_i32_212 : BitVec 32 := 256#32
  let v190 : BitVec 32 := Scalar.addi v189 c256_i32_212
  let v191 : Index := Scalar.indexCast v190
  let c0_213 : Index := 0#32
  ![v191.toNat, 0]

def k0_chk5 (v183 : BitVec 32) : Prop :=
  (∀ a, (k0_off9 v183) a + S256x256.size a ≤ S8192x256.size a) ∧
  (∀ (hinb : ∀ a, (k0_off9 v183) a + S256x256.size a ≤ S8192x256.size a), (Rect.unit (s := S8192x256) (k0_off9 v183) S256x256.size hinb).PackedRows (EltTy.packing .bf16))
theorem k0_off9_inb : ∀ (v183 : BitVec 32) (k0_hw5 : k0_chk5 v183), ∀ a, (k0_off9 v183) a + S256x256.size a ≤ S8192x256.size a := fun v183 k0_hw5 => k0_hw5.1
theorem k0_off9_packedbf16 : ∀ (v183 : BitVec 32) (k0_hw5 : k0_chk5 v183), (Rect.unit (s := S8192x256) (k0_off9 v183) S256x256.size (k0_off9_inb v183 k0_hw5)).PackedRows (EltTy.packing .bf16) := fun v183 k0_hw5 => k0_hw5.2 (k0_off9_inb v183 k0_hw5)

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v203 : Index := Scalar.indexCast v2
  let c10_229 : Index := 10#32
  ![v203.toNat, 10]
def k0_off11 (v204 : BitVec 32) : Fin 2 → Nat :=
  let c512_i32_234 : BitVec 32 := 512#32
  let v210 : BitVec 32 := Scalar.muli v204 c512_i32_234
  let c256_i32_235 : BitVec 32 := 256#32
  let v211 : BitVec 32 := Scalar.addi v210 c256_i32_235
  let v212 : Index := Scalar.indexCast v211
  let c0_236 : Index := 0#32
  ![v212.toNat, 0]

def k0_chk6 (v204 : BitVec 32) : Prop :=
  (∀ a, (k0_off11 v204) a + S256x256.size a ≤ S8192x256.size a) ∧
  (∀ (hinb : ∀ a, (k0_off11 v204) a + S256x256.size a ≤ S8192x256.size a), (Rect.unit (s := S8192x256) (k0_off11 v204) S256x256.size hinb).PackedRows (EltTy.packing .bf16))
theorem k0_off11_inb : ∀ (v204 : BitVec 32) (k0_hw6 : k0_chk6 v204), ∀ a, (k0_off11 v204) a + S256x256.size a ≤ S8192x256.size a := fun v204 k0_hw6 => k0_hw6.1
theorem k0_off11_packedbf16 : ∀ (v204 : BitVec 32) (k0_hw6 : k0_chk6 v204), (Rect.unit (s := S8192x256) (k0_off11 v204) S256x256.size (k0_off11_inb v204 k0_hw6)).PackedRows (EltTy.packing .bf16) := fun v204 k0_hw6 => k0_hw6.2 (k0_off11_inb v204 k0_hw6)

def k0_dev11 (v6 : BitVec 32) : Nat :=
  let c0_i32_261 : BitVec 32 := 0#32
  let c1_i32_260 : BitVec 32 := 1#32
  let v226 : BitVec 32 := Scalar.muli v6 c1_i32_260
  let v227 : BitVec 32 := Scalar.addi c0_i32_261 v226
  v227.toNat
def k0_dev12 (v4 : BitVec 32) : Nat :=
  let c0_i32_264 : BitVec 32 := 0#32
  let c1_i32_263 : BitVec 32 := 1#32
  let v228 : BitVec 32 := Scalar.muli v4 c1_i32_263
  let v229 : BitVec 32 := Scalar.addi c0_i32_264 v228
  v229.toNat
def k0_dev13 (v4 : BitVec 32) : Nat :=
  let c0_i32_274 : BitVec 32 := 0#32
  let c1_i32_273 : BitVec 32 := 1#32
  let v230 : BitVec 32 := Scalar.muli v4 c1_i32_273
  let v231 : BitVec 32 := Scalar.addi c0_i32_274 v230
  v231.toNat
def k0_dev14 (v6 : BitVec 32) : Nat :=
  let c0_i32_288 : BitVec 32 := 0#32
  let c1_i32_287 : BitVec 32 := 1#32
  let v240 : BitVec 32 := Scalar.muli v6 c1_i32_287
  let v241 : BitVec 32 := Scalar.addi c0_i32_288 v240
  v241.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v260 : Index := Scalar.indexCast v2
  let c3 : Index := 3#32
  ![v260.toNat, 3]
def k0_off13 (v261 : BitVec 32) : Fin 2 → Nat :=
  let c512_i32_312 : BitVec 32 := 512#32
  let v267 : BitVec 32 := Scalar.muli v261 c512_i32_312
  let c0_i32_313 : BitVec 32 := 0#32
  let v268 : BitVec 32 := Scalar.addi v267 c0_i32_313
  let v269 : Index := Scalar.indexCast v268
  let c0_314 : Index := 0#32
  ![v269.toNat, 0]

def k0_chk7 (v261 : BitVec 32) : Prop :=
  (∀ a, (k0_off13 v261) a + S256x256.size a ≤ S8192x256.size a) ∧
  (∀ (hinb : ∀ a, (k0_off13 v261) a + S256x256.size a ≤ S8192x256.size a), (Rect.unit (s := S8192x256) (k0_off13 v261) S256x256.size hinb).PackedRows (EltTy.packing .bf16))
theorem k0_off13_inb : ∀ (v261 : BitVec 32) (k0_hw7 : k0_chk7 v261), ∀ a, (k0_off13 v261) a + S256x256.size a ≤ S8192x256.size a := fun v261 k0_hw7 => k0_hw7.1
theorem k0_off13_packedbf16 : ∀ (v261 : BitVec 32) (k0_hw7 : k0_chk7 v261), (Rect.unit (s := S8192x256) (k0_off13 v261) S256x256.size (k0_off13_inb v261 k0_hw7)).PackedRows (EltTy.packing .bf16) := fun v261 k0_hw7 => k0_hw7.2 (k0_off13_inb v261 k0_hw7)

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v281 : Index := Scalar.indexCast v2
  let c11 : Index := 11#32
  ![v281.toNat, 11]
def k0_off15 (v282 : BitVec 32) : Fin 2 → Nat :=
  let c512_i32_334 : BitVec 32 := 512#32
  let v288 : BitVec 32 := Scalar.muli v282 c512_i32_334
  let c0_i32_335 : BitVec 32 := 0#32
  let v289 : BitVec 32 := Scalar.addi v288 c0_i32_335
  let v290 : Index := Scalar.indexCast v289
  let c0_336 : Index := 0#32
  ![v290.toNat, 0]

def k0_chk8 (v282 : BitVec 32) : Prop :=
  (∀ a, (k0_off15 v282) a + S256x256.size a ≤ S8192x256.size a) ∧
  (∀ (hinb : ∀ a, (k0_off15 v282) a + S256x256.size a ≤ S8192x256.size a), (Rect.unit (s := S8192x256) (k0_off15 v282) S256x256.size hinb).PackedRows (EltTy.packing .bf16))
theorem k0_off15_inb : ∀ (v282 : BitVec 32) (k0_hw8 : k0_chk8 v282), ∀ a, (k0_off15 v282) a + S256x256.size a ≤ S8192x256.size a := fun v282 k0_hw8 => k0_hw8.1
theorem k0_off15_packedbf16 : ∀ (v282 : BitVec 32) (k0_hw8 : k0_chk8 v282), (Rect.unit (s := S8192x256) (k0_off15 v282) S256x256.size (k0_off15_inb v282 k0_hw8)).PackedRows (EltTy.packing .bf16) := fun v282 k0_hw8 => k0_hw8.2 (k0_off15_inb v282 k0_hw8)

def k0_dev15 (v6 : BitVec 32) : Nat :=
  let c0_i32_361 : BitVec 32 := 0#32
  let c1_i32_360 : BitVec 32 := 1#32
  let v304 : BitVec 32 := Scalar.muli v6 c1_i32_360
  let v305 : BitVec 32 := Scalar.addi c0_i32_361 v304
  v305.toNat
def k0_dev16 (v4 : BitVec 32) : Nat :=
  let c0_i32_364 : BitVec 32 := 0#32
  let c1_i32_363 : BitVec 32 := 1#32
  let v306 : BitVec 32 := Scalar.muli v4 c1_i32_363
  let v307 : BitVec 32 := Scalar.addi c0_i32_364 v306
  v307.toNat
def k0_dev17 (v4 : BitVec 32) : Nat :=
  let c0_i32_374 : BitVec 32 := 0#32
  let c1_i32_373 : BitVec 32 := 1#32
  let v308 : BitVec 32 := Scalar.muli v4 c1_i32_373
  let v309 : BitVec 32 := Scalar.addi c0_i32_374 v308
  v309.toNat
def k0_dev18 (v6 : BitVec 32) : Nat :=
  let c0_i32_388 : BitVec 32 := 0#32
  let c1_i32_387 : BitVec 32 := 1#32
  let v318 : BitVec 32 := Scalar.muli v6 c1_i32_387
  let v319 : BitVec 32 := Scalar.addi c0_i32_388 v318
  v319.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v338 : Index := Scalar.indexCast v2
  let c3_408 : Index := 3#32
  ![v338.toNat, 3]
def k0_off17 (v339 : BitVec 32) : Fin 2 → Nat :=
  let c512_i32_413 : BitVec 32 := 512#32
  let v345 : BitVec 32 := Scalar.muli v339 c512_i32_413
  let c256_i32_414 : BitVec 32 := 256#32
  let v346 : BitVec 32 := Scalar.addi v345 c256_i32_414
  let v347 : Index := Scalar.indexCast v346
  let c0_415 : Index := 0#32
  ![v347.toNat, 0]

def k0_chk9 (v339 : BitVec 32) : Prop :=
  (∀ a, (k0_off17 v339) a + S256x256.size a ≤ S8192x256.size a) ∧
  (∀ (hinb : ∀ a, (k0_off17 v339) a + S256x256.size a ≤ S8192x256.size a), (Rect.unit (s := S8192x256) (k0_off17 v339) S256x256.size hinb).PackedRows (EltTy.packing .bf16))
theorem k0_off17_inb : ∀ (v339 : BitVec 32) (k0_hw9 : k0_chk9 v339), ∀ a, (k0_off17 v339) a + S256x256.size a ≤ S8192x256.size a := fun v339 k0_hw9 => k0_hw9.1
theorem k0_off17_packedbf16 : ∀ (v339 : BitVec 32) (k0_hw9 : k0_chk9 v339), (Rect.unit (s := S8192x256) (k0_off17 v339) S256x256.size (k0_off17_inb v339 k0_hw9)).PackedRows (EltTy.packing .bf16) := fun v339 k0_hw9 => k0_hw9.2 (k0_off17_inb v339 k0_hw9)

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v359 : Index := Scalar.indexCast v2
  let c11_431 : Index := 11#32
  ![v359.toNat, 11]
def k0_off19 (v360 : BitVec 32) : Fin 2 → Nat :=
  let c512_i32_436 : BitVec 32 := 512#32
  let v366 : BitVec 32 := Scalar.muli v360 c512_i32_436
  let c256_i32_437 : BitVec 32 := 256#32
  let v367 : BitVec 32 := Scalar.addi v366 c256_i32_437
  let v368 : Index := Scalar.indexCast v367
  let c0_438 : Index := 0#32
  ![v368.toNat, 0]

def k0_chk10 (v360 : BitVec 32) : Prop :=
  (∀ a, (k0_off19 v360) a + S256x256.size a ≤ S8192x256.size a) ∧
  (∀ (hinb : ∀ a, (k0_off19 v360) a + S256x256.size a ≤ S8192x256.size a), (Rect.unit (s := S8192x256) (k0_off19 v360) S256x256.size hinb).PackedRows (EltTy.packing .bf16))
theorem k0_off19_inb : ∀ (v360 : BitVec 32) (k0_hw10 : k0_chk10 v360), ∀ a, (k0_off19 v360) a + S256x256.size a ≤ S8192x256.size a := fun v360 k0_hw10 => k0_hw10.1
theorem k0_off19_packedbf16 : ∀ (v360 : BitVec 32) (k0_hw10 : k0_chk10 v360), (Rect.unit (s := S8192x256) (k0_off19 v360) S256x256.size (k0_off19_inb v360 k0_hw10)).PackedRows (EltTy.packing .bf16) := fun v360 k0_hw10 => k0_hw10.2 (k0_off19_inb v360 k0_hw10)

def k0_dev19 (v6 : BitVec 32) : Nat :=
  let c0_i32_463 : BitVec 32 := 0#32
  let c1_i32_462 : BitVec 32 := 1#32
  let v382 : BitVec 32 := Scalar.muli v6 c1_i32_462
  let v383 : BitVec 32 := Scalar.addi c0_i32_463 v382
  v383.toNat
def k0_dev20 (v4 : BitVec 32) : Nat :=
  let c0_i32_466 : BitVec 32 := 0#32
  let c1_i32_465 : BitVec 32 := 1#32
  let v384 : BitVec 32 := Scalar.muli v4 c1_i32_465
  let v385 : BitVec 32 := Scalar.addi c0_i32_466 v384
  v385.toNat
def k0_dev21 (v4 : BitVec 32) : Nat :=
  let c0_i32_476 : BitVec 32 := 0#32
  let c1_i32_475 : BitVec 32 := 1#32
  let v386 : BitVec 32 := Scalar.muli v4 c1_i32_475
  let v387 : BitVec 32 := Scalar.addi c0_i32_476 v386
  v387.toNat
def k0_dev22 (v6 : BitVec 32) : Nat :=
  let c0_i32_490 : BitVec 32 := 0#32
  let c1_i32_489 : BitVec 32 := 1#32
  let v396 : BitVec 32 := Scalar.muli v6 c1_i32_489
  let v397 : BitVec 32 := Scalar.addi c0_i32_490 v396
  v397.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v416 : Index := Scalar.indexCast v2
  let c4 : Index := 4#32
  ![v416.toNat, 4]
def k0_off21 (v417 : BitVec 32) : Fin 2 → Nat :=
  let c512_i32_514 : BitVec 32 := 512#32
  let v423 : BitVec 32 := Scalar.muli v417 c512_i32_514
  let c0_i32_515 : BitVec 32 := 0#32
  let v424 : BitVec 32 := Scalar.addi v423 c0_i32_515
  let v425 : Index := Scalar.indexCast v424
  let c0_516 : Index := 0#32
  ![v425.toNat, 0]

def k0_chk11 (v417 : BitVec 32) : Prop :=
  (∀ a, (k0_off21 v417) a + S256x256.size a ≤ S8192x256.size a) ∧
  (∀ (hinb : ∀ a, (k0_off21 v417) a + S256x256.size a ≤ S8192x256.size a), (Rect.unit (s := S8192x256) (k0_off21 v417) S256x256.size hinb).PackedRows (EltTy.packing .bf16))
theorem k0_off21_inb : ∀ (v417 : BitVec 32) (k0_hw11 : k0_chk11 v417), ∀ a, (k0_off21 v417) a + S256x256.size a ≤ S8192x256.size a := fun v417 k0_hw11 => k0_hw11.1
theorem k0_off21_packedbf16 : ∀ (v417 : BitVec 32) (k0_hw11 : k0_chk11 v417), (Rect.unit (s := S8192x256) (k0_off21 v417) S256x256.size (k0_off21_inb v417 k0_hw11)).PackedRows (EltTy.packing .bf16) := fun v417 k0_hw11 => k0_hw11.2 (k0_off21_inb v417 k0_hw11)

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v437 : Index := Scalar.indexCast v2
  let c12 : Index := 12#32
  ![v437.toNat, 12]
def k0_off23 (v438 : BitVec 32) : Fin 2 → Nat :=
  let c512_i32_536 : BitVec 32 := 512#32
  let v444 : BitVec 32 := Scalar.muli v438 c512_i32_536
  let c0_i32_537 : BitVec 32 := 0#32
  let v445 : BitVec 32 := Scalar.addi v444 c0_i32_537
  let v446 : Index := Scalar.indexCast v445
  let c0_538 : Index := 0#32
  ![v446.toNat, 0]

def k0_chk12 (v438 : BitVec 32) : Prop :=
  (∀ a, (k0_off23 v438) a + S256x256.size a ≤ S8192x256.size a) ∧
  (∀ (hinb : ∀ a, (k0_off23 v438) a + S256x256.size a ≤ S8192x256.size a), (Rect.unit (s := S8192x256) (k0_off23 v438) S256x256.size hinb).PackedRows (EltTy.packing .bf16))
theorem k0_off23_inb : ∀ (v438 : BitVec 32) (k0_hw12 : k0_chk12 v438), ∀ a, (k0_off23 v438) a + S256x256.size a ≤ S8192x256.size a := fun v438 k0_hw12 => k0_hw12.1
theorem k0_off23_packedbf16 : ∀ (v438 : BitVec 32) (k0_hw12 : k0_chk12 v438), (Rect.unit (s := S8192x256) (k0_off23 v438) S256x256.size (k0_off23_inb v438 k0_hw12)).PackedRows (EltTy.packing .bf16) := fun v438 k0_hw12 => k0_hw12.2 (k0_off23_inb v438 k0_hw12)

def k0_dev23 (v6 : BitVec 32) : Nat :=
  let c0_i32_563 : BitVec 32 := 0#32
  let c1_i32_562 : BitVec 32 := 1#32
  let v460 : BitVec 32 := Scalar.muli v6 c1_i32_562
  let v461 : BitVec 32 := Scalar.addi c0_i32_563 v460
  v461.toNat
def k0_dev24 (v4 : BitVec 32) : Nat :=
  let c0_i32_566 : BitVec 32 := 0#32
  let c1_i32_565 : BitVec 32 := 1#32
  let v462 : BitVec 32 := Scalar.muli v4 c1_i32_565
  let v463 : BitVec 32 := Scalar.addi c0_i32_566 v462
  v463.toNat
def k0_dev25 (v4 : BitVec 32) : Nat :=
  let c0_i32_576 : BitVec 32 := 0#32
  let c1_i32_575 : BitVec 32 := 1#32
  let v464 : BitVec 32 := Scalar.muli v4 c1_i32_575
  let v465 : BitVec 32 := Scalar.addi c0_i32_576 v464
  v465.toNat
def k0_dev26 (v6 : BitVec 32) : Nat :=
  let c0_i32_590 : BitVec 32 := 0#32
  let c1_i32_589 : BitVec 32 := 1#32
  let v474 : BitVec 32 := Scalar.muli v6 c1_i32_589
  let v475 : BitVec 32 := Scalar.addi c0_i32_590 v474
  v475.toNat
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v494 : Index := Scalar.indexCast v2
  let c4_610 : Index := 4#32
  ![v494.toNat, 4]
def k0_off25 (v495 : BitVec 32) : Fin 2 → Nat :=
  let c512_i32_615 : BitVec 32 := 512#32
  let v501 : BitVec 32 := Scalar.muli v495 c512_i32_615
  let c256_i32_616 : BitVec 32 := 256#32
  let v502 : BitVec 32 := Scalar.addi v501 c256_i32_616
  let v503 : Index := Scalar.indexCast v502
  let c0_617 : Index := 0#32
  ![v503.toNat, 0]

def k0_chk13 (v495 : BitVec 32) : Prop :=
  (∀ a, (k0_off25 v495) a + S256x256.size a ≤ S8192x256.size a) ∧
  (∀ (hinb : ∀ a, (k0_off25 v495) a + S256x256.size a ≤ S8192x256.size a), (Rect.unit (s := S8192x256) (k0_off25 v495) S256x256.size hinb).PackedRows (EltTy.packing .bf16))
theorem k0_off25_inb : ∀ (v495 : BitVec 32) (k0_hw13 : k0_chk13 v495), ∀ a, (k0_off25 v495) a + S256x256.size a ≤ S8192x256.size a := fun v495 k0_hw13 => k0_hw13.1
theorem k0_off25_packedbf16 : ∀ (v495 : BitVec 32) (k0_hw13 : k0_chk13 v495), (Rect.unit (s := S8192x256) (k0_off25 v495) S256x256.size (k0_off25_inb v495 k0_hw13)).PackedRows (EltTy.packing .bf16) := fun v495 k0_hw13 => k0_hw13.2 (k0_off25_inb v495 k0_hw13)

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v515 : Index := Scalar.indexCast v2
  let c12_633 : Index := 12#32
  ![v515.toNat, 12]
def k0_off27 (v516 : BitVec 32) : Fin 2 → Nat :=
  let c512_i32_638 : BitVec 32 := 512#32
  let v522 : BitVec 32 := Scalar.muli v516 c512_i32_638
  let c256_i32_639 : BitVec 32 := 256#32
  let v523 : BitVec 32 := Scalar.addi v522 c256_i32_639
  let v524 : Index := Scalar.indexCast v523
  let c0_640 : Index := 0#32
  ![v524.toNat, 0]

def k0_chk14 (v516 : BitVec 32) : Prop :=
  (∀ a, (k0_off27 v516) a + S256x256.size a ≤ S8192x256.size a) ∧
  (∀ (hinb : ∀ a, (k0_off27 v516) a + S256x256.size a ≤ S8192x256.size a), (Rect.unit (s := S8192x256) (k0_off27 v516) S256x256.size hinb).PackedRows (EltTy.packing .bf16))
theorem k0_off27_inb : ∀ (v516 : BitVec 32) (k0_hw14 : k0_chk14 v516), ∀ a, (k0_off27 v516) a + S256x256.size a ≤ S8192x256.size a := fun v516 k0_hw14 => k0_hw14.1
theorem k0_off27_packedbf16 : ∀ (v516 : BitVec 32) (k0_hw14 : k0_chk14 v516), (Rect.unit (s := S8192x256) (k0_off27 v516) S256x256.size (k0_off27_inb v516 k0_hw14)).PackedRows (EltTy.packing .bf16) := fun v516 k0_hw14 => k0_hw14.2 (k0_off27_inb v516 k0_hw14)

def k0_dev27 (v6 : BitVec 32) : Nat :=
  let c0_i32_665 : BitVec 32 := 0#32
  let c1_i32_664 : BitVec 32 := 1#32
  let v538 : BitVec 32 := Scalar.muli v6 c1_i32_664
  let v539 : BitVec 32 := Scalar.addi c0_i32_665 v538
  v539.toNat
def k0_dev28 (v4 : BitVec 32) : Nat :=
  let c0_i32_668 : BitVec 32 := 0#32
  let c1_i32_667 : BitVec 32 := 1#32
  let v540 : BitVec 32 := Scalar.muli v4 c1_i32_667
  let v541 : BitVec 32 := Scalar.addi c0_i32_668 v540
  v541.toNat
def k0_dev29 (v4 : BitVec 32) : Nat :=
  let c0_i32_678 : BitVec 32 := 0#32
  let c1_i32_677 : BitVec 32 := 1#32
  let v542 : BitVec 32 := Scalar.muli v4 c1_i32_677
  let v543 : BitVec 32 := Scalar.addi c0_i32_678 v542
  v543.toNat
def k0_dev30 (v6 : BitVec 32) : Nat :=
  let c0_i32_692 : BitVec 32 := 0#32
  let c1_i32_691 : BitVec 32 := 1#32
  let v552 : BitVec 32 := Scalar.muli v6 c1_i32_691
  let v553 : BitVec 32 := Scalar.addi c0_i32_692 v552
  v553.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v572 : Index := Scalar.indexCast v2
  let c5 : Index := 5#32
  ![v572.toNat, 5]
def k0_off29 (v573 : BitVec 32) : Fin 2 → Nat :=
  let c512_i32_716 : BitVec 32 := 512#32
  let v579 : BitVec 32 := Scalar.muli v573 c512_i32_716
  let c0_i32_717 : BitVec 32 := 0#32
  let v580 : BitVec 32 := Scalar.addi v579 c0_i32_717
  let v581 : Index := Scalar.indexCast v580
  let c0_718 : Index := 0#32
  ![v581.toNat, 0]

def k0_chk15 (v573 : BitVec 32) : Prop :=
  (∀ a, (k0_off29 v573) a + S256x256.size a ≤ S8192x256.size a) ∧
  (∀ (hinb : ∀ a, (k0_off29 v573) a + S256x256.size a ≤ S8192x256.size a), (Rect.unit (s := S8192x256) (k0_off29 v573) S256x256.size hinb).PackedRows (EltTy.packing .bf16))
theorem k0_off29_inb : ∀ (v573 : BitVec 32) (k0_hw15 : k0_chk15 v573), ∀ a, (k0_off29 v573) a + S256x256.size a ≤ S8192x256.size a := fun v573 k0_hw15 => k0_hw15.1
theorem k0_off29_packedbf16 : ∀ (v573 : BitVec 32) (k0_hw15 : k0_chk15 v573), (Rect.unit (s := S8192x256) (k0_off29 v573) S256x256.size (k0_off29_inb v573 k0_hw15)).PackedRows (EltTy.packing .bf16) := fun v573 k0_hw15 => k0_hw15.2 (k0_off29_inb v573 k0_hw15)

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v593 : Index := Scalar.indexCast v2
  let c13 : Index := 13#32
  ![v593.toNat, 13]
def k0_off31 (v594 : BitVec 32) : Fin 2 → Nat :=
  let c512_i32_738 : BitVec 32 := 512#32
  let v600 : BitVec 32 := Scalar.muli v594 c512_i32_738
  let c0_i32_739 : BitVec 32 := 0#32
  let v601 : BitVec 32 := Scalar.addi v600 c0_i32_739
  let v602 : Index := Scalar.indexCast v601
  let c0_740 : Index := 0#32
  ![v602.toNat, 0]

def k0_chk16 (v594 : BitVec 32) : Prop :=
  (∀ a, (k0_off31 v594) a + S256x256.size a ≤ S8192x256.size a) ∧
  (∀ (hinb : ∀ a, (k0_off31 v594) a + S256x256.size a ≤ S8192x256.size a), (Rect.unit (s := S8192x256) (k0_off31 v594) S256x256.size hinb).PackedRows (EltTy.packing .bf16))
theorem k0_off31_inb : ∀ (v594 : BitVec 32) (k0_hw16 : k0_chk16 v594), ∀ a, (k0_off31 v594) a + S256x256.size a ≤ S8192x256.size a := fun v594 k0_hw16 => k0_hw16.1
theorem k0_off31_packedbf16 : ∀ (v594 : BitVec 32) (k0_hw16 : k0_chk16 v594), (Rect.unit (s := S8192x256) (k0_off31 v594) S256x256.size (k0_off31_inb v594 k0_hw16)).PackedRows (EltTy.packing .bf16) := fun v594 k0_hw16 => k0_hw16.2 (k0_off31_inb v594 k0_hw16)

def k0_dev31 (v6 : BitVec 32) : Nat :=
  let c0_i32_765 : BitVec 32 := 0#32
  let c1_i32_764 : BitVec 32 := 1#32
  let v616 : BitVec 32 := Scalar.muli v6 c1_i32_764
  let v617 : BitVec 32 := Scalar.addi c0_i32_765 v616
  v617.toNat
def k0_dev32 (v4 : BitVec 32) : Nat :=
  let c0_i32_768 : BitVec 32 := 0#32
  let c1_i32_767 : BitVec 32 := 1#32
  let v618 : BitVec 32 := Scalar.muli v4 c1_i32_767
  let v619 : BitVec 32 := Scalar.addi c0_i32_768 v618
  v619.toNat
def k0_dev33 (v4 : BitVec 32) : Nat :=
  let c0_i32_778 : BitVec 32 := 0#32
  let c1_i32_777 : BitVec 32 := 1#32
  let v620 : BitVec 32 := Scalar.muli v4 c1_i32_777
  let v621 : BitVec 32 := Scalar.addi c0_i32_778 v620
  v621.toNat
def k0_dev34 (v6 : BitVec 32) : Nat :=
  let c0_i32_792 : BitVec 32 := 0#32
  let c1_i32_791 : BitVec 32 := 1#32
  let v630 : BitVec 32 := Scalar.muli v6 c1_i32_791
  let v631 : BitVec 32 := Scalar.addi c0_i32_792 v630
  v631.toNat
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v650 : Index := Scalar.indexCast v2
  let c5_812 : Index := 5#32
  ![v650.toNat, 5]
def k0_off33 (v651 : BitVec 32) : Fin 2 → Nat :=
  let c512_i32_817 : BitVec 32 := 512#32
  let v657 : BitVec 32 := Scalar.muli v651 c512_i32_817
  let c256_i32_818 : BitVec 32 := 256#32
  let v658 : BitVec 32 := Scalar.addi v657 c256_i32_818
  let v659 : Index := Scalar.indexCast v658
  let c0_819 : Index := 0#32
  ![v659.toNat, 0]

def k0_chk17 (v651 : BitVec 32) : Prop :=
  (∀ a, (k0_off33 v651) a + S256x256.size a ≤ S8192x256.size a) ∧
  (∀ (hinb : ∀ a, (k0_off33 v651) a + S256x256.size a ≤ S8192x256.size a), (Rect.unit (s := S8192x256) (k0_off33 v651) S256x256.size hinb).PackedRows (EltTy.packing .bf16))
theorem k0_off33_inb : ∀ (v651 : BitVec 32) (k0_hw17 : k0_chk17 v651), ∀ a, (k0_off33 v651) a + S256x256.size a ≤ S8192x256.size a := fun v651 k0_hw17 => k0_hw17.1
theorem k0_off33_packedbf16 : ∀ (v651 : BitVec 32) (k0_hw17 : k0_chk17 v651), (Rect.unit (s := S8192x256) (k0_off33 v651) S256x256.size (k0_off33_inb v651 k0_hw17)).PackedRows (EltTy.packing .bf16) := fun v651 k0_hw17 => k0_hw17.2 (k0_off33_inb v651 k0_hw17)

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v671 : Index := Scalar.indexCast v2
  let c13_835 : Index := 13#32
  ![v671.toNat, 13]
def k0_off35 (v672 : BitVec 32) : Fin 2 → Nat :=
  let c512_i32_840 : BitVec 32 := 512#32
  let v678 : BitVec 32 := Scalar.muli v672 c512_i32_840
  let c256_i32_841 : BitVec 32 := 256#32
  let v679 : BitVec 32 := Scalar.addi v678 c256_i32_841
  let v680 : Index := Scalar.indexCast v679
  let c0_842 : Index := 0#32
  ![v680.toNat, 0]

def k0_chk18 (v672 : BitVec 32) : Prop :=
  (∀ a, (k0_off35 v672) a + S256x256.size a ≤ S8192x256.size a) ∧
  (∀ (hinb : ∀ a, (k0_off35 v672) a + S256x256.size a ≤ S8192x256.size a), (Rect.unit (s := S8192x256) (k0_off35 v672) S256x256.size hinb).PackedRows (EltTy.packing .bf16))
theorem k0_off35_inb : ∀ (v672 : BitVec 32) (k0_hw18 : k0_chk18 v672), ∀ a, (k0_off35 v672) a + S256x256.size a ≤ S8192x256.size a := fun v672 k0_hw18 => k0_hw18.1
theorem k0_off35_packedbf16 : ∀ (v672 : BitVec 32) (k0_hw18 : k0_chk18 v672), (Rect.unit (s := S8192x256) (k0_off35 v672) S256x256.size (k0_off35_inb v672 k0_hw18)).PackedRows (EltTy.packing .bf16) := fun v672 k0_hw18 => k0_hw18.2 (k0_off35_inb v672 k0_hw18)

def k0_dev35 (v6 : BitVec 32) : Nat :=
  let c0_i32_867 : BitVec 32 := 0#32
  let c1_i32_866 : BitVec 32 := 1#32
  let v694 : BitVec 32 := Scalar.muli v6 c1_i32_866
  let v695 : BitVec 32 := Scalar.addi c0_i32_867 v694
  v695.toNat
def k0_dev36 (v4 : BitVec 32) : Nat :=
  let c0_i32_870 : BitVec 32 := 0#32
  let c1_i32_869 : BitVec 32 := 1#32
  let v696 : BitVec 32 := Scalar.muli v4 c1_i32_869
  let v697 : BitVec 32 := Scalar.addi c0_i32_870 v696
  v697.toNat
def k0_dev37 (v4 : BitVec 32) : Nat :=
  let c0_i32_880 : BitVec 32 := 0#32
  let c1_i32_879 : BitVec 32 := 1#32
  let v698 : BitVec 32 := Scalar.muli v4 c1_i32_879
  let v699 : BitVec 32 := Scalar.addi c0_i32_880 v698
  v699.toNat
def k0_dev38 (v6 : BitVec 32) : Nat :=
  let c0_i32_894 : BitVec 32 := 0#32
  let c1_i32_893 : BitVec 32 := 1#32
  let v708 : BitVec 32 := Scalar.muli v6 c1_i32_893
  let v709 : BitVec 32 := Scalar.addi c0_i32_894 v708
  v709.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v728 : Index := Scalar.indexCast v2
  let c6 : Index := 6#32
  ![v728.toNat, 6]
def k0_off37 (v729 : BitVec 32) : Fin 2 → Nat :=
  let c512_i32_918 : BitVec 32 := 512#32
  let v735 : BitVec 32 := Scalar.muli v729 c512_i32_918
  let c0_i32_919 : BitVec 32 := 0#32
  let v736 : BitVec 32 := Scalar.addi v735 c0_i32_919
  let v737 : Index := Scalar.indexCast v736
  let c0_920 : Index := 0#32
  ![v737.toNat, 0]

def k0_chk19 (v729 : BitVec 32) : Prop :=
  (∀ a, (k0_off37 v729) a + S256x256.size a ≤ S8192x256.size a) ∧
  (∀ (hinb : ∀ a, (k0_off37 v729) a + S256x256.size a ≤ S8192x256.size a), (Rect.unit (s := S8192x256) (k0_off37 v729) S256x256.size hinb).PackedRows (EltTy.packing .bf16))
theorem k0_off37_inb : ∀ (v729 : BitVec 32) (k0_hw19 : k0_chk19 v729), ∀ a, (k0_off37 v729) a + S256x256.size a ≤ S8192x256.size a := fun v729 k0_hw19 => k0_hw19.1
theorem k0_off37_packedbf16 : ∀ (v729 : BitVec 32) (k0_hw19 : k0_chk19 v729), (Rect.unit (s := S8192x256) (k0_off37 v729) S256x256.size (k0_off37_inb v729 k0_hw19)).PackedRows (EltTy.packing .bf16) := fun v729 k0_hw19 => k0_hw19.2 (k0_off37_inb v729 k0_hw19)

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v749 : Index := Scalar.indexCast v2
  let c14 : Index := 14#32
  ![v749.toNat, 14]
def k0_off39 (v750 : BitVec 32) : Fin 2 → Nat :=
  let c512_i32_940 : BitVec 32 := 512#32
  let v756 : BitVec 32 := Scalar.muli v750 c512_i32_940
  let c0_i32_941 : BitVec 32 := 0#32
  let v757 : BitVec 32 := Scalar.addi v756 c0_i32_941
  let v758 : Index := Scalar.indexCast v757
  let c0_942 : Index := 0#32
  ![v758.toNat, 0]

def k0_chk20 (v750 : BitVec 32) : Prop :=
  (∀ a, (k0_off39 v750) a + S256x256.size a ≤ S8192x256.size a) ∧
  (∀ (hinb : ∀ a, (k0_off39 v750) a + S256x256.size a ≤ S8192x256.size a), (Rect.unit (s := S8192x256) (k0_off39 v750) S256x256.size hinb).PackedRows (EltTy.packing .bf16))
theorem k0_off39_inb : ∀ (v750 : BitVec 32) (k0_hw20 : k0_chk20 v750), ∀ a, (k0_off39 v750) a + S256x256.size a ≤ S8192x256.size a := fun v750 k0_hw20 => k0_hw20.1
theorem k0_off39_packedbf16 : ∀ (v750 : BitVec 32) (k0_hw20 : k0_chk20 v750), (Rect.unit (s := S8192x256) (k0_off39 v750) S256x256.size (k0_off39_inb v750 k0_hw20)).PackedRows (EltTy.packing .bf16) := fun v750 k0_hw20 => k0_hw20.2 (k0_off39_inb v750 k0_hw20)

def k0_dev39 (v6 : BitVec 32) : Nat :=
  let c0_i32_967 : BitVec 32 := 0#32
  let c1_i32_966 : BitVec 32 := 1#32
  let v772 : BitVec 32 := Scalar.muli v6 c1_i32_966
  let v773 : BitVec 32 := Scalar.addi c0_i32_967 v772
  v773.toNat
def k0_dev40 (v4 : BitVec 32) : Nat :=
  let c0_i32_970 : BitVec 32 := 0#32
  let c1_i32_969 : BitVec 32 := 1#32
  let v774 : BitVec 32 := Scalar.muli v4 c1_i32_969
  let v775 : BitVec 32 := Scalar.addi c0_i32_970 v774
  v775.toNat
def k0_dev41 (v4 : BitVec 32) : Nat :=
  let c0_i32_980 : BitVec 32 := 0#32
  let c1_i32_979 : BitVec 32 := 1#32
  let v776 : BitVec 32 := Scalar.muli v4 c1_i32_979
  let v777 : BitVec 32 := Scalar.addi c0_i32_980 v776
  v777.toNat
def k0_dev42 (v6 : BitVec 32) : Nat :=
  let c0_i32_994 : BitVec 32 := 0#32
  let c1_i32_993 : BitVec 32 := 1#32
  let v786 : BitVec 32 := Scalar.muli v6 c1_i32_993
  let v787 : BitVec 32 := Scalar.addi c0_i32_994 v786
  v787.toNat
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v806 : Index := Scalar.indexCast v2
  let c6_1014 : Index := 6#32
  ![v806.toNat, 6]
def k0_off41 (v807 : BitVec 32) : Fin 2 → Nat :=
  let c512_i32_1019 : BitVec 32 := 512#32
  let v813 : BitVec 32 := Scalar.muli v807 c512_i32_1019
  let c256_i32_1020 : BitVec 32 := 256#32
  let v814 : BitVec 32 := Scalar.addi v813 c256_i32_1020
  let v815 : Index := Scalar.indexCast v814
  let c0_1021 : Index := 0#32
  ![v815.toNat, 0]

def k0_chk21 (v807 : BitVec 32) : Prop :=
  (∀ a, (k0_off41 v807) a + S256x256.size a ≤ S8192x256.size a) ∧
  (∀ (hinb : ∀ a, (k0_off41 v807) a + S256x256.size a ≤ S8192x256.size a), (Rect.unit (s := S8192x256) (k0_off41 v807) S256x256.size hinb).PackedRows (EltTy.packing .bf16))
theorem k0_off41_inb : ∀ (v807 : BitVec 32) (k0_hw21 : k0_chk21 v807), ∀ a, (k0_off41 v807) a + S256x256.size a ≤ S8192x256.size a := fun v807 k0_hw21 => k0_hw21.1
theorem k0_off41_packedbf16 : ∀ (v807 : BitVec 32) (k0_hw21 : k0_chk21 v807), (Rect.unit (s := S8192x256) (k0_off41 v807) S256x256.size (k0_off41_inb v807 k0_hw21)).PackedRows (EltTy.packing .bf16) := fun v807 k0_hw21 => k0_hw21.2 (k0_off41_inb v807 k0_hw21)

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v827 : Index := Scalar.indexCast v2
  let c14_1037 : Index := 14#32
  ![v827.toNat, 14]
def k0_off43 (v828 : BitVec 32) : Fin 2 → Nat :=
  let c512_i32_1042 : BitVec 32 := 512#32
  let v834 : BitVec 32 := Scalar.muli v828 c512_i32_1042
  let c256_i32_1043 : BitVec 32 := 256#32
  let v835 : BitVec 32 := Scalar.addi v834 c256_i32_1043
  let v836 : Index := Scalar.indexCast v835
  let c0_1044 : Index := 0#32
  ![v836.toNat, 0]

def k0_chk22 (v828 : BitVec 32) : Prop :=
  (∀ a, (k0_off43 v828) a + S256x256.size a ≤ S8192x256.size a) ∧
  (∀ (hinb : ∀ a, (k0_off43 v828) a + S256x256.size a ≤ S8192x256.size a), (Rect.unit (s := S8192x256) (k0_off43 v828) S256x256.size hinb).PackedRows (EltTy.packing .bf16))
theorem k0_off43_inb : ∀ (v828 : BitVec 32) (k0_hw22 : k0_chk22 v828), ∀ a, (k0_off43 v828) a + S256x256.size a ≤ S8192x256.size a := fun v828 k0_hw22 => k0_hw22.1
theorem k0_off43_packedbf16 : ∀ (v828 : BitVec 32) (k0_hw22 : k0_chk22 v828), (Rect.unit (s := S8192x256) (k0_off43 v828) S256x256.size (k0_off43_inb v828 k0_hw22)).PackedRows (EltTy.packing .bf16) := fun v828 k0_hw22 => k0_hw22.2 (k0_off43_inb v828 k0_hw22)

def k0_dev43 (v6 : BitVec 32) : Nat :=
  let c0_i32_1069 : BitVec 32 := 0#32
  let c1_i32_1068 : BitVec 32 := 1#32
  let v850 : BitVec 32 := Scalar.muli v6 c1_i32_1068
  let v851 : BitVec 32 := Scalar.addi c0_i32_1069 v850
  v851.toNat
def k0_dev44 (v4 : BitVec 32) : Nat :=
  let c0_i32_1072 : BitVec 32 := 0#32
  let c1_i32_1071 : BitVec 32 := 1#32
  let v852 : BitVec 32 := Scalar.muli v4 c1_i32_1071
  let v853 : BitVec 32 := Scalar.addi c0_i32_1072 v852
  v853.toNat
def k0_dev45 (v4 : BitVec 32) : Nat :=
  let c0_i32_1082 : BitVec 32 := 0#32
  let c1_i32_1081 : BitVec 32 := 1#32
  let v854 : BitVec 32 := Scalar.muli v4 c1_i32_1081
  let v855 : BitVec 32 := Scalar.addi c0_i32_1082 v854
  v855.toNat
def k0_dev46 (v6 : BitVec 32) : Nat :=
  let c0_i32_1096 : BitVec 32 := 0#32
  let c1_i32_1095 : BitVec 32 := 1#32
  let v864 : BitVec 32 := Scalar.muli v6 c1_i32_1095
  let v865 : BitVec 32 := Scalar.addi c0_i32_1096 v864
  v865.toNat
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v884 : Index := Scalar.indexCast v2
  let c7 : Index := 7#32
  ![v884.toNat, 7]
def k0_off45 (v885 : BitVec 32) : Fin 2 → Nat :=
  let c512_i32_1120 : BitVec 32 := 512#32
  let v891 : BitVec 32 := Scalar.muli v885 c512_i32_1120
  let c0_i32_1121 : BitVec 32 := 0#32
  let v892 : BitVec 32 := Scalar.addi v891 c0_i32_1121
  let v893 : Index := Scalar.indexCast v892
  let c0_1122 : Index := 0#32
  ![v893.toNat, 0]

def k0_chk23 (v885 : BitVec 32) : Prop :=
  (∀ a, (k0_off45 v885) a + S256x256.size a ≤ S8192x256.size a) ∧
  (∀ (hinb : ∀ a, (k0_off45 v885) a + S256x256.size a ≤ S8192x256.size a), (Rect.unit (s := S8192x256) (k0_off45 v885) S256x256.size hinb).PackedRows (EltTy.packing .bf16))
theorem k0_off45_inb : ∀ (v885 : BitVec 32) (k0_hw23 : k0_chk23 v885), ∀ a, (k0_off45 v885) a + S256x256.size a ≤ S8192x256.size a := fun v885 k0_hw23 => k0_hw23.1
theorem k0_off45_packedbf16 : ∀ (v885 : BitVec 32) (k0_hw23 : k0_chk23 v885), (Rect.unit (s := S8192x256) (k0_off45 v885) S256x256.size (k0_off45_inb v885 k0_hw23)).PackedRows (EltTy.packing .bf16) := fun v885 k0_hw23 => k0_hw23.2 (k0_off45_inb v885 k0_hw23)

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v905 : Index := Scalar.indexCast v2
  let c15 : Index := 15#32
  ![v905.toNat, 15]
def k0_off47 (v906 : BitVec 32) : Fin 2 → Nat :=
  let c512_i32_1142 : BitVec 32 := 512#32
  let v912 : BitVec 32 := Scalar.muli v906 c512_i32_1142
  let c0_i32_1143 : BitVec 32 := 0#32
  let v913 : BitVec 32 := Scalar.addi v912 c0_i32_1143
  let v914 : Index := Scalar.indexCast v913
  let c0_1144 : Index := 0#32
  ![v914.toNat, 0]

def k0_chk24 (v906 : BitVec 32) : Prop :=
  (∀ a, (k0_off47 v906) a + S256x256.size a ≤ S8192x256.size a) ∧
  (∀ (hinb : ∀ a, (k0_off47 v906) a + S256x256.size a ≤ S8192x256.size a), (Rect.unit (s := S8192x256) (k0_off47 v906) S256x256.size hinb).PackedRows (EltTy.packing .bf16))
theorem k0_off47_inb : ∀ (v906 : BitVec 32) (k0_hw24 : k0_chk24 v906), ∀ a, (k0_off47 v906) a + S256x256.size a ≤ S8192x256.size a := fun v906 k0_hw24 => k0_hw24.1
theorem k0_off47_packedbf16 : ∀ (v906 : BitVec 32) (k0_hw24 : k0_chk24 v906), (Rect.unit (s := S8192x256) (k0_off47 v906) S256x256.size (k0_off47_inb v906 k0_hw24)).PackedRows (EltTy.packing .bf16) := fun v906 k0_hw24 => k0_hw24.2 (k0_off47_inb v906 k0_hw24)

def k0_dev47 (v6 : BitVec 32) : Nat :=
  let c0_i32_1169 : BitVec 32 := 0#32
  let c1_i32_1168 : BitVec 32 := 1#32
  let v928 : BitVec 32 := Scalar.muli v6 c1_i32_1168
  let v929 : BitVec 32 := Scalar.addi c0_i32_1169 v928
  v929.toNat
def k0_dev48 (v4 : BitVec 32) : Nat :=
  let c0_i32_1172 : BitVec 32 := 0#32
  let c1_i32_1171 : BitVec 32 := 1#32
  let v930 : BitVec 32 := Scalar.muli v4 c1_i32_1171
  let v931 : BitVec 32 := Scalar.addi c0_i32_1172 v930
  v931.toNat
def k0_dev49 (v4 : BitVec 32) : Nat :=
  let c0_i32_1182 : BitVec 32 := 0#32
  let c1_i32_1181 : BitVec 32 := 1#32
  let v932 : BitVec 32 := Scalar.muli v4 c1_i32_1181
  let v933 : BitVec 32 := Scalar.addi c0_i32_1182 v932
  v933.toNat
def k0_dev50 (v6 : BitVec 32) : Nat :=
  let c0_i32_1196 : BitVec 32 := 0#32
  let c1_i32_1195 : BitVec 32 := 1#32
  let v942 : BitVec 32 := Scalar.muli v6 c1_i32_1195
  let v943 : BitVec 32 := Scalar.addi c0_i32_1196 v942
  v943.toNat
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v962 : Index := Scalar.indexCast v2
  let c7_1216 : Index := 7#32
  ![v962.toNat, 7]
def k0_off49 (v963 : BitVec 32) : Fin 2 → Nat :=
  let c512_i32_1221 : BitVec 32 := 512#32
  let v969 : BitVec 32 := Scalar.muli v963 c512_i32_1221
  let c256_i32_1222 : BitVec 32 := 256#32
  let v970 : BitVec 32 := Scalar.addi v969 c256_i32_1222
  let v971 : Index := Scalar.indexCast v970
  let c0_1223 : Index := 0#32
  ![v971.toNat, 0]

def k0_chk25 (v963 : BitVec 32) : Prop :=
  (∀ a, (k0_off49 v963) a + S256x256.size a ≤ S8192x256.size a) ∧
  (∀ (hinb : ∀ a, (k0_off49 v963) a + S256x256.size a ≤ S8192x256.size a), (Rect.unit (s := S8192x256) (k0_off49 v963) S256x256.size hinb).PackedRows (EltTy.packing .bf16))
theorem k0_off49_inb : ∀ (v963 : BitVec 32) (k0_hw25 : k0_chk25 v963), ∀ a, (k0_off49 v963) a + S256x256.size a ≤ S8192x256.size a := fun v963 k0_hw25 => k0_hw25.1
theorem k0_off49_packedbf16 : ∀ (v963 : BitVec 32) (k0_hw25 : k0_chk25 v963), (Rect.unit (s := S8192x256) (k0_off49 v963) S256x256.size (k0_off49_inb v963 k0_hw25)).PackedRows (EltTy.packing .bf16) := fun v963 k0_hw25 => k0_hw25.2 (k0_off49_inb v963 k0_hw25)

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v983 : Index := Scalar.indexCast v2
  let c15_1239 : Index := 15#32
  ![v983.toNat, 15]
def k0_off51 (v984 : BitVec 32) : Fin 2 → Nat :=
  let c512_i32_1244 : BitVec 32 := 512#32
  let v990 : BitVec 32 := Scalar.muli v984 c512_i32_1244
  let c256_i32_1245 : BitVec 32 := 256#32
  let v991 : BitVec 32 := Scalar.addi v990 c256_i32_1245
  let v992 : Index := Scalar.indexCast v991
  let c0_1246 : Index := 0#32
  ![v992.toNat, 0]

def k0_chk26 (v984 : BitVec 32) : Prop :=
  (∀ a, (k0_off51 v984) a + S256x256.size a ≤ S8192x256.size a) ∧
  (∀ (hinb : ∀ a, (k0_off51 v984) a + S256x256.size a ≤ S8192x256.size a), (Rect.unit (s := S8192x256) (k0_off51 v984) S256x256.size hinb).PackedRows (EltTy.packing .bf16))
theorem k0_off51_inb : ∀ (v984 : BitVec 32) (k0_hw26 : k0_chk26 v984), ∀ a, (k0_off51 v984) a + S256x256.size a ≤ S8192x256.size a := fun v984 k0_hw26 => k0_hw26.1
theorem k0_off51_packedbf16 : ∀ (v984 : BitVec 32) (k0_hw26 : k0_chk26 v984), (Rect.unit (s := S8192x256) (k0_off51 v984) S256x256.size (k0_off51_inb v984 k0_hw26)).PackedRows (EltTy.packing .bf16) := fun v984 k0_hw26 => k0_hw26.2 (k0_off51_inb v984 k0_hw26)

def k0_dev51 (v6 : BitVec 32) : Nat :=
  let c0_i32_1271 : BitVec 32 := 0#32
  let c1_i32_1270 : BitVec 32 := 1#32
  let v1006 : BitVec 32 := Scalar.muli v6 c1_i32_1270
  let v1007 : BitVec 32 := Scalar.addi c0_i32_1271 v1006
  v1007.toNat
def k0_dev52 (v4 : BitVec 32) : Nat :=
  let c0_i32_1274 : BitVec 32 := 0#32
  let c1_i32_1273 : BitVec 32 := 1#32
  let v1008 : BitVec 32 := Scalar.muli v4 c1_i32_1273
  let v1009 : BitVec 32 := Scalar.addi c0_i32_1274 v1008
  v1009.toNat
def k0_dev53 (v4 : BitVec 32) : Nat :=
  let c0_i32_1284 : BitVec 32 := 0#32
  let c1_i32_1283 : BitVec 32 := 1#32
  let v1010 : BitVec 32 := Scalar.muli v4 c1_i32_1283
  let v1011 : BitVec 32 := Scalar.addi c0_i32_1284 v1010
  v1011.toNat
def k0_dev54 (v6 : BitVec 32) : Nat :=
  let c0_i32_1298 : BitVec 32 := 0#32
  let c1_i32_1297 : BitVec 32 := 1#32
  let v1020 : BitVec 32 := Scalar.muli v6 c1_i32_1297
  let v1021 : BitVec 32 := Scalar.addi c0_i32_1298 v1020
  v1021.toNat
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1040 : Index := Scalar.indexCast v2
  let c8 : Index := 8#32
  ![v1040.toNat, 8]
def k0_off53 (v1041 : BitVec 32) : Fin 2 → Nat :=
  let c512_i32_1322 : BitVec 32 := 512#32
  let v1047 : BitVec 32 := Scalar.muli v1041 c512_i32_1322
  let c0_i32_1323 : BitVec 32 := 0#32
  let v1048 : BitVec 32 := Scalar.addi v1047 c0_i32_1323
  let v1049 : Index := Scalar.indexCast v1048
  let c0_1324 : Index := 0#32
  ![v1049.toNat, 0]

def k0_chk27 (v1041 : BitVec 32) : Prop :=
  (∀ a, (k0_off53 v1041) a + S256x256.size a ≤ S8192x256.size a) ∧
  (∀ (hinb : ∀ a, (k0_off53 v1041) a + S256x256.size a ≤ S8192x256.size a), (Rect.unit (s := S8192x256) (k0_off53 v1041) S256x256.size hinb).PackedRows (EltTy.packing .bf16))
theorem k0_off53_inb : ∀ (v1041 : BitVec 32) (k0_hw27 : k0_chk27 v1041), ∀ a, (k0_off53 v1041) a + S256x256.size a ≤ S8192x256.size a := fun v1041 k0_hw27 => k0_hw27.1
theorem k0_off53_packedbf16 : ∀ (v1041 : BitVec 32) (k0_hw27 : k0_chk27 v1041), (Rect.unit (s := S8192x256) (k0_off53 v1041) S256x256.size (k0_off53_inb v1041 k0_hw27)).PackedRows (EltTy.packing .bf16) := fun v1041 k0_hw27 => k0_hw27.2 (k0_off53_inb v1041 k0_hw27)

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1061 : Index := Scalar.indexCast v2
  let c16 : Index := 16#32
  ![v1061.toNat, 16]
def k0_off55 (v1062 : BitVec 32) : Fin 2 → Nat :=
  let c512_i32_1344 : BitVec 32 := 512#32
  let v1068 : BitVec 32 := Scalar.muli v1062 c512_i32_1344
  let c0_i32_1345 : BitVec 32 := 0#32
  let v1069 : BitVec 32 := Scalar.addi v1068 c0_i32_1345
  let v1070 : Index := Scalar.indexCast v1069
  let c0_1346 : Index := 0#32
  ![v1070.toNat, 0]

def k0_chk28 (v1062 : BitVec 32) : Prop :=
  (∀ a, (k0_off55 v1062) a + S256x256.size a ≤ S8192x256.size a) ∧
  (∀ (hinb : ∀ a, (k0_off55 v1062) a + S256x256.size a ≤ S8192x256.size a), (Rect.unit (s := S8192x256) (k0_off55 v1062) S256x256.size hinb).PackedRows (EltTy.packing .bf16))
theorem k0_off55_inb : ∀ (v1062 : BitVec 32) (k0_hw28 : k0_chk28 v1062), ∀ a, (k0_off55 v1062) a + S256x256.size a ≤ S8192x256.size a := fun v1062 k0_hw28 => k0_hw28.1
theorem k0_off55_packedbf16 : ∀ (v1062 : BitVec 32) (k0_hw28 : k0_chk28 v1062), (Rect.unit (s := S8192x256) (k0_off55 v1062) S256x256.size (k0_off55_inb v1062 k0_hw28)).PackedRows (EltTy.packing .bf16) := fun v1062 k0_hw28 => k0_hw28.2 (k0_off55_inb v1062 k0_hw28)

def k0_dev55 (v6 : BitVec 32) : Nat :=
  let c0_i32_1371 : BitVec 32 := 0#32
  let c1_i32_1370 : BitVec 32 := 1#32
  let v1084 : BitVec 32 := Scalar.muli v6 c1_i32_1370
  let v1085 : BitVec 32 := Scalar.addi c0_i32_1371 v1084
  v1085.toNat
def k0_dev56 (v4 : BitVec 32) : Nat :=
  let c0_i32_1381 : BitVec 32 := 0#32
  let c1_i32_1380 : BitVec 32 := 1#32
  let v1086 : BitVec 32 := Scalar.muli v4 c1_i32_1380
  let v1087 : BitVec 32 := Scalar.addi c0_i32_1381 v1086
  v1087.toNat
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1106 : Index := Scalar.indexCast v2
  let c8_1401 : Index := 8#32
  ![v1106.toNat, 8]
def k0_off57 (v1107 : BitVec 32) : Fin 2 → Nat :=
  let c512_i32_1406 : BitVec 32 := 512#32
  let v1113 : BitVec 32 := Scalar.muli v1107 c512_i32_1406
  let c256_i32_1407 : BitVec 32 := 256#32
  let v1114 : BitVec 32 := Scalar.addi v1113 c256_i32_1407
  let v1115 : Index := Scalar.indexCast v1114
  let c0_1408 : Index := 0#32
  ![v1115.toNat, 0]

def k0_chk29 (v1107 : BitVec 32) : Prop :=
  (∀ a, (k0_off57 v1107) a + S256x256.size a ≤ S8192x256.size a) ∧
  (∀ (hinb : ∀ a, (k0_off57 v1107) a + S256x256.size a ≤ S8192x256.size a), (Rect.unit (s := S8192x256) (k0_off57 v1107) S256x256.size hinb).PackedRows (EltTy.packing .bf16))
theorem k0_off57_inb : ∀ (v1107 : BitVec 32) (k0_hw29 : k0_chk29 v1107), ∀ a, (k0_off57 v1107) a + S256x256.size a ≤ S8192x256.size a := fun v1107 k0_hw29 => k0_hw29.1
theorem k0_off57_packedbf16 : ∀ (v1107 : BitVec 32) (k0_hw29 : k0_chk29 v1107), (Rect.unit (s := S8192x256) (k0_off57 v1107) S256x256.size (k0_off57_inb v1107 k0_hw29)).PackedRows (EltTy.packing .bf16) := fun v1107 k0_hw29 => k0_hw29.2 (k0_off57_inb v1107 k0_hw29)

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1127 : Index := Scalar.indexCast v2
  let c16_1424 : Index := 16#32
  ![v1127.toNat, 16]
def k0_off59 (v1128 : BitVec 32) : Fin 2 → Nat :=
  let c512_i32_1429 : BitVec 32 := 512#32
  let v1134 : BitVec 32 := Scalar.muli v1128 c512_i32_1429
  let c256_i32_1430 : BitVec 32 := 256#32
  let v1135 : BitVec 32 := Scalar.addi v1134 c256_i32_1430
  let v1136 : Index := Scalar.indexCast v1135
  let c0_1431 : Index := 0#32
  ![v1136.toNat, 0]

def k0_chk30 (v1128 : BitVec 32) : Prop :=
  (∀ a, (k0_off59 v1128) a + S256x256.size a ≤ S8192x256.size a) ∧
  (∀ (hinb : ∀ a, (k0_off59 v1128) a + S256x256.size a ≤ S8192x256.size a), (Rect.unit (s := S8192x256) (k0_off59 v1128) S256x256.size hinb).PackedRows (EltTy.packing .bf16))
theorem k0_off59_inb : ∀ (v1128 : BitVec 32) (k0_hw30 : k0_chk30 v1128), ∀ a, (k0_off59 v1128) a + S256x256.size a ≤ S8192x256.size a := fun v1128 k0_hw30 => k0_hw30.1
theorem k0_off59_packedbf16 : ∀ (v1128 : BitVec 32) (k0_hw30 : k0_chk30 v1128), (Rect.unit (s := S8192x256) (k0_off59 v1128) S256x256.size (k0_off59_inb v1128 k0_hw30)).PackedRows (EltTy.packing .bf16) := fun v1128 k0_hw30 => k0_hw30.2 (k0_off59_inb v1128 k0_hw30)

def k0_dev57 (v4 : BitVec 32) : Nat :=
  let c0_i32_1456 : BitVec 32 := 0#32
  let c1_i32_1455 : BitVec 32 := 1#32
  let v1150 : BitVec 32 := Scalar.muli v4 c1_i32_1455
  let v1151 : BitVec 32 := Scalar.addi c0_i32_1456 v1150
  v1151.toNat

def k0_chk2 (v4 : BitVec 32) : Prop :=
  ((k0_dev2 v4) < nD) ∧
  ((k0_dev3 v4) < nD) ∧
  ((k0_dev5 v4) < nD) ∧
  ((k0_dev8 v4) < nD) ∧
  ((k0_dev9 v4) < nD) ∧
  ((k0_dev12 v4) < nD) ∧
  ((k0_dev13 v4) < nD) ∧
  ((k0_dev16 v4) < nD) ∧
  ((k0_dev17 v4) < nD) ∧
  ((k0_dev20 v4) < nD) ∧
  ((k0_dev21 v4) < nD) ∧
  ((k0_dev24 v4) < nD) ∧
  ((k0_dev25 v4) < nD) ∧
  ((k0_dev28 v4) < nD) ∧
  ((k0_dev29 v4) < nD) ∧
  ((k0_dev32 v4) < nD) ∧
  ((k0_dev33 v4) < nD) ∧
  ((k0_dev36 v4) < nD) ∧
  ((k0_dev37 v4) < nD) ∧
  ((k0_dev40 v4) < nD) ∧
  ((k0_dev41 v4) < nD) ∧
  ((k0_dev44 v4) < nD) ∧
  ((k0_dev45 v4) < nD) ∧
  ((k0_dev48 v4) < nD) ∧
  ((k0_dev49 v4) < nD) ∧
  ((k0_dev52 v4) < nD) ∧
  ((k0_dev53 v4) < nD) ∧
  ((k0_dev56 v4) < nD) ∧
  ((k0_dev57 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev5_lt : ∀ (v4 : BitVec 32) (k0_hw2 : k0_chk2 v4), (k0_dev5 v4) < nD := fun v4 k0_hw2 => k0_hw2.2.2.1
theorem k0_dev8_lt : ∀ (v4 : BitVec 32) (k0_hw2 : k0_chk2 v4), (k0_dev8 v4) < nD := fun v4 k0_hw2 => k0_hw2.2.2.2.1
theorem k0_dev9_lt : ∀ (v4 : BitVec 32) (k0_hw2 : k0_chk2 v4), (k0_dev9 v4) < nD := fun v4 k0_hw2 => k0_hw2.2.2.2.2.1
theorem k0_dev12_lt : ∀ (v4 : BitVec 32) (k0_hw2 : k0_chk2 v4), (k0_dev12 v4) < nD := fun v4 k0_hw2 => k0_hw2.2.2.2.2.2.1
theorem k0_dev13_lt : ∀ (v4 : BitVec 32) (k0_hw2 : k0_chk2 v4), (k0_dev13 v4) < nD := fun v4 k0_hw2 => k0_hw2.2.2.2.2.2.2.1
theorem k0_dev16_lt : ∀ (v4 : BitVec 32) (k0_hw2 : k0_chk2 v4), (k0_dev16 v4) < nD := fun v4 k0_hw2 => k0_hw2.2.2.2.2.2.2.2.1
theorem k0_dev17_lt : ∀ (v4 : BitVec 32) (k0_hw2 : k0_chk2 v4), (k0_dev17 v4) < nD := fun v4 k0_hw2 => k0_hw2.2.2.2.2.2.2.2.2.1
theorem k0_dev20_lt : ∀ (v4 : BitVec 32) (k0_hw2 : k0_chk2 v4), (k0_dev20 v4) < nD := fun v4 k0_hw2 => k0_hw2.2.2.2.2.2.2.2.2.2.1
theorem k0_dev21_lt : ∀ (v4 : BitVec 32) (k0_hw2 : k0_chk2 v4), (k0_dev21 v4) < nD := fun v4 k0_hw2 => k0_hw2.2.2.2.2.2.2.2.2.2.2.1
theorem k0_dev24_lt : ∀ (v4 : BitVec 32) (k0_hw2 : k0_chk2 v4), (k0_dev24 v4) < nD := fun v4 k0_hw2 => k0_hw2.2.2.2.2.2.2.2.2.2.2.2.1
theorem k0_dev25_lt : ∀ (v4 : BitVec 32) (k0_hw2 : k0_chk2 v4), (k0_dev25 v4) < nD := fun v4 k0_hw2 => k0_hw2.2.2.2.2.2.2.2.2.2.2.2.2.1
theorem k0_dev28_lt : ∀ (v4 : BitVec 32) (k0_hw2 : k0_chk2 v4), (k0_dev28 v4) < nD := fun v4 k0_hw2 => k0_hw2.2.2.2.2.2.2.2.2.2.2.2.2.2.1
theorem k0_dev29_lt : ∀ (v4 : BitVec 32) (k0_hw2 : k0_chk2 v4), (k0_dev29 v4) < nD := fun v4 k0_hw2 => k0_hw2.2.2.2.2.2.2.2.2.2.2.2.2.2.2.1
theorem k0_dev32_lt : ∀ (v4 : BitVec 32) (k0_hw2 : k0_chk2 v4), (k0_dev32 v4) < nD := fun v4 k0_hw2 => k0_hw2.2.2.2.2.2.2.2.2.2.2.2.2.2.2.2.1
theorem k0_dev33_lt : ∀ (v4 : BitVec 32) (k0_hw2 : k0_chk2 v4), (k0_dev33 v4) < nD := fun v4 k0_hw2 => k0_hw2.2.2.2.2.2.2.2.2.2.2.2.2.2.2.2.2.1
theorem k0_dev36_lt : ∀ (v4 : BitVec 32) (k0_hw2 : k0_chk2 v4), (k0_dev36 v4) < nD := fun v4 k0_hw2 => k0_hw2.2.2.2.2.2.2.2.2.2.2.2.2.2.2.2.2.2.1
theorem k0_dev37_lt : ∀ (v4 : BitVec 32) (k0_hw2 : k0_chk2 v4), (k0_dev37 v4) < nD := fun v4 k0_hw2 => k0_hw2.2.2.2.2.2.2.2.2.2.2.2.2.2.2.2.2.2.2.1
theorem k0_dev40_lt : ∀ (v4 : BitVec 32) (k0_hw2 : k0_chk2 v4), (k0_dev40 v4) < nD := fun v4 k0_hw2 => k0_hw2.2.2.2.2.2.2.2.2.2.2.2.2.2.2.2.2.2.2.2.1
theorem k0_dev41_lt : ∀ (v4 : BitVec 32) (k0_hw2 : k0_chk2 v4), (k0_dev41 v4) < nD := fun v4 k0_hw2 => k0_hw2.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.2.2.2.2.2.2.2.2.2.2.2.2.2.2.2.2.2.2.2.2.2.1
theorem k0_dev45_lt : ∀ (v4 : BitVec 32) (k0_hw2 : k0_chk2 v4), (k0_dev45 v4) < nD := fun v4 k0_hw2 => k0_hw2.2.2.2.2.2.2.2.2.2.2.2.2.2.2.2.2.2.2.2.2.2.2.1
theorem k0_dev48_lt : ∀ (v4 : BitVec 32) (k0_hw2 : k0_chk2 v4), (k0_dev48 v4) < nD := fun v4 k0_hw2 => k0_hw2.2.2.2.2.2.2.2.2.2.2.2.2.2.2.2.2.2.2.2.2.2.2.2.1
theorem k0_dev49_lt : ∀ (v4 : BitVec 32) (k0_hw2 : k0_chk2 v4), (k0_dev49 v4) < nD := fun v4 k0_hw2 => k0_hw2.2.2.2.2.2.2.2.2.2.2.2.2.2.2.2.2.2.2.2.2.2.2.2.2.1
theorem k0_dev52_lt : ∀ (v4 : BitVec 32) (k0_hw2 : k0_chk2 v4), (k0_dev52 v4) < nD := fun v4 k0_hw2 => k0_hw2.2.2.2.2.2.2.2.2.2.2.2.2.2.2.2.2.2.2.2.2.2.2.2.2.2.1
theorem k0_dev53_lt : ∀ (v4 : BitVec 32) (k0_hw2 : k0_chk2 v4), (k0_dev53 v4) < nD := fun v4 k0_hw2 => k0_hw2.2.2.2.2.2.2.2.2.2.2.2.2.2.2.2.2.2.2.2.2.2.2.2.2.2.2.1
theorem k0_dev56_lt : ∀ (v4 : BitVec 32) (k0_hw2 : k0_chk2 v4), (k0_dev56 v4) < nD := fun v4 k0_hw2 => k0_hw2.2.2.2.2.2.2.2.2.2.2.2.2.2.2.2.2.2.2.2.2.2.2.2.2.2.2.2.1
theorem k0_dev57_lt : ∀ (v4 : BitVec 32) (k0_hw2 : k0_chk2 v4), (k0_dev57 v4) < nD := fun v4 k0_hw2 => k0_hw2.2.2.2.2.2.2.2.2.2.2.2.2.2.2.2.2.2.2.2.2.2.2.2.2.2.2.2.2

def k0_dev58 (v6 : BitVec 32) : Nat :=
  let c0_i32_1466 : BitVec 32 := 0#32
  let c1_i32_1465 : BitVec 32 := 1#32
  let v1152 : BitVec 32 := Scalar.muli v6 c1_i32_1465
  let v1153 : BitVec 32 := Scalar.addi c0_i32_1466 v1152
  v1153.toNat

def k0_chk1 (v6 : BitVec 32) : Prop :=
  ((k0_dev1 v6) < nD) ∧
  ((k0_dev4 v6) < nD) ∧
  ((k0_dev6 v6) < nD) ∧
  ((k0_dev7 v6) < nD) ∧
  ((k0_dev10 v6) < nD) ∧
  ((k0_dev11 v6) < nD) ∧
  ((k0_dev14 v6) < nD) ∧
  ((k0_dev15 v6) < nD) ∧
  ((k0_dev18 v6) < nD) ∧
  ((k0_dev19 v6) < nD) ∧
  ((k0_dev22 v6) < nD) ∧
  ((k0_dev23 v6) < nD) ∧
  ((k0_dev26 v6) < nD) ∧
  ((k0_dev27 v6) < nD) ∧
  ((k0_dev30 v6) < nD) ∧
  ((k0_dev31 v6) < nD) ∧
  ((k0_dev34 v6) < nD) ∧
  ((k0_dev35 v6) < nD) ∧
  ((k0_dev38 v6) < nD) ∧
  ((k0_dev39 v6) < nD) ∧
  ((k0_dev42 v6) < nD) ∧
  ((k0_dev43 v6) < nD) ∧
  ((k0_dev46 v6) < nD) ∧
  ((k0_dev47 v6) < nD) ∧
  ((k0_dev50 v6) < nD) ∧
  ((k0_dev51 v6) < nD) ∧
  ((k0_dev54 v6) < nD) ∧
  ((k0_dev55 v6) < nD) ∧
  ((k0_dev58 v6) < nD)
theorem k0_dev1_lt : ∀ (v6 : BitVec 32) (k0_hw1 : k0_chk1 v6), (k0_dev1 v6) < nD := fun v6 k0_hw1 => k0_hw1.1
theorem k0_dev4_lt : ∀ (v6 : BitVec 32) (k0_hw1 : k0_chk1 v6), (k0_dev4 v6) < nD := fun v6 k0_hw1 => k0_hw1.2.1
theorem k0_dev6_lt : ∀ (v6 : BitVec 32) (k0_hw1 : k0_chk1 v6), (k0_dev6 v6) < nD := fun v6 k0_hw1 => k0_hw1.2.2.1
theorem k0_dev7_lt : ∀ (v6 : BitVec 32) (k0_hw1 : k0_chk1 v6), (k0_dev7 v6) < nD := fun v6 k0_hw1 => k0_hw1.2.2.2.1
theorem k0_dev10_lt : ∀ (v6 : BitVec 32) (k0_hw1 : k0_chk1 v6), (k0_dev10 v6) < nD := fun v6 k0_hw1 => k0_hw1.2.2.2.2.1
theorem k0_dev11_lt : ∀ (v6 : BitVec 32) (k0_hw1 : k0_chk1 v6), (k0_dev11 v6) < nD := fun v6 k0_hw1 => k0_hw1.2.2.2.2.2.1
theorem k0_dev14_lt : ∀ (v6 : BitVec 32) (k0_hw1 : k0_chk1 v6), (k0_dev14 v6) < nD := fun v6 k0_hw1 => k0_hw1.2.2.2.2.2.2.1
theorem k0_dev15_lt : ∀ (v6 : BitVec 32) (k0_hw1 : k0_chk1 v6), (k0_dev15 v6) < nD := fun v6 k0_hw1 => k0_hw1.2.2.2.2.2.2.2.1
theorem k0_dev18_lt : ∀ (v6 : BitVec 32) (k0_hw1 : k0_chk1 v6), (k0_dev18 v6) < nD := fun v6 k0_hw1 => k0_hw1.2.2.2.2.2.2.2.2.1
theorem k0_dev19_lt : ∀ (v6 : BitVec 32) (k0_hw1 : k0_chk1 v6), (k0_dev19 v6) < nD := fun v6 k0_hw1 => k0_hw1.2.2.2.2.2.2.2.2.2.1
theorem k0_dev22_lt : ∀ (v6 : BitVec 32) (k0_hw1 : k0_chk1 v6), (k0_dev22 v6) < nD := fun v6 k0_hw1 => k0_hw1.2.2.2.2.2.2.2.2.2.2.1
theorem k0_dev23_lt : ∀ (v6 : BitVec 32) (k0_hw1 : k0_chk1 v6), (k0_dev23 v6) < nD := fun v6 k0_hw1 => k0_hw1.2.2.2.2.2.2.2.2.2.2.2.1
theorem k0_dev26_lt : ∀ (v6 : BitVec 32) (k0_hw1 : k0_chk1 v6), (k0_dev26 v6) < nD := fun v6 k0_hw1 => k0_hw1.2.2.2.2.2.2.2.2.2.2.2.2.1
theorem k0_dev27_lt : ∀ (v6 : BitVec 32) (k0_hw1 : k0_chk1 v6), (k0_dev27 v6) < nD := fun v6 k0_hw1 => k0_hw1.2.2.2.2.2.2.2.2.2.2.2.2.2.1
theorem k0_dev30_lt : ∀ (v6 : BitVec 32) (k0_hw1 : k0_chk1 v6), (k0_dev30 v6) < nD := fun v6 k0_hw1 => k0_hw1.2.2.2.2.2.2.2.2.2.2.2.2.2.2.1
theorem k0_dev31_lt : ∀ (v6 : BitVec 32) (k0_hw1 : k0_chk1 v6), (k0_dev31 v6) < nD := fun v6 k0_hw1 => k0_hw1.2.2.2.2.2.2.2.2.2.2.2.2.2.2.2.1
theorem k0_dev34_lt : ∀ (v6 : BitVec 32) (k0_hw1 : k0_chk1 v6), (k0_dev34 v6) < nD := fun v6 k0_hw1 => k0_hw1.2.2.2.2.2.2.2.2.2.2.2.2.2.2.2.2.1
theorem k0_dev35_lt : ∀ (v6 : BitVec 32) (k0_hw1 : k0_chk1 v6), (k0_dev35 v6) < nD := fun v6 k0_hw1 => k0_hw1.2.2.2.2.2.2.2.2.2.2.2.2.2.2.2.2.2.1
theorem k0_dev38_lt : ∀ (v6 : BitVec 32) (k0_hw1 : k0_chk1 v6), (k0_dev38 v6) < nD := fun v6 k0_hw1 => k0_hw1.2.2.2.2.2.2.2.2.2.2.2.2.2.2.2.2.2.2.1
theorem k0_dev39_lt : ∀ (v6 : BitVec 32) (k0_hw1 : k0_chk1 v6), (k0_dev39 v6) < nD := fun v6 k0_hw1 => k0_hw1.2.2.2.2.2.2.2.2.2.2.2.2.2.2.2.2.2.2.2.1
theorem k0_dev42_lt : ∀ (v6 : BitVec 32) (k0_hw1 : k0_chk1 v6), (k0_dev42 v6) < nD := fun v6 k0_hw1 => k0_hw1.2.2.2.2.2.2.2.2.2.2.2.2.2.2.2.2.2.2.2.2.1
theorem k0_dev43_lt : ∀ (v6 : BitVec 32) (k0_hw1 : k0_chk1 v6), (k0_dev43 v6) < nD := fun v6 k0_hw1 => k0_hw1.2.2.2.2.2.2.2.2.2.2.2.2.2.2.2.2.2.2.2.2.2.1
theorem k0_dev46_lt : ∀ (v6 : BitVec 32) (k0_hw1 : k0_chk1 v6), (k0_dev46 v6) < nD := fun v6 k0_hw1 => k0_hw1.2.2.2.2.2.2.2.2.2.2.2.2.2.2.2.2.2.2.2.2.2.2.1
theorem k0_dev47_lt : ∀ (v6 : BitVec 32) (k0_hw1 : k0_chk1 v6), (k0_dev47 v6) < nD := fun v6 k0_hw1 => k0_hw1.2.2.2.2.2.2.2.2.2.2.2.2.2.2.2.2.2.2.2.2.2.2.2.1
theorem k0_dev50_lt : ∀ (v6 : BitVec 32) (k0_hw1 : k0_chk1 v6), (k0_dev50 v6) < nD := fun v6 k0_hw1 => k0_hw1.2.2.2.2.2.2.2.2.2.2.2.2.2.2.2.2.2.2.2.2.2.2.2.2.1
theorem k0_dev51_lt : ∀ (v6 : BitVec 32) (k0_hw1 : k0_chk1 v6), (k0_dev51 v6) < nD := fun v6 k0_hw1 => k0_hw1.2.2.2.2.2.2.2.2.2.2.2.2.2.2.2.2.2.2.2.2.2.2.2.2.2.1
theorem k0_dev54_lt : ∀ (v6 : BitVec 32) (k0_hw1 : k0_chk1 v6), (k0_dev54 v6) < nD := fun v6 k0_hw1 => k0_hw1.2.2.2.2.2.2.2.2.2.2.2.2.2.2.2.2.2.2.2.2.2.2.2.2.2.2.1
theorem k0_dev55_lt : ∀ (v6 : BitVec 32) (k0_hw1 : k0_chk1 v6), (k0_dev55 v6) < nD := fun v6 k0_hw1 => k0_hw1.2.2.2.2.2.2.2.2.2.2.2.2.2.2.2.2.2.2.2.2.2.2.2.2.2.2.2.1
theorem k0_dev58_lt : ∀ (v6 : BitVec 32) (k0_hw1 : k0_chk1 v6), (k0_dev58 v6) < nD := fun v6 k0_hw1 => k0_hw1.2.2.2.2.2.2.2.2.2.2.2.2.2.2.2.2.2.2.2.2.2.2.2.2.2.2.2.2

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1172 : Index := Scalar.indexCast v2
  let c9 : Index := 9#32
  ![v1172.toNat, 9]
def k0_off61 (v1173 : BitVec 32) : Fin 2 → Nat :=
  let c512_i32_1490 : BitVec 32 := 512#32
  let v1179 : BitVec 32 := Scalar.muli v1173 c512_i32_1490
  let c0_i32_1491 : BitVec 32 := 0#32
  let v1180 : BitVec 32 := Scalar.addi v1179 c0_i32_1491
  let v1181 : Index := Scalar.indexCast v1180
  let c0_1492 : Index := 0#32
  ![v1181.toNat, 0]

def k0_chk31 (v1173 : BitVec 32) : Prop :=
  (∀ a, (k0_off61 v1173) a + S256x256.size a ≤ S8192x256.size a) ∧
  (∀ (hinb : ∀ a, (k0_off61 v1173) a + S256x256.size a ≤ S8192x256.size a), (Rect.unit (s := S8192x256) (k0_off61 v1173) S256x256.size hinb).PackedRows (EltTy.packing .bf16))
theorem k0_off61_inb : ∀ (v1173 : BitVec 32) (k0_hw31 : k0_chk31 v1173), ∀ a, (k0_off61 v1173) a + S256x256.size a ≤ S8192x256.size a := fun v1173 k0_hw31 => k0_hw31.1
theorem k0_off61_packedbf16 : ∀ (v1173 : BitVec 32) (k0_hw31 : k0_chk31 v1173), (Rect.unit (s := S8192x256) (k0_off61 v1173) S256x256.size (k0_off61_inb v1173 k0_hw31)).PackedRows (EltTy.packing .bf16) := fun v1173 k0_hw31 => k0_hw31.2 (k0_off61_inb v1173 k0_hw31)

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1193 : Index := Scalar.indexCast v2
  let c17 : Index := 17#32
  ![v1193.toNat, 17]
def k0_off63 (v1194 : BitVec 32) : Fin 2 → Nat :=
  let c512_i32_1512 : BitVec 32 := 512#32
  let v1200 : BitVec 32 := Scalar.muli v1194 c512_i32_1512
  let c256_i32_1513 : BitVec 32 := 256#32
  let v1201 : BitVec 32 := Scalar.addi v1200 c256_i32_1513
  let v1202 : Index := Scalar.indexCast v1201
  let c0_1514 : Index := 0#32
  ![v1202.toNat, 0]

def k0_chk32 (v1194 : BitVec 32) : Prop :=
  (∀ a, (k0_off63 v1194) a + S256x256.size a ≤ S8192x256.size a) ∧
  (∀ (hinb : ∀ a, (k0_off63 v1194) a + S256x256.size a ≤ S8192x256.size a), (Rect.unit (s := S8192x256) (k0_off63 v1194) S256x256.size hinb).PackedRows (EltTy.packing .bf16))
theorem k0_off63_inb : ∀ (v1194 : BitVec 32) (k0_hw32 : k0_chk32 v1194), ∀ a, (k0_off63 v1194) a + S256x256.size a ≤ S8192x256.size a := fun v1194 k0_hw32 => k0_hw32.1
theorem k0_off63_packedbf16 : ∀ (v1194 : BitVec 32) (k0_hw32 : k0_chk32 v1194), (Rect.unit (s := S8192x256) (k0_off63 v1194) S256x256.size (k0_off63_inb v1194 k0_hw32)).PackedRows (EltTy.packing .bf16) := fun v1194 k0_hw32 => k0_hw32.2 (k0_off63_inb v1194 k0_hw32)

abbrev stage0_0 : Fin 1 → Memref sig .tc .smem S16x18 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x8192, .bf16⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Plan.lean ====
/-
The ring the kernel's transfers run on, its semaphores, the order in which a device pays and waits, and the
contents its buffers hold.

Sixteen devices stand on a ring. Four CHAINS of transfers run on it: `0` and `1` to the right, `2` and `3` to the
left; `0` and `2` carry the first halves of the devices' blocks of `x`, `1` and `3` the second halves. Hop `q` of a
chain moves what hop `q - 1` landed from one of the chain's two slots to the other slot of the next device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.Tactic

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's ghost state: rounds with duties named by `Bool`. -/
abbrev UB : Type := URounds (GSem nD τ sig) Bool
/-- The pipeline library's ghost state beside the ring's. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The ring -/

/-- The device to the right of `c`. -/
def rt (c : Dev nD) : Dev nD := (![1, 5, 3, 7, 0, 9, 2, 11, 4, 13, 6, 15, 8, 14, 10, 12] : Fin 16 → Fin 16) c
/-- The device to the left of `c`. -/
def lf (c : Dev nD) : Dev nD := (![4, 0, 6, 2, 8, 1, 10, 3, 12, 5, 14, 7, 15, 9, 13, 11] : Fin 16 → Fin 16) c

theorem lf_rt (c : Dev nD) : lf (rt c) = c := by revert c; decide
theorem rt_lf (c : Dev nD) : rt (lf c) = c := by revert c; decide

/-- Where chain `X` sends: to the right for `0` and `1`, to the left for `2` and `3`. -/
def tg (X : Fin 4) (c : Dev nD) : Dev nD := if X.val < 2 then rt c else lf c
/-- Where chain `X` comes from. -/
def fr (X : Fin 4) (c : Dev nD) : Dev nD := if X.val < 2 then lf c else rt c

theorem fr_tg (X : Fin 4) (c : Dev nD) : fr X (tg X c) = c := by revert X c; decide
theorem tg_fr (X : Fin 4) (c : Dev nD) : tg X (fr X c) = c := by revert X c; decide

/-- The device whose block hop `q` of chain `X` lands on device `c`. -/
def org (c : Dev nD) (X : Fin 4) (q : ℕ) : Dev nD := (fr X)^[q + 1] c

theorem org_tg_zero (c : Dev nD) (X : Fin 4) : org (tg X c) X 0 = c := fr_tg X c
theorem org_tg_succ (c : Dev nD) (X : Fin 4) (q : ℕ) : org (tg X c) X (q + 1) = org c X q := by
  unfold org
  rw [Function.iterate_succ_apply, fr_tg]

/-- Which half of the block chain `X` carries. -/
def hf (X : Fin 4) : Fin 2 := ⟨X.val % 2, Nat.mod_lt _ (by decide)⟩

/-- The last hop of each chain. -/
def lastq (X : Fin 4) : ℕ := (![7, 6, 6, 7] : Fin 4 → ℕ) X

/-- The slot hop `q` lands in. -/
def dsl (q : ℕ) : Fin 2 := ⟨(q + 1) % 2, Nat.mod_lt _ (by decide)⟩

/-! ## The semaphores -/

/-- The kernel's own semaphores: a credit per chain, a send and a receive semaphore per chain and slot, and the
    one of the copies into the staging buffer. -/
inductive Kn where
  | cr (X : Fin 4)
  | sd (X : Fin 4) (s : Fin 2)
  | rc (X : Fin 4) (s : Fin 2)
  | stg
deriving DecidableEq

/-- All of them, listed. -/
def knL : List Kn := [.cr 0, .cr 1, .cr 2, .cr 3, .sd 0 0, .sd 0 1, .sd 1 0, .sd 1 1, .sd 2 0, .sd 2 1, .sd 3 0, .sd 3 1,
  .rc 0 0, .rc 0 1, .rc 1 0, .rc 1 1, .rc 2 0, .rc 2 1, .rc 3 0, .rc 3 1, .stg]

instance : Fintype Kn where
  elems := ⟨knL, by decide⟩
  complete k := by
    have h : (∀ X, Kn.cr X ∈ knL) ∧ (∀ X s, Kn.sd X s ∈ knL) ∧ (∀ X s, Kn.rc X s ∈ knL) := by decide
    show k ∈ knL
    match k with
    | .cr X => exact h.1 X
    | .sd X s => exact h.2.1 X s
    | .rc X s => exact h.2.2 X s
    | .stg => decide

/-- Their places in the signature. -/
def crS (X : Fin 4) : Sem sig := ⟨X.val, by have := X.isLt; show X.val < 5; omega⟩
def sdS (X : Fin 4) (s : Fin 2) : DmaSem sig :=
  ⟨3 + 2 * X.val + s.val, by have := X.isLt; have := s.isLt; show 3 + 2 * X.val + s.val < 20; omega⟩
def rcS (X : Fin 4) (s : Fin 2) : DmaSem sig :=
  ⟨11 + 2 * X.val + s.val, by have := X.isLt; have := s.isLt; show 11 + 2 * X.val + s.val < 20; omega⟩
def stS : DmaSem sig := ⟨19, by show 19 < 20; omega⟩
def csem : Kn → SemLoc sig
  | .cr X => .reg (crS X)
  | .sd X s => .dma (sdS X s)
  | .rc X s => .dma (rcS X s)
  | .stg => .dma stS

/-- Which of them a place in the signature is. -/
def kd (s : SemLoc sig) : Option Kn := knL.find? fun k => csem k = s

theorem kd_csem (k : Kn) : kd (csem k) = some k := by revert k; decide
theorem csem_injective : Function.Injective csem := fun a b h => by
  have := congrArg kd h; rw [kd_csem, kd_csem] at this; exact Option.some.inj this

/-- The runtime's barrier semaphore of the kernel's collective. -/
abbrev barS : Sem sig := (SemArray.scalar (sig.barrier 0 rfl) : Sems sig S_).sem
theorem csem_ne_bar (k : Kn) : csem k ≠ .reg barS := by revert k; decide
theorem kd_bar : kd (.reg barS) = none := by decide

abbrev barCell (c : Dev nD) : GSem nD τ sig := ((c : Thread nD τ), .reg barS)
abbrev cell (c : Dev nD) (k : Kn) : GSem nD τ sig := ((c : Thread nD τ), csem k)

/-! ## The order of payments and of waits -/

/-- A payment: a signal to a barrier (of the left neighbour, of the right one), credit `m` of a chain, hop `q` of a chain. -/
inductive PE where
  | bar (d : Bool)
  | cr (X : Fin 4) (m : ℕ)
  | is (X : Fin 4) (q : ℕ)
deriving DecidableEq

/-- A wait, the barrier's apart: a copy into the staging buffer, a hop received, a hop sent, a credit. -/
inductive WE where
  | stg (r : ℕ)
  | rc (X : Fin 4) (q : ℕ)
  | sd (X : Fin 4) (q : ℕ)
  | cr (X : Fin 4) (m : ℕ)
deriving DecidableEq

/-- A block of the result: one of a device's own halves, or the half a hop landed. -/
inductive BE where
  | own (h : Fin 2)
  | hop (X : Fin 4) (q : ℕ)
deriving DecidableEq

/-- What every device pays, in program order. -/
def payL : List PE :=
 [.bar false, .bar true, .is 0 0, .is 2 0, .is 1 0, .is 3 0, .cr 0 0, .cr 2 0, .is 0 1, .is 2 1, .cr 1 0, .cr 3 0,
  .is 1 1, .is 3 1, .cr 0 1, .cr 2 1, .is 0 2, .is 2 2, .cr 1 1, .cr 3 1, .is 1 2, .is 3 2, .cr 0 2, .cr 2 2,
  .is 0 3, .is 2 3, .cr 1 2, .cr 3 2, .is 1 3, .is 3 3, .cr 0 3, .cr 2 3, .is 0 4, .is 2 4, .cr 1 3, .cr 3 3,
  .is 1 4, .is 3 4, .cr 0 4, .cr 2 4, .is 0 5, .is 2 5, .cr 1 4, .cr 3 4, .is 1 5, .is 3 5, .cr 0 5, .cr 2 5,
  .is 0 6, .is 2 6, .cr 1 5, .cr 3 5, .is 1 6, .is 3 6, .cr 0 6, .is 0 7, .cr 3 6, .is 3 7]

/-- What every device waits for after its barrier, in program order. -/
def wl : List WE :=
 [.stg 0, .stg 1, .rc 0 0, .rc 2 0, .sd 0 0, .sd 2 0, .cr 0 0, .cr 2 0, .rc 1 0, .rc 3 0, .sd 1 0, .sd 3 0,
  .cr 1 0, .cr 3 0, .rc 0 1, .rc 2 1, .sd 0 1, .sd 2 1, .cr 0 1, .cr 2 1, .rc 1 1, .rc 3 1, .sd 1 1, .sd 3 1,
  .cr 1 1, .cr 3 1, .rc 0 2, .rc 2 2, .sd 0 2, .sd 2 2, .cr 0 2, .cr 2 2, .rc 1 2, .rc 3 2, .sd 1 2, .sd 3 2,
  .cr 1 2, .cr 3 2, .rc 0 3, .rc 2 3, .sd 0 3, .sd 2 3, .cr 0 3, .cr 2 3, .rc 1 3, .rc 3 3, .sd 1 3, .sd 3 3,
  .cr 1 3, .cr 3 3, .rc 0 4, .rc 2 4, .sd 0 4, .sd 2 4, .cr 0 4, .cr 2 4, .rc 1 4, .rc 3 4, .sd 1 4, .sd 3 4,
  .cr 1 4, .cr 3 4, .rc 0 5, .rc 2 5, .sd 0 5, .sd 2 5, .cr 0 5, .cr 2 5, .rc 1 5, .rc 3 5, .sd 1 5, .sd 3 5,
  .cr 1 5, .cr 3 5, .rc 0 6, .rc 2 6, .sd 0 6, .sd 2 6, .cr 0 6, .rc 1 6, .rc 3 6, .sd 1 6, .sd 3 6, .cr 3 6,
  .rc 0 7, .rc 3 7, .sd 0 7, .sd 3 7]

/-- The blocks of the result, in the order in which every device stores them. -/
def bl : List BE :=
 [.own 0, .own 1, .hop 0 0, .hop 2 0, .hop 1 0, .hop 3 0, .hop 0 1, .hop 2 1, .hop 1 1, .hop 3 1, .hop 0 2,
  .hop 2 2, .hop 1 2, .hop 3 2, .hop 0 3, .hop 2 3, .hop 1 3, .hop 3 3, .hop 0 4, .hop 2 4, .hop 1 4, .hop 3 4,
  .hop 0 5, .hop 2 5, .hop 1 5, .hop 3 5, .hop 0 6, .hop 2 6, .hop 1 6, .hop 3 6, .hop 0 7, .hop 3 7]

/-- The semaphore a wait is on. -/
def WE.kn : WE → Kn
  | .stg _ => .stg
  | .rc X q => .rc X (dsl q)
  | .sd X q => .sd X (dsl q)
  | .cr X _ => .cr X
/-- The round of its semaphore a wait is for. -/
def WE.rd : WE → ℕ
  | .stg r => r
  | .rc _ q => q / 2
  | .sd _ q => q / 2
  | .cr _ m => m

/-- How many of the first `n` waits are on the semaphore `k`: the round a device is at on it. -/
def cnt (n : ℕ) (k : Kn) : ℕ := (wl.take n).countP fun w => w.kn = k

theorem wl_get {n : ℕ} {w : WE} (h : wl[n]? = some w) : wl.drop n = w :: wl.drop (n + 1) := by
  obtain ⟨hn, rfl⟩ := List.getElem?_eq_some_iff.mp h
  exact List.drop_eq_getElem_cons hn
theorem payL_get {n : ℕ} {p : PE} (h : payL[n]? = some p) : payL.drop n = p :: payL.drop (n + 1) := by
  obtain ⟨hn, rfl⟩ := List.getElem?_eq_some_iff.mp h
  exact List.drop_eq_getElem_cons hn
theorem cnt_succ {n : ℕ} {w : WE} (h : wl[n]? = some w) (k : Kn) : cnt (n + 1) k = cnt n k + (if w.kn = k then 1 else 0) := by
  unfold cnt
  rw [List.take_add_one, h, List.countP_append]
  congr 1
  simp [List.countP_cons]

theorem cnt_all : ∀ n < 88, ∀ w ∈ wl[n]?, cnt n w.kn = w.rd := by decide +kernel
theorem cnt_get {n : ℕ} {w : WE} (h : wl[n]? = some w) : cnt n w.kn = w.rd := by
  have hn : n < 88 := (List.getElem?_eq_some_iff.mp h).1
  exact cnt_all n hn w h

/-- The rank of a payment: the barrier's two lowest, the others by their place. -/
def rk : PE → ℕ
  | .bar _ => 2
  | p => payL.idxOf p + 1

theorem rk_all : ∀ k < 58, ∀ p ∈ payL.drop k, k < rk p := by decide +kernel
theorem rk_lt {k : ℕ} {p : PE} (h : p ∈ payL.drop k) : k < rk p := by
  by_cases hk : k < 58
  · exact rk_all k hk p h
  · rw [List.drop_eq_nil_of_le (by show 58 ≤ k; omega)] at h; exact absurd h (List.not_mem_nil)

/-- How many rounds each semaphore has. -/
def nr : Kn → ℕ
  | .cr X => lastq X
  | .sd X s => (lastq X + 1 + s.val) / 2
  | .rc X s => (lastq X + 1 + s.val) / 2
  | .stg => 2

theorem cnt_end (k : Kn) : cnt 88 k = nr k := by revert k; decide +kernel

/-- The hop that lands in slot `s` in round `r`. -/
def hop (s : Fin 2) (r : ℕ) : ℕ := 2 * r + 1 - s.val
theorem hop_dsl (q : ℕ) : hop (dsl q) (q / 2) = q := by
  unfold hop dsl; show 2 * (q / 2) + 1 - (q + 1) % 2 = q; omega

end Cert.Ring
end
-- ==== Proof.Sched.lean ====
/-
What the kernel's buffers hold while it runs, and the schedule of its semaphores: which payments complete which
round, and what each payment hands to the device that waits.
-/
module

public import proofs.«01_k».proof.Proof.Plan
public import Idealize.ShloMosaic.Lib.Pipeline.TalkSites
public import Idealize.ShloMosaic.Lib.Pipeline.TalkSched

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The memrefs -/

/-- The buffer of chain `X`. -/
def bufM (X : Fin 4) : Memref sig .tc .vmem S2x256x8192 .bf16 := match X with
  | ⟨0, _⟩ => Memref.whole cc0_scratch0
  | ⟨1, _⟩ => Memref.whole cc0_scratch1
  | ⟨2, _⟩ => Memref.whole cc0_scratch2
  | ⟨_ + 3, _⟩ => Memref.whole cc0_scratch3

theorem inbS (s : Fin 2) : ∀ a, (![s.val, 0, 0] : Fin 3 → Nat) a + S1x256x8192.size a ≤ S2x256x8192.size a := by
  revert s; decide
/-- Slot `s` of a buffer, as a rectangle. -/
abbrev rS (s : Fin 2) : Rect S2x256x8192 := Rect.unit (s := S2x256x8192) ![s.val, 0, 0] S1x256x8192.size (inbS s)
/-- Slot `s` of the buffer of chain `X`. -/
abbrev slotM (X : Fin 4) (s : Fin 2) : Memref sig .tc .vmem S256x8192 .bf16 :=
  ((bufM X).slice (rS s) (fun _ => rfl)).squeeze S256x8192 squeezes_S1x256x8192_S256x8192

/-- The device's block of `x`, and its halves. -/
abbrev xM : Memref sig .tc .hbm S512x8192 .f32 := Memref.whole main_arg0
theorem inbX (h : Fin 2) : ∀ a, (![h.val * 256, 0] : Fin 2 → Nat) a + S256x8192.size a ≤ S512x8192.size a := by
  revert h; decide
abbrev xhM (h : Fin 2) : Memref sig .tc .hbm S256x8192 .f32 :=
  xM.slice (Rect.unit (s := S512x8192) ![h.val * 256, 0] S256x8192.size (inbX h)) (fun _ => rfl)
/-- The staging buffer, the buffer of the rounded weights, the buffer of the result. -/
abbrev stM : Memref sig .tc .vmem S256x8192 .f32 := Memref.whole cc0_scratch4
abbrev wbM : Memref sig .tc .vmem S8192x256 .bf16 := Memref.whole cc0_scratch5
abbrev tbM : Memref sig .tc .smem S16x18 .i32 := Memref.whole cc0_stg0_0
abbrev wM : Memref sig .tc .vmem S8192x256 .f32 := Memref.whole cc0_stg1_0
abbrev oM : Memref sig .tc .vmem S8192x256 .bf16 := Memref.whole cc0_stg2_0

/-- The credit of one hop, and of one copy into the staging buffer. -/
def NH : ℕ := (slotM 0 0).view.dmaCredit
def NT : ℕ := (stM : Memref sig .tc .vmem S256x8192 .f32).view.dmaCredit
theorem NH_pos : 0 < NH := View.dmaCredit_pos _ (by decide)
theorem NT_pos : 0 < NT := View.dmaCredit_pos _ (by decide)
theorem slot_credit (X : Fin 4) (s : Fin 2) : (slotM X s).view.dmaCredit = NH := by
  match X with
  | ⟨0, _⟩ => rfl
  | ⟨1, _⟩ => rfl
  | ⟨2, _⟩ => rfl
  | ⟨3, _⟩ => rfl

/-! ## Contents -/

/-- Half `h` of device `c`'s block of `x`. -/
def xh (c : Dev nD) (h : Fin 2) : Vec F S256x8192 .f32 := (xhM h).view.read (Elt F) (m ((c : Thread nD τ).loc main_arg0))
/-- The same rounded, as a slot holds it. -/
def chk (c : Dev nD) (h : Fin 2) : FVec F S1x256x8192 .bf16 := k0_pay2 (xh m c h)
/-- Device `c`'s block of the weights. -/
def wv (c : Dev nD) : Vec F S8192x256 .f32 := (win0_1.blk (0 : Fin 1)).view.read (Elt F) (m ((c : Thread nD τ).loc main_arg1))
/-- The same rounded. -/
def wbf (c : Dev nD) : FVec F S8192x256 .bf16 := k0_pay3 (wv m c)

/-- Slot `s` of the buffer of chain `X` on device `c` holds `v`. -/
def Slot (c : Dev nD) (X : Fin 4) (s : Fin 2) (q : PosShare TreeShare) (v : Vec F S1x256x8192 .bf16) : sProp 𝕄 :=
  iprop(∃ f : Buf (Elt F) ((slotM X s).view.loc (c : Thread nD τ)), ⌜((bufM X).access (rS s)).read (Elt F) f = v⌝
    ∗ ((slotM X s).view.loc (c : Thread nD τ) ↦[(slotM X s).view.set]{q} f))
/-- Slot `s` of the buffer of chain `X` on device `c` holds anything. -/
def FrS (c : Dev nD) (X : Fin 4) (s : Fin 2) : sProp 𝕄 :=
  iprop(∃ f : Buf (Elt F) ((slotM X s).view.loc (c : Thread nD τ)), ((slotM X s).view.loc (c : Thread nD τ) ↦[(slotM X s).view.set]{fullShare} f))

/-- What a device sending hop `q` of chain `X` needs of the next device: the slot, and that its round is open. -/
def FrT (c : Dev nD) (X : Fin 4) (q : ℕ) : sProp 𝕄 :=
  iprop(FrS (tg X c) X (dsl q) ∗ reached ER (cell (tg X c) (.rc X (dsl q))) (q / 2))
/-- What hop `q` of chain `X` landed on device `c`, without the sender's word that it has had `q` credits. -/
def LdP (c : Dev nD) (X : Fin 4) (q : ℕ) : sProp 𝕄 := Slot c X (dsl q) fullShare (chk m (org c X q) (hf X))
/-- What hop `q` of chain `X` landed on device `c`. -/
def Ld (c : Dev nD) (X : Fin 4) (q : ℕ) : sProp 𝕄 := iprop(LdP m c X q ∗ reached ER (cell (fr X c) (.cr X)) q)
/-- The chain in whose buffer chain `X`'s first hop starts, and the share of it the hop takes. -/
def ow (X : Fin 4) : Fin 4 := ⟨X.val % 2, by omega⟩
def shr (X : Fin 4) : PosShare TreeShare := if X.val < 2 then fullShare.left else fullShare.right.left
/-- The share of its own slots a device keeps to read them by. -/
def shk : PosShare TreeShare := fullShare.right.right
/-- What chain `X`'s first hop reads. -/
def OwnS (c : Dev nD) (X : Fin 4) : sProp 𝕄 := Slot c (ow X) 0 (shr X) (chk m c (hf X))
/-- What hop `q` of chain `X` gives back to its sender. -/
def Back (c : Dev nD) (X : Fin 4) (q : ℕ) : sProp 𝕄 := match q with
  | 0 => OwnS m c X
  | q + 1 => LdP m c X q
/-- What a copy into the staging buffer leaves. -/
def StP (c : Dev nD) (h : Fin 2) : sProp 𝕄 :=
  iprop(((stM : Memref sig .tc .vmem S256x8192 .f32).view.loc (c : Thread nD τ) ↦{fullShare} (xh m c h : Buf (Elt F) ((stM : Memref sig .tc .vmem S256x8192 .f32).view.loc (c : Thread nD τ))))
    ∗ ((c : Thread nD τ).loc main_arg0 ↦[(xhM h).view.set]{fullShare} m ((c : Thread nD τ).loc main_arg0)))

/-- What a neighbour's signal to a barrier hands over: the first slots of the two chains that go its way. -/
def barPay (c : Dev nD) (d : Bool) : sProp 𝕄 :=
  if d then iprop(FrT c 2 0 ∗ FrT c 3 0) else iprop(FrT c 0 0 ∗ FrT c 1 0)
/-- What the payment of round `r` of a semaphore hands over. -/
def kPay (c : Dev nD) (k : Kn) (r : ℕ) : sProp 𝕄 := match k with
  | .cr X => FrT c X (r + 1)
  | .sd X s => Back m c X (hop s r)
  | .rc X s => Ld m c X (hop s r)
  | .stg => StP m c ⟨r % 2, Nat.mod_lt _ (by decide)⟩

/-- A payment's amount. -/
def kamt : Kn → ℕ
  | .cr _ => 1
  | .sd _ _ => NH
  | .rc _ _ => NH
  | .stg => NT

section Storable
omit [FloatOps F]
instance FrS_storable (c : Dev nD) (X : Fin 4) (s : Fin 2) : BI.Storable (upEmb : UEmb _ 𝕄) (FrS (F := F) c X s) := by unfold FrS; infer_instance
instance FrT_storable (c : Dev nD) (X : Fin 4) (q : ℕ) : BI.Storable (upEmb : UEmb _ 𝕄) (FrT (F := F) c X q) := by unfold FrT; infer_instance
instance Slot_storable (c : Dev nD) (X : Fin 4) (s : Fin 2) (q) (v : Vec F S1x256x8192 .bf16) : BI.Storable (upEmb : UEmb _ 𝕄) (Slot (F := F) c X s q v) := by
  unfold Slot; infer_instance
instance barPay_storable (c : Dev nD) (d : Bool) : BI.Storable (upEmb : UEmb _ 𝕄) (barPay (F := F) c d) := by
  unfold barPay; split <;> infer_instance
end Storable
instance LdP_storable (c : Dev nD) (X : Fin 4) (q : ℕ) : BI.Storable (upEmb : UEmb _ 𝕄) (LdP m c X q) := by unfold LdP; infer_instance
instance Ld_storable (c : Dev nD) (X : Fin 4) (q : ℕ) : BI.Storable (upEmb : UEmb _ 𝕄) (Ld m c X q) := by unfold Ld; infer_instance
instance OwnS_storable (c : Dev nD) (X : Fin 4) : BI.Storable (upEmb : UEmb _ 𝕄) (OwnS m c X) := by unfold OwnS; infer_instance
instance Back_storable (c : Dev nD) (X : Fin 4) (q : ℕ) : BI.Storable (upEmb : UEmb _ 𝕄) (Back m c X q) := by
  unfold Back; split <;> infer_instance
instance StP_storable (c : Dev nD) (h : Fin 2) : BI.Storable (upEmb : UEmb _ 𝕄) (StP m c h) := by unfold StP; infer_instance
instance kPay_storable (c : Dev nD) (k : Kn) (r : ℕ) : BI.Storable (upEmb : UEmb _ 𝕄) (kPay m c k r) := by
  unfold kPay; split <;> infer_instance

/-! ## The result -/

/-- The device whose block of `x` a block of the result is made from, and which half of it. -/
def BE.dev (c : Dev nD) : BE → Dev nD
  | .own _ => c
  | .hop X q => org c X q
def BE.half : BE → Fin 2
  | .own h => h
  | .hop X _ => hf X
/-- The block of 256 rows of the result a block is. -/
def brow (c : Dev nD) (b : BE) : ℕ := 2 * (b.dev c).val + b.half.val
/-- A block of the result: half a block of `x` by the weights, the negative entries put to zero. -/
def oblk (c d : Dev nD) (h : Fin 2) : FVec F S256x256 .bf16 := k0_pay9 (chk m d h) (wbf m c)
/-- The result on device `c`. -/
def outAt (c : Dev nD) (y : S8192x256.Idx) : Elt F .bf16 :=
  oblk m c ⟨(y 0).val / 512 % 16, Nat.mod_lt _ (by decide)⟩ ⟨(y 0).val / 256 % 2, Nat.mod_lt _ (by decide)⟩
    (fun a => match a with
      | ⟨0, _⟩ => ⟨(y 0).val % 256, Nat.mod_lt _ (by decide)⟩
      | ⟨1, _⟩ => y 1
      | ⟨_ + 2, h⟩ => absurd h (by show ¬ _ + 2 < 2; omega))

/-! ## The schedule -/

/-- A barrier has one round, of one unit from either neighbour; each of the kernel's own semaphores one payment a round. -/
def Rd : Rounds.Schedule (GSem nD τ sig) Bool 𝕄 where
  duties g r := if g.1.2 = .tc then (match kd g.2 with
    | some k => if r < nr k then {false} else ∅
    | none => if g.2 = .reg barS ∧ r = 0 then Finset.univ else ∅) else ∅
  unitless _ := False
  amount g _ _ := match kd g.2 with
    | some k => kamt k
    | none => 1
  payload g r d := match kd g.2 with
    | some k => kPay m g.1.1 k r
    | none => if g.2 = .reg barS then barPay g.1.1 d else iprop(emp)
  amount_pos g _ _ _ := by
    show 0 < (match kd g.2 with
      | some k => kamt k
      | none => 1)
    split
    · rename_i k _
      cases k
      · exact Nat.one_pos
      · exact NH_pos
      · exact NH_pos
      · exact NT_pos
    · exact Nat.one_pos

instance Rd_payload_storable (g : GSem nD τ sig) (r : ℕ) (d : Bool) :
    BI.Storable (upEmb : UEmb _ 𝕄) ((Rd (F := F) m).payload g r d) := by
  show BI.Storable upEmb (match kd g.2 with
    | some k => kPay m g.1.1 k r
    | none => if g.2 = .reg barS then barPay g.1.1 d else iprop(emp))
  (repeat' split) <;> infer_instance

section Sched
variable (c : Dev nD) (k : Kn)

theorem duties_bar : (Rd (F := F) m).duties (barCell c) 0 = Finset.univ := by
  dsimp only [Rd]; rw [if_pos rfl, kd_bar]; exact if_pos ⟨rfl, rfl⟩
theorem duties_k {r : ℕ} (h : r < nr k) : (Rd (F := F) m).duties (cell c k) r = {false} := by
  dsimp only [Rd]; rw [if_pos rfl, kd_csem]; exact if_pos h
theorem duties_bar_later (r : ℕ) (h : 1 ≤ r) : (Rd (F := F) m).duties (barCell c) r = ∅ := by
  dsimp only [Rd]; rw [if_pos rfl, kd_bar]; exact if_neg (by omega)
theorem duties_k_later (r : ℕ) (h : nr k ≤ r) : (Rd (F := F) m).duties (cell c k) r = ∅ := by
  dsimp only [Rd]; rw [if_pos rfl, kd_csem]; exact if_neg (by omega)
theorem amount_bar (r : ℕ) (d : Bool) : (Rd (F := F) m).amount (barCell c) r d = 1 := by dsimp only [Rd]; rw [kd_bar]
theorem amount_k (r : ℕ) (d : Bool) : (Rd (F := F) m).amount (cell c k) r d = kamt k := by dsimp only [Rd]; rw [kd_csem]
theorem payload_bar (r : ℕ) (d : Bool) : (Rd (F := F) m).payload (barCell c) r d = barPay c d := by
  dsimp only [Rd]; rw [kd_bar]; exact if_pos rfl
theorem payload_k (r : ℕ) (d : Bool) : (Rd (F := F) m).payload (cell c k) r d = kPay m c k r := by dsimp only [Rd]; rw [kd_csem]

theorem expect_bar : (Rd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_k {r : ℕ} (h : r < nr k) : (Rd (F := F) m).expect (cell c k) r = kamt k := by
  unfold Schedule.expect Schedule.amountOf; rw [duties_k m c k h, Finset.sum_singleton, amount_k]

/-- The rest of a barrier's round, nothing taken: both neighbours' slots. -/
theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_k {r : ℕ} (h : r < nr k) : bigSep ((Rd (F := F) m).duties (cell c k) r \ ∅) (fun d => (Rd (F := F) m).payload (cell c k) r d)
    = kPay m c k r := by
  rw [Finset.sdiff_empty, duties_k m c k h, bigSep_singleton, payload_k]

end Sched

/-! ## What is owed, and the ranks -/

/-- The semaphore of the device a payment of device `c` goes to. -/
def pcell (c : Dev nD) : PE → GSem nD τ sig
  | .bar false => barCell (lf c)
  | .bar true => barCell (rt c)
  | .cr X _ => cell (fr X c) (.cr X)
  | .is X q => cell (tg X c) (.rc X (dsl q))
/-- Its amount. -/
def pamt : PE → ℕ
  | .bar _ => 1
  | .cr _ _ => 1
  | .is _ _ => NH
/-- The payment as an item of what is owed: owed at its rank. -/
def ppay (c : Dev nD) (p : PE) : Pay nD τ sig := (pcell c p, rk p, pamt p)
/-- What device `c` still owes before its payment `k`. -/
def OL (c : Dev nD) (k : ℕ) : CellTallies nD τ sig ℕ := tallyL ((payL.drop k).map (ppay c))

theorem OL_get {c : Dev nD} {k : ℕ} {p : PE} (h : payL[k]? = some p) :
    OL c k = OL c (k + 1) + tallyAt (pcell c p) (rk p) (pamt p) := by
  unfold OL; rw [payL_get h, List.map_cons]; exact add_comm _ _

/-- The ranks in use, on the TensorCores. -/
def L (g : GSem nD τ sig) : Finset ℕ := if g.1.2 = .tc then Finset.range 100 else ∅
/-- A unit's level is its rank. -/
def lv (_ : GSem nD τ sig) (u : ℕ) : ℕ := u

theorem L_of_ne (g : GSem nD τ sig) (h : g.1.2 ≠ .tc) : L g = ∅ := if_neg h
theorem L_tc (c : Dev nD) (sm : SemLoc sig) : L ((c : Thread nD τ), sm) = Finset.range 100 := if_pos rfl
theorem pcell_tc (c : Dev nD) (p : PE) : (pcell c p).1.2 = .tc := by
  match p with
  | .bar false => rfl
  | .bar true => rfl
  | .cr _ _ => rfl
  | .is _ _ => rfl
theorem rk_bound : ∀ p ∈ payL, rk p < 100 := by decide +kernel

omit [FloatOps F] in
/-- A wait on units of a rank up to `k` is below everything owed before payment `k`. -/
theorem mayWait (c : Dev nD) (sm : SemLoc sig) {u k : ℕ} (hu : u ≤ k) (hu' : u < 100) :
    (levAts L lv : sProp 𝕄) ⊢ MayWait (c : Thread nD τ) sm u (OL c k) := by
  have hD : ∀ (g : GSem nD τ sig) (i : ℕ), 0 < OL c k g i → i ∈ L g ∧ k < i := fun g i h => by
    obtain ⟨x, hx, rfl, rfl⟩ := TalkSites.tallyL_pos h
    obtain ⟨p, hp, rfl⟩ := List.mem_map.mp hx
    refine ⟨?_, rk_lt hp⟩
    show rk p ∈ L (pcell c p)
    unfold L
    rw [if_pos (pcell_tc c p)]
    exact Finset.mem_range.mpr (rk_bound p (List.mem_of_mem_drop hp))
  exact MayOwe.of_cut (L := L) (lev := lv) k
    (fun p hp => by rw [Finset.mem_singleton.mp hp, L_tc]; exact Finset.mem_range.mpr hu')
    (fun g i h => (hD g i h).1) (fun p hp => by rw [Finset.mem_singleton.mp hp]; exact hu) (fun g i h => (hD g i h).2)

/-! ## The state of a device between two steps -/

/-- All semaphores: of each device its barrier and the kernel's own. -/
def ocell (x : Dev nD × Option Kn) : GSem nD τ sig := match x.2 with
  | none => barCell x.1
  | some k => cell x.1 k

/-- What never changes: the semaphores' invariants, under the names `K`; that every barrier is open; the levels. -/
def Rec (K : Dev nD × Option Kn → ℕ) : sProp 𝕄 :=
  iprop(bigSep Finset.univ (fun x : Dev nD × Option Kn => cellInv ER (Rd m) (K x) (ocell x))
    ∗ bigSep Finset.univ (fun c : Dev nD => reached ER (barCell c) 0) ∗ levAts L lv)

instance Rec_persistent (K : Dev nD × Option Kn → ℕ) : BI.Persistent (Rec m K) := by unfold Rec; infer_instance

/-- The permission to make a payment; a hop's carries the permission to give its source back. -/
def ptok (c : Dev nD) : PE → sProp 𝕄
  | .bar d => dutyTok ER (pcell c (.bar d)) 0 d
  | .cr X n => dutyTok ER (pcell c (.cr X n)) n false
  | .is X q => iprop(dutyTok ER (pcell c (.is X q)) (q / 2) false ∗ dutyTok ER (cell c (.sd X (dsl q))) (q / 2) false)

/-- Device `c` before its payment `k`: what it owes, and the permissions. -/
def Pend (c : Dev nD) (k : ℕ) : sProp 𝕄 :=
  iprop((∃ W, owes (c : Thread nD τ) (OL c k) W) ∗ bigSepL (payL.drop k) (ptok c))

/-- What a wait on another device's payment is covered by, from the launch. -/
def wcr (c : Dev nD) : WE → sProp 𝕄
  | .stg _ => iprop(emp)
  | .sd _ _ => iprop(emp)
  | .rc X q => cred (tallyAt (cell c (.rc X (dsl q))) (rk (.is X q)) NH)
  | .cr X n => cred (tallyAt (cell c (.cr X)) (rk (.cr X n)) 1)

/-- Device `c` before its wait `n`: its place in each semaphore's rounds, and what covers the waits to come. -/
def Wt (c : Dev nD) (n : ℕ) : sProp 𝕄 :=
  iprop(bigSep Finset.univ (fun k : Kn => iprop(atPos ER (cell c k) (cnt n k) ∅ 0 ∗ reached ER (cell c k) (cnt n k)))
    ∗ bigSepL (wl.drop n) (wcr c))

/-- The buffer of the table, holding it. -/
def tblV : S16x18.Idx → BitVec 32 := fun i => lit0 (S16x18.rowMajor i)
def Tb (c : Dev nD) : sProp 𝕄 :=
  (tbM : Memref sig .tc .smem S16x18 .i32).view.loc (c : Thread nD τ) ↦{fullShare} (tblV : Buf (Elt F) ((tbM : Memref sig .tc .smem S16x18 .i32).view.loc (c : Thread nD τ)))
/-- The buffer of the device's weights, and that of the rounded ones. -/
def Wi (c : Dev nD) : sProp 𝕄 :=
  (wM : Memref sig .tc .vmem S8192x256 .f32).view.loc (c : Thread nD τ) ↦{fullShare} (wv m c : Buf (Elt F) ((wM : Memref sig .tc .vmem S8192x256 .f32).view.loc (c : Thread nD τ)))
def Wb (c : Dev nD) : sProp 𝕄 :=
  (wbM : Memref sig .tc .vmem S8192x256 .bf16).view.loc (c : Thread nD τ) ↦{fullShare} (wbf m c : Buf (Elt F) ((wbM : Memref sig .tc .vmem S8192x256 .bf16).view.loc (c : Thread nD τ)))
/-- The buffer of the result, its first `n` blocks stored. -/
def Out (c : Dev nD) (n : ℕ) : sProp 𝕄 :=
  iprop(∃ f : Buf (Elt F) ((oM : Memref sig .tc .vmem S8192x256 .bf16).view.loc (c : Thread nD τ)),
    ⌜∀ y : S8192x256.Idx, (∃ b ∈ bl.take n, (y 0).val / 256 = brow c b) → f y = outAt m c y⌝
      ∗ ((oM : Memref sig .tc .vmem S8192x256 .bf16).view.loc (c : Thread nD τ) ↦{fullShare} f))

/-- What covers the wait for hop `q` of chain `X` to have left. -/
def SC (c : Dev nD) (X : Fin 4) (q : ℕ) : sProp 𝕄 := cred (tallyAt (cell c (.sd X (dsl q))) 0 NH)

end Cert.Ring
end
-- ==== Proof.Mem.lean ====
/-
What the device's own loads and stores do: of a slot, of the staging buffer, of the weights, of the table and of the
result.
-/
module

public import proofs.«01_k».proof.Proof.Sched

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (c : Dev nD)

/-! ## Slots -/

omit [FloatOps F] in
/-- The elements of a slot, seen as 256 rows and seen as a part of the buffer. -/
theorem slot_set (X : Fin 4) (s : Fin 2) : (slotM X s).view.set = ((bufM X).access (rS s)).set := View.set_reshape _ _

section Slots
variable {X : Fin 4} {s : Fin 2} {mm : Memref sig .tc .vmem S2x256x8192 .bf16} {off : Fin 3 → ℕ}
  {inb : ∀ a, off a + S1x256x8192.size a ≤ S2x256x8192.size a}

/-- A load of a slot that holds `v` reads `v`. -/
theorem load_slot {α : Type} {Q : α → sProp 𝕄} {kk : Vec F S1x256x8192 .bf16 → Prog (TpuEff nD τ sig (Elt F) Λ₀ .tc) α}
    {hl : mm.view.LoadsAt (Rect.unit (s := S2x256x8192) off S1x256x8192.size inb).toLoadRect}
    {q : PosShare TreeShare} {v : Vec F S1x256x8192 .bf16} (hm : mm = bufM X) (ho : off = ![s.val, 0, 0]) :
    Slot c X s q v
      ⊢ iprop((Slot c X s q v -∗ wp frame (wpE (defs₀ (F := F)) 𝒱₀ (c : Thread nD τ) none) Set.univ (kk v) Q)
          -∗ wp frame (wpE (defs₀ (F := F)) 𝒱₀ (c : Thread nD τ) none) Set.univ
            (.op (.load mm (Rect.unit (s := S2x256x8192) off S1x256x8192.size inb).toLoadRect hl) kk) Q) := by
  subst hm ho
  unfold Slot
  iintro ⟨%f, %hv, H⟩ Hk
  iapply (wp_load_rect 𝒱₀ (c : Thread nD τ) none Set.univ (m := bufM X) (r := rS s) (S := (slotM X s).view.set) (slot_set X s).symm.subset) $$ H
  iintro H
  rw [show ((bufM X).access (rS s)).read (Elt F) f = v from hv]
  iapply Hk
  iexists f
  isplitr; · ipureintro; exact hv
  iexact H

/-- A load of a slot that holds anything reads something. -/
theorem load_free {α : Type} {Q : α → sProp 𝕄} {kk : Vec F S1x256x8192 .bf16 → Prog (TpuEff nD τ sig (Elt F) Λ₀ .tc) α}
    {hl : mm.view.LoadsAt (Rect.unit (s := S2x256x8192) off S1x256x8192.size inb).toLoadRect}
    (hm : mm = bufM X) (ho : off = ![s.val, 0, 0]) :
    FrS c X s
      ⊢ iprop((∀ w, FrS c X s -∗ wp frame (wpE (defs₀ (F := F)) 𝒱₀ (c : Thread nD τ) none) Set.univ (kk w) Q)
          -∗ wp frame (wpE (defs₀ (F := F)) 𝒱₀ (c : Thread nD τ) none) Set.univ
            (.op (.load mm (Rect.unit (s := S2x256x8192) off S1x256x8192.size inb).toLoadRect hl) kk) Q) := by
  subst hm ho
  unfold FrS
  iintro ⟨%f, H⟩ Hk
  iapply (wp_load_rect 𝒱₀ (c : Thread nD τ) none Set.univ (m := bufM X) (r := rS s) (S := (slotM X s).view.set) (slot_set X s).symm.subset) $$ H
  iintro H
  iapply Hk
  iexists f
  iexact H

/-- A store of `w` into a slot. -/
theorem store_slot {α : Type} {Q : α → sProp 𝕄} {kk : PUnit → Prog (TpuEff nD τ sig (Elt F) Λ₀ .tc) α}
    {w v : FVec F S1x256x8192 .bf16}
    {hx : (mm.access (Rect.unit (s := S2x256x8192) off S1x256x8192.size inb)).Stores Finset.univ}
    {hm' : (Finset.univ : Finset (Rect.unit (s := S2x256x8192) off S1x256x8192.size inb).shape.Idx) = Finset.univ
      ∨ ∀ a, (Rect.unit (s := S2x256x8192) off S1x256x8192.size inb).stride a = 1}
    (hm : mm = bufM X) (ho : off = ![s.val, 0, 0]) (hw : w = v) :
    FrS c X s
      ⊢ iprop((Slot c X s fullShare v -∗ wp frame (wpE (defs₀ (F := F)) 𝒱₀ (c : Thread nD τ) none) Set.univ (kk ⟨⟩) Q)
          -∗ wp frame (wpE (defs₀ (F := F)) 𝒱₀ (c : Thread nD τ) none) Set.univ
            (.op (.store mm (Rect.unit (s := S2x256x8192) off S1x256x8192.size inb) w Finset.univ hx hm') kk) Q) := by
  subst hm ho hw
  unfold FrS Slot
  iintro ⟨%f, H⟩ Hk
  iapply (wp_store 𝒱₀ (c : Thread nD τ) none Set.univ (m := bufM X) (r := rS s) (S := (slotM X s).view.set)
    (by rw [View.setOn_univ]; exact (slot_set X s).symm.subset)) $$ H
  iintro H
  iapply Hk
  iexists _
  isplitr; swap; · iexact H
  ipureintro
  exact View.read_write_univ _ _

end Slots

/-- The two parts of a share of a slot that holds `v` make it whole again. -/
theorem slot_join {X : Fin 4} {s : Fin 2} (p : PosShare TreeShare) (v : Vec F S1x256x8192 .bf16) :
    iprop(Slot c X s p.left v ∗ Slot c X s p.right v) ⊢ Slot (F := F) c X s p v := by
  unfold Slot
  iintro ⟨⟨%f, %hf, H⟩, ⟨%g, %hg, H'⟩⟩
  icombine H H' gives %hx
  iexists f
  isplitr; · ipureintro; exact hf
  iapply (pointsTo_share (PosShare.mem_left_op_right p)).2
  isplitl [H]; · iexact H
  rw [pointsTo_congr (fun i hi => (hx i (Finset.mem_inter.mpr ⟨hi, hi⟩)).1)]
  iexact H'

/-- A share of a slot comes apart into its two parts. -/
theorem slot_split {X : Fin 4} {s : Fin 2} (p : PosShare TreeShare) (v : Vec F S1x256x8192 .bf16) :
    Slot (F := F) c X s p v ⊢ iprop(Slot c X s p.left v ∗ Slot c X s p.right v) := by
  unfold Slot
  iintro ⟨%f, %hf, H⟩
  ihave H := (pointsTo_share (PosShare.mem_left_op_right p)).1 $$ H
  icases H with ⟨H, H'⟩
  isplitl [H]
  · iexists f; isplitr; · ipureintro; exact hf
    iexact H
  · iexists f; isplitr; · ipureintro; exact hf
    iexact H'

/-- A slot that holds something holds anything. -/
theorem slot_free {X : Fin 4} {s : Fin 2} (v : Vec F S1x256x8192 .bf16) : Slot (F := F) c X s fullShare v ⊢ FrS c X s := by
  unfold Slot FrS
  iintro ⟨%f, %hf, H⟩
  iexists f; iexact H

/-! ## The other buffers -/

omit [FloatOps F] in
theorem z2 : (![0, 0] : Fin 2 → Nat) = fun _ => 0 := by funext a; revert a; decide

/-- A load of the staging buffer. -/
theorem load_stage {α : Type} {Q : α → sProp 𝕄} {mm : Memref sig .tc .vmem S256x8192 .f32} {off : Fin 2 → ℕ}
    {inb : ∀ a, off a + S256x8192.size a ≤ S256x8192.size a} {kk : Vec F S256x8192 .f32 → Prog (TpuEff nD τ sig (Elt F) Λ₀ .tc) α}
    {hl : mm.view.LoadsAt (Rect.unit (s := S256x8192) off S256x8192.size inb).toLoadRect} {h : Fin 2} (hm : mm = stM) (ho : off = ![0, 0]) :
    StP m c h
      ⊢ iprop((StP m c h -∗ wp frame (wpE (defs₀ (F := F)) 𝒱₀ (c : Thread nD τ) none) Set.univ (kk (xh m c h)) Q)
          -∗ wp frame (wpE (defs₀ (F := F)) 𝒱₀ (c : Thread nD τ) none) Set.univ
            (.op (.load mm (Rect.unit (s := S256x8192) off S256x8192.size inb).toLoadRect hl) kk) Q) := by
  subst hm ho
  unfold StP
  iintro ⟨H, H'⟩ Hk
  iapply (wp_load 𝒱₀ (c : Thread nD τ) none Set.univ (m := stM) (S := Finset.univ) (Finset.subset_univ _)) $$ H
  iintro H
  have e : (stM : Memref sig .tc .vmem S256x8192 .f32).view.readAt (Elt F) (Rect.unit (s := S256x8192) ![0, 0] S256x8192.size inb).toLoadRect (xh m c h) = xh m c h :=
    Memref.readAt_unit_zero (Elt F) cc0_scratch4 z2 inb _
  rw [e]
  iapply Hk
  isplitl [H]; · iexact H
  iexact H'

/-- A load of the device's weights. -/
theorem load_w {α : Type} {Q : α → sProp 𝕄} {mm : Memref sig .tc .vmem S8192x256 .f32} {off : Fin 2 → ℕ}
    {inb : ∀ a, off a + S8192x256.size a ≤ S8192x256.size a} {kk : Vec F S8192x256 .f32 → Prog (TpuEff nD τ sig (Elt F) Λ₀ .tc) α}
    {hl : mm.view.LoadsAt (Rect.unit (s := S8192x256) off S8192x256.size inb).toLoadRect} (hm : mm = wM) (ho : off = ![0, 0]) :
    Wi m c
      ⊢ iprop((Wi m c -∗ wp frame (wpE (defs₀ (F := F)) 𝒱₀ (c : Thread nD τ) none) Set.univ (kk (wv m c)) Q)
          -∗ wp frame (wpE (defs₀ (F := F)) 𝒱₀ (c : Thread nD τ) none) Set.univ
            (.op (.load mm (Rect.unit (s := S8192x256) off S8192x256.size inb).toLoadRect hl) kk) Q) := by
  subst hm ho
  unfold Wi
  iintro H Hk
  iapply (wp_load 𝒱₀ (c : Thread nD τ) none Set.univ (m := wM) (S := Finset.univ) (Finset.subset_univ _)) $$ H
  iintro H
  have e : (wM : Memref sig .tc .vmem S8192x256 .f32).view.readAt (Elt F) (Rect.unit (s := S8192x256) ![0, 0] S8192x256.size inb).toLoadRect (wv m c) = wv m c :=
    Memref.readAt_unit_zero (Elt F) cc0_stg1_0 z2 inb _
  rw [e]
  iapply Hk
  iexact H

/-- The buffer of the rounded weights before they are stored. -/
def Wf (c : Dev nD) : sProp 𝕄 :=
  iprop(∃ f : Buf (Elt F) ((wbM : Memref sig .tc .vmem S8192x256 .bf16).view.loc (c : Thread nD τ)),
    (wbM : Memref sig .tc .vmem S8192x256 .bf16).view.loc (c : Thread nD τ) ↦{fullShare} f)

/-- A load of it. -/
theorem load_wf {α : Type} {Q : α → sProp 𝕄} {mm : Memref sig .tc .vmem S8192x256 .bf16} {off : Fin 2 → ℕ}
    {inb : ∀ a, off a + S8192x256.size a ≤ S8192x256.size a} {kk : Vec F S8192x256 .bf16 → Prog (TpuEff nD τ sig (Elt F) Λ₀ .tc) α}
    {hl : mm.view.LoadsAt (Rect.unit (s := S8192x256) off S8192x256.size inb).toLoadRect} (hm : mm = wbM) :
    Wf c
      ⊢ iprop((∀ w, Wf c -∗ wp frame (wpE (defs₀ (F := F)) 𝒱₀ (c : Thread nD τ) none) Set.univ (kk w) Q)
          -∗ wp frame (wpE (defs₀ (F := F)) 𝒱₀ (c : Thread nD τ) none) Set.univ
            (.op (.load mm (Rect.unit (s := S8192x256) off S8192x256.size inb).toLoadRect hl) kk) Q) := by
  subst hm
  unfold Wf
  iintro ⟨%f, H⟩ Hk
  iapply (wp_load 𝒱₀ (c : Thread nD τ) none Set.univ (m := wbM) (S := Finset.univ) (Finset.subset_univ _)) $$ H
  iintro H
  iapply Hk
  iexists f
  iexact H

/-- The store of the rounded weights. -/
theorem store_wb {α : Type} {Q : α → sProp 𝕄} {mm : Memref sig .tc .vmem S8192x256 .bf16} {off : Fin 2 → ℕ}
    {inb : ∀ a, off a + S8192x256.size a ≤ S8192x256.size a} {kk : PUnit → Prog (TpuEff nD τ sig (Elt F) Λ₀ .tc) α} {w : FVec F S8192x256 .bf16}
    {hx : (mm.access (Rect.unit (s := S8192x256) off S8192x256.size inb)).Stores Finset.univ}
    {hm' : (Finset.univ : Finset (Rect.unit (s := S8192x256) off S8192x256.size inb).shape.Idx) = Finset.univ
      ∨ ∀ a, (Rect.unit (s := S8192x256) off S8192x256.size inb).stride a = 1}
    (hm : mm = wbM) (ho : off = ![0, 0]) (hw : w = wbf m c) :
    Wf c
      ⊢ iprop((Wb m c -∗ wp frame (wpE (defs₀ (F := F)) 𝒱₀ (c : Thread nD τ) none) Set.univ (kk ⟨⟩) Q)
          -∗ wp frame (wpE (defs₀ (F := F)) 𝒱₀ (c : Thread nD τ) none) Set.univ
            (.op (.store mm (Rect.unit (s := S8192x256) off S8192x256.size inb) w Finset.univ hx hm') kk) Q) := by
  subst hm ho hw
  unfold Wf Wb
  iintro ⟨%f, H⟩ Hk
  iapply (wp_store 𝒱₀ (c : Thread nD τ) none Set.univ (m := wbM) (r := Rect.unit (s := S8192x256) ![0, 0] S8192x256.size inb) (S := Finset.univ) (Finset.subset_univ _)) $$ H
  have e : ((wbM : Memref sig .tc .vmem S8192x256 .bf16).access (Rect.unit (s := S8192x256) ![0, 0] S8192x256.size inb)).write (Elt F) f (wbf m c) Finset.univ = wbf m c :=
    Memref.write_access_unit_zero_univ (Elt F) cc0_scratch5 z2 inb f _
  rw [e]
  iintro H
  iapply Hk
  iexact H

/-- A load of the rounded weights. -/
theorem load_wb {α : Type} {Q : α → sProp 𝕄} {mm : Memref sig .tc .vmem S8192x256 .bf16} {off : Fin 2 → ℕ}
    {inb : ∀ a, off a + S8192x256.size a ≤ S8192x256.size a} {kk : Vec F S8192x256 .bf16 → Prog (TpuEff nD τ sig (Elt F) Λ₀ .tc) α}
    {hl : mm.view.LoadsAt (Rect.unit (s := S8192x256) off S8192x256.size inb).toLoadRect} (hm : mm = wbM) (ho : off = ![0, 0]) :
    Wb m c
      ⊢ iprop((Wb m c -∗ wp frame (wpE (defs₀ (F := F)) 𝒱₀ (c : Thread nD τ) none) Set.univ (kk (wbf m c)) Q)
          -∗ wp frame (wpE (defs₀ (F := F)) 𝒱₀ (c : Thread nD τ) none) Set.univ
            (.op (.load mm (Rect.unit (s := S8192x256) off S8192x256.size inb).toLoadRect hl) kk) Q) := by
  subst hm ho
  unfold Wb
  iintro H Hk
  iapply (wp_load 𝒱₀ (c : Thread nD τ) none Set.univ (m := wbM) (S := Finset.univ) (Finset.subset_univ _)) $$ H
  iintro H
  have e : (wbM : Memref sig .tc .vmem S8192x256 .bf16).view.readAt (Elt F) (Rect.unit (s := S8192x256) ![0, 0] S8192x256.size inb).toLoadRect (wbf m c) = wbf m c :=
    Memref.readAt_unit_zero (Elt F) cc0_scratch5 z2 inb _
  rw [e]
  iapply Hk
  iexact H

/-! ## The result -/

/-- A load of 256 rows of the result. -/
theorem load_out {α : Type} {Q : α → sProp 𝕄} {n : ℕ} {mm : Memref sig .tc .vmem S8192x256 .bf16} {off : Fin 2 → ℕ}
    {inb : ∀ a, off a + S256x256.size a ≤ S8192x256.size a} {kk : Vec F S256x256 .bf16 → Prog (TpuEff nD τ sig (Elt F) Λ₀ .tc) α}
    {hl : mm.view.LoadsAt (Rect.unit (s := S8192x256) off S256x256.size inb).toLoadRect} (hm : mm = oM) :
    Out m c n
      ⊢ iprop((∀ w, Out m c n -∗ wp frame (wpE (defs₀ (F := F)) 𝒱₀ (c : Thread nD τ) none) Set.univ (kk w) Q)
          -∗ wp frame (wpE (defs₀ (F := F)) 𝒱₀ (c : Thread nD τ) none) Set.univ
            (.op (.load mm (Rect.unit (s := S8192x256) off S256x256.size inb).toLoadRect hl) kk) Q) := by
  subst hm
  unfold Out
  iintro ⟨%f, %hf, H⟩ Hk
  iapply (wp_load 𝒱₀ (c : Thread nD τ) none Set.univ (m := oM) (S := Finset.univ) (Finset.subset_univ _)) $$ H
  iintro H
  iapply Hk
  iexists f
  isplitr; · ipureintro; exact hf
  iexact H

/-- What 256 rows of the result hold after the store of a block there, and what the others keep. -/
theorem out_write {b : BE} {inb : ∀ a, (![256 * brow c b, 0] : Fin 2 → ℕ) a + S256x256.size a ≤ S8192x256.size a}
    (f : Buf (Elt F) ((oM : Memref sig .tc .vmem S8192x256 .bf16).view.loc (c : Thread nD τ))) (y : S8192x256.Idx) :
    ((oM : Memref sig .tc .vmem S8192x256 .bf16).access (Rect.unit (s := S8192x256) ![256 * brow c b, 0] S256x256.size inb)).write
        (Elt F) f (oblk m c (b.dev c) b.half) Finset.univ y
      = if (y 0).val / 256 = brow c b then outAt m c y else f y := by
  have hd := (b.dev c).isLt
  have hh := b.half.isLt
  change (b.dev c).val < 16 at hd
  have hy0 : (y 0).val < 8192 := (y 0).isLt
  have hy1 : (y 1).val < 256 := (y 1).isLt
  by_cases h : (y 0).val / 256 = brow c b
  · rw [if_pos h]
    let x : S256x256.Idx := fun a => match a with
      | ⟨0, _⟩ => ⟨(y 0).val % 256, Nat.mod_lt _ (by decide)⟩
      | ⟨1, _⟩ => y 1
      | ⟨_ + 2, h⟩ => absurd h (by show ¬ _ + 2 < 2; omega)
    have hx : ((oM : Memref sig .tc .vmem S8192x256 .bf16).access (Rect.unit (s := S8192x256) ![256 * brow c b, 0] S256x256.size inb)).emb x = y := by
      funext a
      apply Fin.ext
      show (![256 * brow c b, 0] : Fin 2 → ℕ) a + 1 * (x a).val = (y a).val
      revert a
      refine Fin.forall_fin_two.mpr ⟨?_, ?_⟩
      · show 256 * brow c b + 1 * ((y 0).val % 256) = _
        omega
      · show 0 + 1 * (y 1).val = _
        omega
    have hv := View.write_emb_of_mem (Val := Elt F) (v := (oM : Memref sig .tc .vmem S8192x256 .bf16).access (Rect.unit (s := S8192x256) ![256 * brow c b, 0] S256x256.size inb))
      f (oblk m c (b.dev c) b.half) (Finset.mem_univ x)
    rw [hx] at hv
    refine hv.trans ?_
    unfold brow at h
    have h1 : (⟨(y 0).val / 512 % 16, Nat.mod_lt _ (by decide)⟩ : Dev nD) = b.dev c := Fin.ext (by show (y 0).val / 512 % 16 = _; omega)
    have h2 : (⟨(y 0).val / 256 % 2, Nat.mod_lt _ (by decide)⟩ : Fin 2) = b.half := Fin.ext (by show (y 0).val / 256 % 2 = _; omega)
    unfold outAt
    rw [h1, h2]
    rfl
  · rw [if_neg h]
    refine View.write_of_not_mem _ _ _ ?_
    rw [View.setOn_univ]
    intro hmem
    have hmem' : y ∈ (Rect.unit (s := S8192x256) ![256 * brow c b, 0] S256x256.size inb).set := by
      rwa [View.set_slice_whole] at hmem
    have := Rect.mem_set_unit.mp hmem' (0 : Fin 2)
    have h3 : 256 * brow c b ≤ (y 0).val ∧ (y 0).val < 256 * brow c b + 256 := this
    omega

/-- The store of the next block of the result. -/
theorem store_out {α : Type} {Q : α → sProp 𝕄} {n : ℕ} {b : BE} {mm : Memref sig .tc .vmem S8192x256 .bf16} {off : Fin 2 → ℕ}
    {inb : ∀ a, off a + S256x256.size a ≤ S8192x256.size a} {kk : PUnit → Prog (TpuEff nD τ sig (Elt F) Λ₀ .tc) α} {w : FVec F S256x256 .bf16}
    {hx : (mm.access (Rect.unit (s := S8192x256) off S256x256.size inb)).Stores Finset.univ}
    {hm' : (Finset.univ : Finset (Rect.unit (s := S8192x256) off S256x256.size inb).shape.Idx) = Finset.univ
      ∨ ∀ a, (Rect.unit (s := S8192x256) off S256x256.size inb).stride a = 1}
    (hm : mm = oM) (hb : bl[n]? = some b) (ho : off = ![256 * brow c b, 0]) (hw : w = oblk m c (b.dev c) b.half) :
    Out m c n
      ⊢ iprop((Out m c (n + 1) -∗ wp frame (wpE (defs₀ (F := F)) 𝒱₀ (c : Thread nD τ) none) Set.univ (kk ⟨⟩) Q)
          -∗ wp frame (wpE (defs₀ (F := F)) 𝒱₀ (c : Thread nD τ) none) Set.univ
            (.op (.store mm (Rect.unit (s := S8192x256) off S256x256.size inb) w Finset.univ hx hm') kk) Q) := by
  subst hm ho hw
  unfold Out
  iintro ⟨%f, %hf, H⟩ Hk
  iapply (wp_store 𝒱₀ (c : Thread nD τ) none Set.univ (m := oM) (r := Rect.unit (s := S8192x256) ![256 * brow c b, 0] S256x256.size inb) (S := Finset.univ) (Finset.subset_univ _)) $$ H
  iintro H
  iapply Hk
  iexists _
  isplitr; swap; · iexact H
  ipureintro
  intro y ⟨b', hb', hy⟩
  refine (out_write m c f y).trans ?_
  by_cases h : (y 0).val / 256 = brow c b
  · rw [if_pos h]
  · rw [if_neg h]
    refine hf y ⟨b', ?_, hy⟩
    rw [List.take_succ, hb] at hb'
    rcases List.mem_append.mp hb' with h' | h'
    · exact h'
    · have : b' = b := by simpa using h'
      exact absurd (this ▸ hy) h

/-! ## The table -/

/-- Word `j` of a device's row of the table. -/
def tw (c : Dev nD) (j : Fin 18) : BitVec 32 :=
  lit0 ⟨18 * c.val + j.val, by have h := c.isLt; have := j.isLt; change c.val < 16 at h; show _ < 288; omega⟩

/-- A load of a word of the device's row. -/
theorem load_tab {α : Type} {Q : α → sProp 𝕄} {mm : Memref sig .tc .smem S16x18 .i32} {off : Fin 2 → ℕ}
    {inb : ∀ a, off a + S1x1.size a ≤ S16x18.size a} {hl : mm.view.LoadsAt (Rect.unit (s := S16x18) off S1x1.size inb).toLoadRect}
    {kk : (S1x1.Idx → Elt F .i32) → Prog (TpuEff nD τ sig (Elt F) Λ₀ .tc) α}
    (hm : mm = tbM) (j : Fin 18) (ho : off = ![c.val, j.val]) :
    Tb c
      ⊢ iprop((Tb c -∗ wp frame (wpE (defs₀ (F := F)) 𝒱₀ (c : Thread nD τ) none) Set.univ (kk (fun _ => tw c j)) Q)
          -∗ wp frame (wpE (defs₀ (F := F)) 𝒱₀ (c : Thread nD τ) none) Set.univ
            (.op (.load mm (Rect.unit (s := S16x18) off S1x1.size inb).toLoadRect hl) kk) Q) := by
  subst hm ho
  unfold Tb
  iintro H Hk
  iapply (wp_load_rect 𝒱₀ (c : Thread nD τ) none Set.univ (m := tbM) (r := Rect.unit (s := S16x18) ![c.val, j.val] S1x1.size inb) (S := Finset.univ) (Finset.subset_univ _)) $$ H
  iintro H
  have e : ((tbM : Memref sig .tc .smem S16x18 .i32).access (Rect.unit (s := S16x18) ![c.val, j.val] S1x1.size inb)).read (Elt F) tblV
      = fun _ : S1x1.Idx => tw c j := by
    funext x
    have h0 : (x 0).val < 1 := (x 0).isLt
    have h1 : (x 1).val < 1 := (x 1).isLt
    refine congrArg lit0 (Fin.ext ?_)
    refine (Shape.rowMajor_val_two _).trans ?_
    show (c.val + 1 * (x 0).val) * 18 + (j.val + 1 * (x 1).val) = 18 * c.val + j.val
    omega
  rw [e]
  iapply Hk
  iexact H

end Cert.Ring
end
-- ==== Proof.Steps.lean ====
/-
One lemma per kind of step of the kernel: what a device needs before it and has after it.
-/
module

public import proofs.«01_k».proof.Proof.Sched

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## The bookkeeping -/

omit [FloatOps F] in
theorem sep_take {I : Type} [DecidableEq I] {s : Finset I} {i : I} (hi : i ∈ s) (Φ : I → sProp 𝕄) :
    bigSep s Φ = iprop(Φ i ∗ bigSep (s.erase i) Φ) := BI.bigSep_erase hi
omit [FloatOps F] in
theorem sep_at {I : Type} [Fintype I] [DecidableEq I] (Φ : I → sProp 𝕄) (i : I) : bigSep Finset.univ Φ ⊢ Φ i := BI.bigSep_elim (Finset.mem_univ i)

/-- A semaphore's invariant, out of all of them. -/
theorem Rec_inv (K : Dev nD × Option Kn → ℕ) (c : Dev nD) (k : Kn) : Rec m K ⊢ cellInv ER (Rd m) (K (c, some k)) (cell c k) := by
  unfold Rec
  iintro ⟨H, -⟩
  iapply (sep_at (fun x : Dev nD × Option Kn => cellInv ER (Rd m) (K x) (ocell x)) (c, some k)) $$ H

theorem Rec_bar (K : Dev nD × Option Kn → ℕ) (c : Dev nD) : Rec m K ⊢ iprop(cellInv ER (Rd m) (K (c, none)) (barCell c) ∗ reached ER (barCell c) 0) := by
  unfold Rec
  iintro ⟨#H, #H', -⟩
  isplitr
  · iapply (sep_at (fun x : Dev nD × Option Kn => cellInv ER (Rd m) (K x) (ocell x)) (c, none)) $$ H
  · iapply (sep_at (fun c : Dev nD => reached ER (barCell c) 0) c) $$ H'

theorem Rec_lev (K : Dev nD × Option Kn → ℕ) : Rec m K ⊢ levAts L lv := by
  unfold Rec; iintro ⟨-, -, H⟩; iexact H

omit [FloatOps F] in
/-- That a device is in its round of a semaphore is known to it, and stays known. -/
theorem Wt_reached (c : Dev nD) (n : ℕ) (k : Kn) : (Wt c n : sProp 𝕄) ⊢ iprop(Wt c n ∗ reached ER (cell c k) (cnt n k)) := by
  unfold Wt
  rw [sep_take (Finset.mem_univ k)]
  iintro ⟨⟨⟨H1, #H2⟩, H3⟩, H4⟩
  isplitl
  · isplitl [H1 H3]
    · isplitl [H1]
      · isplitl [H1]; · iexact H1
        iexact H2
      iexact H3
    iexact H4
  iexact H2

omit [FloatOps F] in
/-- The place a wait is at, and what covers it, taken out; and put back a round later. -/
theorem Wt_take (c : Dev nD) {n : ℕ} {w : WE} (h : wl[n]? = some w) : (Wt c n : sProp 𝕄)
    ⊢ iprop(atPos ER (cell c w.kn) w.rd ∅ 0 ∗ wcr c w
        ∗ ((atPos ER (cell c w.kn) (w.rd + 1) ∅ 0 ∗ reached ER (cell c w.kn) (w.rd + 1)) -∗ Wt c (n + 1))) := by
  unfold Wt
  rw [wl_get h, sep_take (Finset.mem_univ w.kn), sep_take (Finset.mem_univ w.kn)]
  have e : bigSep (Finset.univ.erase w.kn) (fun k : Kn => (iprop(atPos ER (cell c k) (cnt (n + 1) k) ∅ 0 ∗ reached ER (cell c k) (cnt (n + 1) k)) : sProp 𝕄))
      = bigSep (Finset.univ.erase w.kn) (fun k : Kn => iprop(atPos ER (cell c k) (cnt n k) ∅ 0 ∗ reached ER (cell c k) (cnt n k))) :=
    bigSep_congr fun k hk => by
      rw [cnt_succ h, if_neg (fun e => (Finset.mem_erase.mp hk).1 e.symm), Nat.add_zero]
  rw [e, cnt_succ h, if_pos rfl, cnt_get h, BI.bigSepL_cons']
  iintro ⟨⟨⟨H1, -⟩, H3⟩, H4, H5⟩
  isplitl [H1]; · iexact H1
  isplitl [H4]; · iexact H4
  iintro H
  isplitl [H H3]
  · isplitl [H]; · iexact H
    iexact H3
  iexact H5

omit [FloatOps F] in
/-- The next payment, taken out. -/
theorem Pend_take (c : Dev nD) {k : ℕ} {p : PE} (h : payL[k]? = some p) : (Pend c k : sProp 𝕄)
    ⊢ iprop((∃ W, owes (c : Thread nD τ) (OL c k) W) ∗ ptok c p ∗ bigSepL (payL.drop (k + 1)) (ptok c)) := by
  unfold Pend
  rw [payL_get h, BI.bigSepL_cons']

/-- A payment's round is one its semaphore has. -/
theorem ok_payL : ∀ p ∈ payL, (match p with
    | .bar _ => True
    | .cr X n => n < nr (.cr X)
    | .is X q => q / 2 < nr (.rc X (dsl q)) : Prop) := by
  have h : payL.all (fun p => match p with
    | .bar _ => true
    | .cr X n => decide (n < nr (.cr X))
    | .is X q => decide (q / 2 < nr (.rc X (dsl q)))) = true := by decide +kernel
  intro p hp
  have := List.all_eq_true.mp h p hp
  match p with
  | .bar _ => trivial
  | .cr X n => exact of_decide_eq_true this
  | .is X q => exact of_decide_eq_true this
theorem ok_wl : ∀ w ∈ wl, w.rd < nr w.kn := by decide +kernel

/-! ## Payments -/

section Pay

variable (K : Dev nD × Option Kn → ℕ) (c : Dev nD)

/-- Device `c` gives credit `n` of chain `X` back: it hands over the slot the next hop but one of the chain lands in. -/
theorem step_signal {α : Type} {Q : α → sProp 𝕄} {kk : PUnit → Prog (TpuEff nD τ sig (Elt F) Λ₀ .tc) α}
    {c' : Dev nD} {X : Fin 4} {n k w : ℕ} {sem : Sem sig} {z : Int} (hc : c' = fr X c)
    (hs : sem = crS X) (hz : z = ((1 : ℕ) : Int)) (hk : payL[k]? = some (.cr X n))
    (hw : cnt w (.rc X (dsl (n + 1))) = (n + 1) / 2) :
    iprop(Rec m K ∗ Pend c k ∗ Wt c w ∗ FrS c X (dsl (n + 1)) ∗ reached ER (cell (fr X c) (.cr X)) n)
      ⊢ iprop(((Pend c (k + 1) ∗ Wt c w) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (c' : Thread nD τ) sem z) kk) Q) := by
  subst hc hz hs
  have hn : n < nr (.cr X) := ok_payL _ (List.mem_of_getElem? hk)
  have hd : false ∈ (Rd (F := F) m).duties (((fr X c : Dev nD) : Thread nD τ), .reg (crS X)) n :=
    (duties_k m (fr X c) (.cr X) hn).symm ▸ Finset.mem_singleton_self _
  have hp : (Rd (F := F) m).payload (((fr X c : Dev nD) : Thread nD τ), .reg (crS X)) n false = FrT (fr X c) X (n + 1) :=
    payload_k m (fr X c) (.cr X) n false
  iintro ⟨#HR, HP, HW, HS, #Hr⟩ Hk
  ihave HP := (Pend_take c hk) $$ HP
  icases HP with ⟨⟨%W, HO⟩, Ht, HT⟩
  ihave HW := (Wt_reached c w (.rc X (dsl (n + 1)))) $$ HW
  icases HW with ⟨HW, #Hw⟩
  iapply (Rounds.wp_signal 𝒱₀ ER (Rd m) (c : Thread nD τ) none (dst := ((fr X c : Dev nD) : Thread nD τ)) (κ := K (fr X c, some (.cr X))) (d := false)
    hd (amount_k m (fr X c) (.cr X) n false) (rk (.cr X n)) (O₀ := OL c k) (OL c (k + 1)) (OL_get hk)) $$ [HO Ht HS]
  · isplitr; · iapply (Rec_inv m K (fr X c) (.cr X)) $$ HR
    isplitl [HO]; · iexact HO
    isplitl [Ht]; · unfold ptok; iexact Ht
    isplitl [HS]
    · rw [hp]
      unfold FrT
      rw [tg_fr, ← hw]
      isplitl [HS]; · iexact HS
      iexact Hw
    iexact Hr
  iintro HO
  iapply Hk
  isplitl [HO HT]
  · unfold Pend
    isplitl [HO]; · iexists W; iexact HO
    iexact HT
  iexact HW

omit [FloatOps F] in
/-- A hop moves a slot's contents as they are. -/
theorem read_landed (X Y : Fin 4) (a b : Fin 2) {d d' : Dev nD} (fd : Buf (Elt F) ((slotM X b).view.loc (d' : Thread nD τ)))
    (fs : Buf (Elt F) ((slotM Y a).view.loc (d : Thread nD τ))) :
    ((bufM X).access (rS b)).read (Elt F) ((slotM X b).view.write (Elt F) fd ((slotM Y a).view.read (Elt F) fs) Finset.univ)
      = ((bufM Y).access (rS a)).read (Elt F) fs := by
  have h : (slotM X b).view.read (Elt F) ((slotM X b).view.write (Elt F) fd ((slotM Y a).view.read (Elt F) fs) Finset.univ)
      = (slotM Y a).view.read (Elt F) fs := View.read_write_univ _ _
  funext x
  have := congrFun h ((Shape.reshapeEquiv squeezes_S1x256x8192_S256x8192.numel_eq).symm x)
  have e := (Shape.reshapeEquiv squeezes_S1x256x8192_S256x8192.numel_eq).apply_symm_apply x
  have e1 : ∀ (Z : Fin 4) (s : Fin 2) {d : Dev nD} (f : Buf (Elt F) ((slotM Z s).view.loc (d : Thread nD τ))) (y : S256x8192.Idx),
      (slotM Z s).view.read (Elt F) f y
        = ((bufM Z).access (rS s)).read (Elt F) f (Shape.reshapeEquiv squeezes_S1x256x8192_S256x8192.numel_eq y) := fun Z s d f y => rfl
  rw [e1 X b (d := d'), e1 Y a (d := d), e] at this
  exact this

/-- Device `c` sends hop `q` of chain `X` from a slot whose contents are those the hop is to land. -/
theorem step_issue {α : Type} {Q : α → sProp 𝕄} {kk : PUnit → Prog (TpuEff nD τ sig (Elt F) Λ₀ .tc) α}
    {c' : Dev nD} {X : Fin 4} {q k w : ℕ} {Y : Fin 4} {a : Fin 2} {sh : PosShare TreeShare} {v : Vec F S1x256x8192 .bf16}
    {src : Memref sig .tc .vmem S256x8192 .bf16} {dst : Memref sig (Dev.tc c' : Thread nD τ).2.kind .vmem S256x8192 .bf16}
    {s1 s2 : DmaSem sig} {hsc : dst.view.ref.isScScratch = false}
    {hsrc : src.view.WordExact} {hdst : dst.view.WordExact}
    {hsem : DmaTarget.Typed .vmem (.dma s2) (.remote (Dev.tc c' : Thread nD τ) dst (.dma s1) hsc)}
    (hc : c' = tg X c) (hsr : src = slotM Y a) (hds : dst = slotM X (dsl q)) (h1 : s1 = sdS X (dsl q)) (h2 : s2 = rcS X (dsl q))
    (hk : payL[k]? = some (.is X q)) (hwc : cnt w (.cr X) = q) (hws : cnt w (.sd X (dsl q)) = q / 2)
    (hv : v = chk m (org (tg X c) X q) (hf X))
    (hB : Slot c Y a sh v ⊢ Back m c X q) :
    iprop(Rec m K ∗ Pend c k ∗ Wt c w ∗ Slot c Y a sh v ∗ FrT c X q)
      ⊢ iprop(((Pend c (k + 1) ∗ Wt c w ∗ SC c X q) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma src (.remote (Dev.tc c' : Thread nD τ) dst (.dma s1) hsc) (.dma s2) hsrc hdst hsem) kk) Q) := by
  subst hc hsr h1 h2
  have hn : q / 2 < nr (.rc X (dsl q)) := ok_payL _ (List.mem_of_getElem? hk)
  have hd1 : false ∈ (Rd (F := F) m).duties ((c : Thread nD τ), .dma (sdS X (dsl q))) (q / 2) :=
    (duties_k m c (.sd X (dsl q)) hn).symm ▸ Finset.mem_singleton_self _
  have hd2 : false ∈ (Rd (F := F) m).duties (((tg X c : Dev nD) : Thread nD τ), .dma (rcS X (dsl q))) (q / 2) :=
    (duties_k m (tg X c) (.rc X (dsl q)) hn).symm ▸ Finset.mem_singleton_self _
  have hp1 : (Rd (F := F) m).payload ((c : Thread nD τ), .dma (sdS X (dsl q))) (q / 2) false = Back m c X q :=
    (payload_k m c (.sd X (dsl q)) (q / 2) false).trans (congrArg (Back m c X) (hop_dsl q))
  have hp2 : (Rd (F := F) m).payload (((tg X c : Dev nD) : Thread nD τ), .dma (rcS X (dsl q))) (q / 2) false = Ld m (tg X c) X q :=
    (payload_k m (tg X c) (.rc X (dsl q)) (q / 2) false).trans (congrArg (Ld m (tg X c) X) (hop_dsl q))
  subst hds
  unfold Slot FrT FrS
  iintro ⟨#HR, HP, HW, ⟨%fs, %hfs, HS⟩, ⟨%fd, HD⟩, #Hr2⟩ Hk
  ihave HP := (Pend_take c hk) $$ HP
  icases HP with ⟨⟨%W, HO⟩, Ht, HT⟩
  unfold ptok
  icases Ht with ⟨Ht2, Ht1⟩
  ihave HW := (Wt_reached c w (.cr X)) $$ HW
  icases HW with ⟨HW, #Hwc⟩
  ihave HW := (Wt_reached c w (.sd X (dsl q))) $$ HW
  icases HW with ⟨HW, #Hws⟩
  rw [hwc, hws]
  iapply (Rounds.wp_send_pointsTo_with 𝒱₀ ER (Rd m) (c : Thread nD τ) none (κ₁ := K (c, some (.sd X (dsl q)))) (κ₂ := K (tg X c, some (.rc X (dsl q))))
    (r₁ := q / 2) (r₂ := q / 2) (d₁ := false) (d₂ := false) (fd := fd) (q := sh) (fs := fs) (F := reached ER (cell c (.cr X)) q) hd1 hd2
    (rk (.is X q)) 0 NH (slot_credit X (dsl q)) (amount_k m c (.sd X (dsl q)) (q / 2) false) (amount_k m (tg X c) (.rc X (dsl q)) (q / 2) false)
    (OL c (k + 1)) (O₀ := OL c k) (OL_get hk) (W := W)
    (by
      rw [hp1]; refine .trans ?_ hB
      unfold Slot
      iintro H; iexists fs; isplitr; · ipureintro; exact hfs
      iexact H)
    (by
      rw [hp2]; unfold Ld LdP Slot
      rw [fr_tg, ← hv, ← hfs]
      iintro ⟨H, H'⟩
      isplitl [H]
      · iexists _
        isplitr; swap; · iexact H
        ipureintro
        exact read_landed X Y a (dsl q) (d := c) (d' := tg X c) fd fs
      iexact H')) $$ [HO Ht1 Ht2 HS HD]
  · isplitr; · iapply (Rec_inv m K c (.sd X (dsl q))) $$ HR
    isplitr; · iapply (Rec_inv m K (tg X c) (.rc X (dsl q))) $$ HR
    isplitl [HS]; · iexact HS
    isplitl [HD]
    · isplitl [HD]; · iexact HD
      iexact Hwc
    isplitl [HO]; · iexact HO
    isplitl [Ht1]; · iexact Ht1
    isplitr; · iexact Hws
    isplitl [Ht2]; · iexact Ht2
    iexact Hr2
  iintro ⟨HC, HO⟩
  iapply Hk
  isplitl [HO HT]
  · unfold Pend
    isplitl [HO]; · iexists W; iexact HO
    iexact HT
  isplitl [HW]; · iexact HW
  unfold SC
  iexact HC

omit [FloatOps F] in
/-- The staging buffer is a whole buffer: all of it, written whole. -/
theorem stM_set : (stM : Memref sig .tc .vmem S256x8192 .f32).view.set = Finset.univ := View.set_whole _
omit [FloatOps F] in
theorem stM_write (f : Buf (Elt F) ((stM : Memref sig .tc .vmem S256x8192 .f32).view.loc (c : Thread nD τ))) (w : FVec F S256x8192 .f32) :
    View.write (Elt F) (stM : Memref sig .tc .vmem S256x8192 .f32).view f w Finset.univ = w := View.write_whole_univ _ _ _

/-- Device `c` starts the copy of half `r` of its block of `x` into the staging buffer. -/
theorem step_copy {α : Type} {Q : α → sProp 𝕄} {kk : PUnit → Prog (TpuEff nD τ sig (Elt F) Λ₀ .tc) α}
    {h : Fin 2} {w : ℕ} {src : Memref sig .tc .hbm S256x8192 .f32} {dst : Memref sig .tc .vmem S256x8192 .f32} {sm : DmaSem sig}
    {hsrc : src.view.WordExact} {hdst : dst.view.WordExact} {hsem : DmaTarget.Typed (nD := nD) (p := .tc) .hbm (.dma sm) (.here dst)}
    (hsr : src = xhM h) (hds : dst = stM) (hs : sm = stS) (hw : cnt w .stg = h.val) :
    iprop(Rec m K ∗ Wt c w ∗ ((c : Thread nD τ).loc main_arg0 ↦[(xhM h).view.set]{fullShare} m ((c : Thread nD τ).loc main_arg0))
        ∗ (∃ f : Buf (Elt F) ((stM : Memref sig .tc .vmem S256x8192 .f32).view.loc (c : Thread nD τ)),
            (stM : Memref sig .tc .vmem S256x8192 .f32).view.loc (c : Thread nD τ) ↦{fullShare} f)
        ∗ dutyTok ER (cell c .stg) h.val false)
      ⊢ iprop(((Wt c w ∗ cred (tallyAt (cell c .stg) 0 NT)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma src (.here dst) (.dma sm) hsrc hdst hsem) kk) Q) := by
  subst hsr hds hs
  have hn : h.val < nr .stg := h.isLt
  have hd : false ∈ (Rd (F := F) m).duties ((c : Thread nD τ), .dma stS) h.val :=
    (duties_k m c .stg hn).symm ▸ Finset.mem_singleton_self _
  have hh : (⟨h.val % 2, Nat.mod_lt _ (by decide)⟩ : Fin 2) = h := Fin.ext (Nat.mod_eq_of_lt h.isLt)
  have hp : (Rd (F := F) m).payload ((c : Thread nD τ), .dma stS) h.val false = StP m c h :=
    (payload_k m c .stg h.val false).trans (congrArg (StP m c) hh)
  iintro ⟨#HR, HW, Hx, ⟨%f, Hs⟩, Ht⟩ Hk
  ihave HW := (Wt_reached c w .stg) $$ HW
  icases HW with ⟨HW, #Hw⟩
  rw [hw]
  iapply (Rounds.wp_copy_pointsTo 𝒱₀ ER (Rd m) (c : Thread nD τ) none (κ := K (c, some .stg)) (r := h.val) (d := false) (q := fullShare)
    (fs := m ((c : Thread nD τ).loc main_arg0)) (fd := f) hd 0 NT rfl (amount_k m c .stg h.val false)
    (by
      rw [hp]; unfold StP
      iintro ⟨H, H'⟩
      isplitl [H]
      · rw [stM_set, stM_write]
        iexact H
      iexact H')) $$ [Hx Hs Ht]
  · isplitr; · iapply (Rec_inv m K c .stg) $$ HR
    isplitl [Hx]; · iexact Hx
    isplitl [Hs]; · rw [stM_set]; iexact Hs
    isplitl [Ht]; · iexact Ht
    iexact Hw
  iintro HC
  iapply Hk
  isplitl [HW]; · iexact HW
  iexact HC

end Pay

/-! ## Waits -/

section Wait

variable (K : Dev nD × Option Kn → ℕ) (c : Dev nD)

/-- A wait: with what covers it, the payload of its round. -/
theorem step_wait {α : Type} {Q : α → sProp 𝕄} {kk : PUnit → Prog (TpuEff nD τ sig (Elt F) Λ₀ .tc) α}
    {op : TpuEff nD τ sig (Elt F) Λ₀ .tc PUnit} {e : WE} {k n u : ℕ} (X : sProp 𝕄)
    (hop : ∀ R : PUnit → sProp 𝕄, wpE (defs₀ (F := F)) 𝒱₀ (c : Thread nD τ) none Set.univ op R = waitSpec (c : Thread nD τ) Set.univ (csem e.kn) (kamt e.kn) R)
    (he : wl[n]? = some e) (hu : u ≤ k) (hu' : u < 100)
    (hX : iprop(X ∗ wcr c e) ⊢ cred (tallyAt (cell c e.kn) u (kamt e.kn))) :
    iprop(Rec m K ∗ Pend c k ∗ Wt c n ∗ X)
      ⊢ iprop(((Pend c k ∗ Wt c (n + 1) ∗ kPay m c e.kn e.rd) -∗ wp frame (wpE (defs₀ (F := F)) 𝒱₀ (c : Thread nD τ) none) Set.univ (kk ⟨⟩) Q)
          -∗ wp frame (wpE (defs₀ (F := F)) 𝒱₀ (c : Thread nD τ) none) Set.univ (.op op kk) Q) := by
  have hn : e.rd < nr e.kn := ok_wl _ (List.mem_of_getElem? he)
  unfold Pend
  iintro ⟨#HR, ⟨⟨%W, HO⟩, HT⟩, HW, HX⟩ Hk
  ihave HW := (Wt_take c he) $$ HW
  icases HW with ⟨Hat, Hc, HW⟩
  ihave Hc := hX $$ [HX Hc]
  · isplitl [HX]; · iexact HX
    iexact Hc
  iapply (Rounds.wp_wait_rest_token 𝒱₀ ER (Rd m) (c : Thread nD τ) none (κ := K (c, some e.kn)) (sm := csem e.kn) (k' := kamt e.kn)
      hop (Set.mem_univ _) u (O := OL c k) (W := W) (R := e.rd) (m := 0) (T := ∅)
      (by rw [Nat.zero_add]; exact (expect_k m c e.kn hn).symm)) $$ [Hc HO Hat]
  · isplitr; · iapply (Rec_inv m K c e.kn) $$ HR
    isplitl [Hc]; · iexact Hc
    isplitl [HO]; · iexact HO
    isplitr; · iapply (mayWait c (csem e.kn) hu hu'); iapply (Rec_lev m K) $$ HR
    iexact Hat
  iintro ⟨HO, Hat, #Hr, Hp⟩
  ihave Hp := (Entails.of_eq (rest_k m c e.kn hn)) $$ Hp
  iapply Hk
  isplitl [HO HT]
  · isplitl [HO]; · iexists _; iexact HO
    iexact HT
  isplitl [HW Hat]
  · iapply HW
    isplitl [Hat]; · iexact Hat
    iexact Hr
  iexact Hp

/-- Hop `q` of chain `X` has landed. -/
theorem step_recv {α : Type} {Q : α → sProp 𝕄} {kk : PUnit → Prog (TpuEff nD τ sig (Elt F) Λ₀ .tc) α}
    {X : Fin 4} {q k n : ℕ} {sp sp' : Space} {s s' : Shape} {e e' : EltTy} {sm : DmaSem sig}
    {src : Memref sig .tc sp' s' e'} {dst : Memref sig .tc sp s e} {hsrc : src.view.WordExact} {hdst : dst.view.WordExact}
    (hs : sm = rcS X (dsl q)) (hN : dst.view.dmaCredit = NH) (he : wl[n]? = some (.rc X q)) (hu : rk (.is X q) ≤ k) (hu' : rk (.is X q) < 100) :
    iprop(Rec m K ∗ Pend c k ∗ Wt c n)
      ⊢ iprop(((Pend c k ∗ Wt c (n + 1) ∗ LdP m c X q ∗ reached ER (cell (fr X c) (.cr X)) q)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  have hp : kPay m c (WE.rc X q).kn (WE.rc X q).rd = Ld m c X q := congrArg (Ld m c X) (hop_dsl q)
  refine .trans ?_ ((step_wait m K c (k := k) (n := n) (e := .rc X q) (u := rk (.is X q)) (kk := kk) (Q := Q)
    (op := .waitDma2 (rcS X (dsl q)) src dst hsrc hdst) iprop(emp)
    (fun R => by rw [wpE_waitDma2_eq, hN]; rfl) he hu hu' (by
      unfold wcr WE.kn
      iintro ⟨-, H⟩; iexact H)).trans ?_)
  · iintro ⟨H1, H2, H3⟩
    isplitl [H1]; · iexact H1
    isplitl [H2]; · iexact H2
    isplitl [H3]; · iexact H3
    iempintro
  · rw [hp]; unfold Ld; exact .rfl

/-- Hop `q` of chain `X` has left: its source is free again. -/
theorem step_sent {α : Type} {Q : α → sProp 𝕄} {kk : PUnit → Prog (TpuEff nD τ sig (Elt F) Λ₀ .tc) α}
    {X : Fin 4} {q k n : ℕ} {sp sp' : Space} {s s' : Shape} {e e' : EltTy} {sm : DmaSem sig}
    {src : Memref sig .tc sp' s' e'} {dst : Memref sig .tc sp s e} {hsrc : src.view.WordExact} {hdst : dst.view.WordExact}
    (hs : sm = sdS X (dsl q)) (hN : dst.view.dmaCredit = NH) (he : wl[n]? = some (.sd X q)) :
    iprop(Rec m K ∗ Pend c k ∗ Wt c n ∗ SC c X q)
      ⊢ iprop(((Pend c k ∗ Wt c (n + 1) ∗ Back m c X q)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  have hp : kPay m c (WE.sd X q).kn (WE.sd X q).rd = Back m c X q := congrArg (Back m c X) (hop_dsl q)
  refine .trans ?_ ((step_wait m K c (k := k) (n := n) (e := .sd X q) (u := 0) (kk := kk) (Q := Q)
    (op := .waitDma2 (sdS X (dsl q)) src dst hsrc hdst) (SC c X q)
    (fun R => by rw [wpE_waitDma2_eq, hN]; rfl) he (Nat.zero_le _) (by decide) (by
      unfold SC
      iintro ⟨H, -⟩; iexact H)).trans ?_)
  · exact .rfl
  · rw [hp]

/-- The copy of half `h` into the staging buffer is done. -/
theorem step_copied {α : Type} {Q : α → sProp 𝕄} {kk : PUnit → Prog (TpuEff nD τ sig (Elt F) Λ₀ .tc) α}
    {h : Fin 2} {k n : ℕ} {sp sp' : Space} {s s' : Shape} {e e' : EltTy} {sm : DmaSem sig}
    {src : Memref sig .tc sp' s' e'} {dst : Memref sig .tc sp s e} {hsrc : src.view.WordExact} {hdst : dst.view.WordExact}
    (hs : sm = stS) (hN : dst.view.dmaCredit = NT) (he : wl[n]? = some (.stg h.val)) :
    iprop(Rec m K ∗ Pend c k ∗ Wt c n ∗ cred (tallyAt (cell c .stg) 0 NT))
      ⊢ iprop(((Pend c k ∗ Wt c (n + 1) ∗ StP m c h)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  have hh : (⟨h.val % 2, Nat.mod_lt _ (by decide)⟩ : Fin 2) = h := Fin.ext (Nat.mod_eq_of_lt h.isLt)
  have hp : kPay m c (WE.stg h.val).kn (WE.stg h.val).rd = StP m c h := congrArg (StP m c) hh
  refine .trans ?_ ((step_wait m K c (k := k) (n := n) (e := .stg h.val) (u := 0) (kk := kk) (Q := Q)
    (op := .waitDma2 stS src dst hsrc hdst) (cred (tallyAt (cell c .stg) 0 NT))
    (fun R => by rw [wpE_waitDma2_eq, hN]; rfl) he (Nat.zero_le _) (by decide) (by
      iintro ⟨H, -⟩; iexact H)).trans ?_)
  · exact .rfl
  · rw [hp]

/-- Credit `i` of chain `X` has come: the slot of the next device is free, and its round open. -/
theorem step_credit {α : Type} {Q : α → sProp 𝕄} {kk : PUnit → Prog (TpuEff nD τ sig (Elt F) Λ₀ .tc) α}
    {X : Fin 4} {i k n : ℕ} {sm : Sem sig} {z : Int}
    (hs : sm = crS X) (hz : z = ((1 : ℕ) : Int)) (he : wl[n]? = some (.cr X i)) (hu : rk (.cr X i) ≤ k) (hu' : rk (.cr X i) < 100) :
    iprop(Rec m K ∗ Pend c k ∗ Wt c n)
      ⊢ iprop(((Pend c k ∗ Wt c (n + 1) ∗ FrT c X (i + 1))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sm z) kk) Q) := by
  subst hs hz
  refine .trans ?_ ((step_wait m K c (k := k) (n := n) (e := .cr X i) (u := rk (.cr X i)) (kk := kk) (Q := Q)
    (op := .semWait (crS X) ((1 : ℕ) : Int)) iprop(emp)
    (fun R => by rw [wpE_semWait_eq]; rfl) he hu hu' (by
      unfold wcr WE.kn
      iintro ⟨-, H⟩; iexact H)).trans ?_)
  · iintro ⟨H1, H2, H3⟩
    isplitl [H1]; · iexact H1
    isplitl [H2]; · iexact H2
    isplitl [H3]; · iexact H3
    iempintro
  · exact .rfl

end Wait

end Cert.Ring
end
-- ==== Proof.Res.lean ====
/-
A device's state as a list of what it holds, and every step of the kernel as a change of that list.
-/
module

public import proofs.«01_k».proof.Proof.Mem
public import proofs.«01_k».proof.Proof.Steps

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (K : Dev nD × Option Kn → ℕ) (c : Dev nD)

/-- What a device may hold: what it has still to pay and to wait for, the blocks of the result stored so far, its place at
    the barrier, the other
    buffers, its own slots (whole, as lent to a hop, as kept), landed slots, free slots, slots of the next device, a
    receiver's word, and the credit of a hop under way. -/
inductive Rs where
  | pend (k : ℕ) | wt (n : ℕ) | out (n : ℕ)
  | b0 | b1
  | tb | wi | wf | wb | sf | sc
  | xs (h : Fin 2) | st (h : Fin 2) | tk (h : Fin 2)
  | own (b : Fin 2) | os (X : Fin 4) | kp (b : Fin 2)
  | fs (X : Fin 4) (s : Fin 2) | ft (X : Fin 4) (q : ℕ) | ld (X : Fin 4) (q : ℕ) | rch (X : Fin 4) (q : ℕ) | go (X : Fin 4) (q : ℕ)
  deriving DecidableEq

/-- The chain whose first hop starts in a device's own slot `b`. -/
abbrev ob (b : Fin 2) : Fin 4 := ⟨b.val, by omega⟩

/-- What each of them is. -/
def res : Rs → sProp 𝕄
  | .pend k => Pend c k
  | .wt n => Wt c n
  | .out n => Out m c n
  | .b0 => iprop(atPos ER (barCell c) 0 ∅ 0 ∗ cred (tallyAt (barCell c) 2 2))
  | .b1 => atPos ER (barCell c) 1 ∅ 0
  | .tb => Tb c
  | .wi => Wi m c
  | .wf => Wf c
  | .wb => Wb m c
  | .sf => iprop(∃ f : Buf (Elt F) ((stM : Memref sig .tc .vmem S256x8192 .f32).view.loc (c : Thread nD τ)),
            (stM : Memref sig .tc .vmem S256x8192 .f32).view.loc (c : Thread nD τ) ↦{fullShare} f)
  | .sc => cred (tallyAt (cell c .stg) 0 NT)
  | .xs h => iprop((c : Thread nD τ).loc main_arg0 ↦[(xhM h).view.set]{fullShare} m ((c : Thread nD τ).loc main_arg0))
  | .st h => StP m c h
  | .tk h => dutyTok ER (cell c .stg) h.val false
  | .own b => Slot c (ob b) 0 fullShare (chk m c b)
  | .os X => OwnS m c X
  | .kp b => Slot c (ob b) 0 shk (chk m c b)
  | .fs X s => FrS c X s
  | .ft X q => FrT c X q
  | .ld X q => LdP m c X q
  | .rch X q => reached ER (cell (fr X c) (.cr X)) q
  | .go X q => SC c X q

/-- All of a list. -/
def sepL : List Rs → sProp 𝕄
  | [] => iprop(emp)
  | r :: L => iprop(res m c r ∗ sepL L)

theorem sepL_cons (r : Rs) (L : List Rs) : sepL m c (r :: L) = iprop(res m c r ∗ sepL m c L) := rfl

/-- A device's state: the invariants, and all that it holds. -/
def St (L : List Rs) : sProp 𝕄 := iprop(Rec m K ∗ sepL m c L)

/-- Whether a list holds another, and what is left of it. -/
def sub : List Rs → List Rs → Bool
  | [], _ => true
  | r :: p, L => decide (r ∈ L) && sub p (L.erase r)
def rest : List Rs → List Rs → List Rs
  | [], L => L
  | r :: p, L => rest p (L.erase r)

theorem sepL_erase {r : Rs} : ∀ {L : List Rs}, r ∈ L → sepL m c L ⊢ iprop(res m c r ∗ sepL m c (L.erase r))
  | [], h => absurd h (List.not_mem_nil)
  | a :: L, h => by
    by_cases e : a = r
    · subst e; rw [List.erase_cons_head]; exact .rfl
    · rw [List.erase_cons_tail (by simpa using e)]
      have h' : r ∈ L := by
        rcases List.mem_cons.mp h with h | h
        · exact absurd h.symm e
        · exact h
      unfold sepL
      iintro ⟨Ha, HL⟩
      ihave HL := (sepL_erase h') $$ HL
      icases HL with ⟨Hr, HL⟩
      isplitl [Hr]; · iexact Hr
      isplitl [Ha]; · iexact Ha
      iexact HL

theorem sepL_take : ∀ {p L : List Rs}, sub p L = true → sepL m c L ⊢ iprop(sepL m c p ∗ sepL m c (rest p L))
  | [], L, _ => by
    show _ ⊢ iprop(emp ∗ sepL m c L)
    iintro H
    isplitr; · iempintro
    iexact H
  | r :: p, L, h => by
    unfold sub at h
    rw [Bool.and_eq_true] at h
    iintro HL
    ihave HL := (sepL_erase m c (of_decide_eq_true h.1)) $$ HL
    icases HL with ⟨Hr, HL⟩
    ihave HL := (sepL_take h.2) $$ HL
    icases HL with ⟨Hp, HL⟩
    isplitl [Hr Hp]
    · rw [sepL_cons]
      isplitl [Hr]; · iexact Hr
      iexact Hp
    iexact HL

theorem sepL_append : ∀ p L : List Rs, iprop(sepL m c p ∗ sepL m c L) ⊢ sepL m c (p ++ L)
  | [], L => by
    show iprop(emp ∗ sepL m c L) ⊢ _
    iintro ⟨-, H⟩; iexact H
  | r :: p, L => by
    show iprop((res m c r ∗ sepL m c p) ∗ sepL m c L) ⊢ iprop(res m c r ∗ sepL m c (p ++ L))
    iintro ⟨⟨Hr, Hp⟩, HL⟩
    isplitl [Hr]; · iexact Hr
    iapply (sepL_append p L)
    isplitl [Hp]; · iexact Hp
    iexact HL

/-- A step: it takes some of what a device holds and gives other things for it. -/
theorem St_step {pre post L : List Rs} {A B : sProp 𝕄} (hr : iprop(Rec m K ∗ sepL m c pre) ⊢ iprop((sepL m c post -∗ A) -∗ B))
    (h : sub pre L = true) (hk : St m K c (post ++ rest pre L) ⊢ A) : St m K c L ⊢ B := by
  unfold St at hk ⊢
  iintro ⟨#HR, HL⟩
  ihave HL := (sepL_take m c h) $$ HL
  icases HL with ⟨Hp, HL⟩
  iapply hr $$ [Hp]
  · isplitr; · iexact HR
    iexact Hp
  iintro Hp
  iapply hk
  isplitr; · iexact HR
  iapply (sepL_append m c post _)
  isplitl [Hp]; · iexact Hp
  iexact HL

/-- The same for a step that reads something unknown. -/
theorem St_step_any {β : Type} {pre post L : List Rs} {A : β → sProp 𝕄} {B : sProp 𝕄}
    (hr : iprop(Rec m K ∗ sepL m c pre) ⊢ iprop((∀ w, sepL m c post -∗ A w) -∗ B))
    (h : sub pre L = true) (hk : ∀ w, St m K c (post ++ rest pre L) ⊢ A w) : St m K c L ⊢ B := by
  unfold St at hk ⊢
  iintro ⟨#HR, HL⟩
  ihave HL := (sepL_take m c h) $$ HL
  icases HL with ⟨Hp, HL⟩
  iapply hr $$ [Hp]
  · isplitr; · iexact HR
    iexact Hp
  iintro %w Hp
  iapply (hk w)
  isplitr; · iexact HR
  iapply (sepL_append m c post _)
  isplitl [Hp]; · iexact Hp
  iexact HL

/-- A change of what a device holds that is no step. -/
theorem St_mono {pre post L : List Rs} {A : sProp 𝕄} (hr : sepL m c pre ⊢ sepL m c post)
    (h : sub pre L = true) (hk : St m K c (post ++ rest pre L) ⊢ A) : St m K c L ⊢ A :=
  St_step m K c (by
    iintro ⟨-, Hp⟩ Hk
    iapply Hk
    iapply hr $$ Hp) h hk

/-- The end of a part. -/
theorem St_ret {α : Type} {Q : α → sProp 𝕄} {v : α} {L L' : List Rs} (h : sub L' L = true := by decide +kernel) (hk : St m K c L' ⊢ Q v) :
    St m K c L ⊢ wp frame (wpE (defs₀ (F := F)) 𝒱₀ (c : Thread nD τ) none) Set.univ (.ret v) Q := by
  rw [wp_ret]
  unfold St at hk ⊢
  iintro ⟨#HR, HL⟩
  ihave HL := (sepL_take m c h) $$ HL
  icases HL with ⟨Hp, -⟩
  imodintro
  iapply hk
  isplitr; · iexact HR
  iexact Hp

/-- A side condition that holds. -/
theorem s_assume {α : Type} {Q : α → sProp 𝕄} {L : List Rs} {P : Prop} {d : Decidable P} {kk : PLift P → Prog (TpuEff nD τ sig (Elt F) Λ₀ .tc) α}
    (h : P) (hk : St m K c L ⊢ wp frame (wpE (defs₀ (F := F)) 𝒱₀ (c : Thread nD τ) none) Set.univ (kk ⟨h⟩) Q) :
    St m K c L ⊢ wp frame (wpE (defs₀ (F := F)) 𝒱₀ (c : Thread nD τ) none) Set.univ (.op (.assume P d) kk) Q :=
  hk.trans (wp_assume 𝒱₀ (c : Thread nD τ) none Set.univ h)

/-! ## Changes that are no step -/

theorem l1 (a : Rs) : sepL m c [a] ⊢ res m c a := by
  show iprop(_ ∗ emp) ⊢ _
  iintro ⟨H, -⟩; iexact H
theorem l1' (a : Rs) : res m c a ⊢ sepL m c [a] := by
  show _ ⊢ iprop(_ ∗ emp)
  iintro H
  isplitl; · iexact H
  iempintro

theorem own_lo (b : Fin 2) : OwnS m c ⟨b.val, by omega⟩ = Slot c (ob b) 0 fullShare.left (chk m c b) := by
  unfold OwnS
  rw [show shr ⟨b.val, by omega⟩ = fullShare.left from if_pos b.isLt, show hf ⟨b.val, by omega⟩ = b by revert b; decide,
    show ow ⟨b.val, by omega⟩ = ob b by revert b; decide]
theorem own_hi (b : Fin 2) : OwnS m c ⟨b.val + 2, by omega⟩ = Slot c (ob b) 0 fullShare.right.left (chk m c b) := by
  unfold OwnS
  rw [show shr ⟨b.val + 2, by omega⟩ = fullShare.right.left from if_neg (by show ¬ b.val + 2 < 2; omega),
    show hf ⟨b.val + 2, by omega⟩ = b by revert b; decide, show ow ⟨b.val + 2, by omega⟩ = ob b by revert b; decide]

/-- A device's own slot comes apart: for its two hops, and a part to read it by. -/
theorem lend (b : Fin 2) : sepL m c [.own b] ⊢ sepL m c [.os ⟨b.val, by omega⟩, .os ⟨b.val + 2, by omega⟩, .kp b] := by
  refine (l1 m c _).trans ?_
  have e1 := own_lo m c b
  have e2 := own_hi m c b
  show Slot c (ob b) 0 fullShare (chk m c b) ⊢ iprop(OwnS m c ⟨b.val, by omega⟩ ∗ OwnS m c ⟨b.val + 2, by omega⟩ ∗ Slot c (ob b) 0 shk (chk m c b) ∗ emp)
  rw [e1, e2]
  iintro H
  ihave H := (slot_split c fullShare _) $$ H
  icases H with ⟨H1, H⟩
  ihave H := (slot_split c fullShare.right _) $$ H
  icases H with ⟨H2, H3⟩
  isplitl [H1]; · iexact H1
  isplitl [H2]; · iexact H2
  isplitl [H3]; · iexact H3
  iempintro

/-- Once both hops have left, the slot is free. -/
theorem unlend (b : Fin 2) : sepL m c [.os ⟨b.val, by omega⟩, .os ⟨b.val + 2, by omega⟩, .kp b] ⊢ sepL m c [.fs (ob b) 0] := by
  refine .trans ?_ (l1' m c _)
  have e1 := own_lo m c b
  have e2 := own_hi m c b
  show iprop(OwnS m c ⟨b.val, by omega⟩ ∗ OwnS m c ⟨b.val + 2, by omega⟩ ∗ Slot c (ob b) 0 shk (chk m c b) ∗ emp) ⊢ FrS c (ob b) 0
  rw [e1, e2]
  iintro ⟨H1, H2, H3, -⟩
  iapply (slot_free c (chk m c b))
  iapply (slot_join c fullShare _)
  isplitl [H1]; · iexact H1
  iapply (slot_join c fullShare.right _)
  isplitl [H2]; · iexact H2
  iexact H3

/-- A landed slot that has been read and sent on is free. -/
theorem ld_free (X : Fin 4) (q : ℕ) : sepL m c [.ld X q] ⊢ sepL m c [.fs X (dsl q)] :=
  (l1 m c _).trans ((slot_free c _).trans (l1' m c (.fs X (dsl q))))

/-- A copy's result comes apart: the staging buffer, and the half of `x` it was made from. -/
theorem st_free (h : Fin 2) : sepL m c [.st h] ⊢ sepL m c [.sf, .xs h] := by
  refine (l1 m c _).trans ?_
  show StP m c h ⊢ iprop((∃ f : Buf (Elt F) ((stM : Memref sig .tc .vmem S256x8192 .f32).view.loc (c : Thread nD τ)),
            (stM : Memref sig .tc .vmem S256x8192 .f32).view.loc (c : Thread nD τ) ↦{fullShare} f)
    ∗ ((c : Thread nD τ).loc main_arg0 ↦[(xhM h).view.set]{fullShare} m ((c : Thread nD τ).loc main_arg0)) ∗ emp)
  unfold StP
  iintro ⟨H, H'⟩
  isplitl [H]; · iexists _; iexact H
  isplitl [H']; · iexact H'
  iempintro

end Cert.Ring
end
-- ==== Proof.Rules.lean ====
/-
Every step of the kernel, as a change of the list of what a device holds.
-/
module

public import proofs.«01_k».proof.Proof.Res

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable {m : (ℓ : Loc nD τ sig) → Buf (Elt F) ℓ} {K : Dev nD × Option Kn → ℕ} {c : Dev nD}

/-! ## Signals and remote copies -/

/-- What a device gives its neighbours at the barrier: the slots their first hops land in. -/
theorem bar_pay (d : Bool) (w : ℕ) (h : ∀ X : Fin 4, cnt w (.rc X 1) = 0) :
    iprop(Wt c w ∗ sepL m c (if d then [.fs 2 1, .fs 3 1] else [.fs 0 1, .fs 1 1])) ⊢ iprop(Wt c w ∗ barPay (if d then rt c else lf c) d) := by
  have e : ∀ X : Fin 4, FrT (F := F) (fr X c) X 0 = iprop(FrS c X 1 ∗ reached ER (cell c (.rc X 1)) (cnt w (.rc X 1))) := fun X => by
    unfold FrT; rw [tg_fr, h X]; rfl
  cases d
  · rw [if_neg Bool.false_ne_true, if_neg Bool.false_ne_true]
    unfold barPay
    rw [if_neg Bool.false_ne_true, show lf c = fr 0 c from rfl, e 0, show fr 0 c = fr 1 c from rfl, e 1]
    simp only [sepL, res]
    iintro ⟨HW, H0, H1, -⟩
    ihave HW := (Wt_reached c w (.rc 0 1)) $$ HW
    icases HW with ⟨HW, #Hr0⟩
    ihave HW := (Wt_reached c w (.rc 1 1)) $$ HW
    icases HW with ⟨HW, #Hr1⟩
    isplitl [HW]; · iexact HW
    isplitl [H0]
    · isplitl [H0]; · iexact H0
      iexact Hr0
    isplitl [H1]; · iexact H1
    iexact Hr1
  · rw [if_pos rfl, if_pos rfl]
    unfold barPay
    rw [if_pos rfl, show rt c = fr 2 c from rfl, e 2, show fr 2 c = fr 3 c from rfl, e 3]
    simp only [sepL, res]
    iintro ⟨HW, H0, H1, -⟩
    ihave HW := (Wt_reached c w (.rc 2 1)) $$ HW
    icases HW with ⟨HW, #Hr0⟩
    ihave HW := (Wt_reached c w (.rc 3 1)) $$ HW
    icases HW with ⟨HW, #Hr1⟩
    isplitl [HW]; · iexact HW
    isplitl [H0]
    · isplitl [H0]; · iexact H0
      iexact Hr0
    isplitl [H1]; · iexact H1
    iexact Hr1

/-- A signal to a neighbour's barrier. -/
theorem s_bar {α : Type} {Q : α → sProp 𝕄} {L : List Rs} {kk : PUnit → Prog (TpuEff nD τ sig (Elt F) Λ₀ .tc) α}
    {c' : Dev nD} {sem : Sem sig} {z : Int} (d : Bool) (k w : ℕ) (hc : c' = if d then rt c else lf c)
    (hs : sem = barS := by rfl) (hz : z = ((1 : ℕ) : Int) := by rfl) (hp : payL[k]? = some (.bar d) := by decide +kernel)
    (hw : ∀ X : Fin 4, cnt w (.rc X 1) = 0 := by decide +kernel)
    (hL : sub ([.pend k, .wt w] ++ if d then [.fs 2 1, .fs 3 1] else [.fs 0 1, .fs 1 1]) L = true := by decide +kernel)
    (hk : St m K c ([.pend (k + 1), .wt w] ++ rest ([.pend k, .wt w] ++ if d then [.fs 2 1, .fs 3 1] else [.fs 0 1, .fs 1 1]) L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.semSignal (c' : Thread nD τ) sem z) kk) Q :=
  St_step m K c (pre := [.pend k, .wt w] ++ if d then [.fs 2 1, .fs 3 1] else [.fs 0 1, .fs 1 1]) (post := [.pend (k + 1), .wt w])
    (by
      subst hs hz
      have hpc : pcell c (.bar d) = ((c' : Thread nD τ), .reg barS) := by subst hc; cases d <;> rfl
      have hd : d ∈ (Rd (F := F) m).duties ((c' : Thread nD τ), .reg barS) 0 := (duties_bar m c').symm ▸ Finset.mem_univ _
      have hpp : (Rd (F := F) m).payload ((c' : Thread nD τ), .reg barS) 0 d = barPay c' d := payload_bar m c' 0 d
      show iprop(_ ∗ (res m c (.pend k) ∗ res m c (.wt w) ∗ sepL m c (if d then [.fs 2 1, .fs 3 1] else [.fs 0 1, .fs 1 1]))) ⊢ _
      simp only [sepL, res]
      iintro ⟨#HR, HP, HW, HS⟩ Hk
      ihave HP := (Pend_take c hp) $$ HP
      icases HP with ⟨⟨%W, HO⟩, Ht, HT⟩
      ihave HS := (bar_pay d w hw) $$ [HW HS]
      · isplitl [HW]; · iexact HW
        iexact HS
      icases HS with ⟨HW, HS⟩
      iapply (Rounds.wp_signal 𝒱₀ ER (Rd m) (c : Thread nD τ) none (dst := (c' : Thread nD τ)) (κ := K (c', none)) (d := d)
        hd (amount_bar m c' 0 d) 2 (O₀ := OL c k) (OL c (k + 1)) (by rw [OL_get hp, hpc]; rfl)) $$ [HO Ht HS]
      · isplitr
        · ihave H := (Rec_bar m K c') $$ HR
          icases H with ⟨H, -⟩
          iexact H
        isplitl [HO]; · iexact HO
        isplitl [Ht]
        · rw [← hpc]
          iapply (Entails.of_eq (show (ptok c (.bar d) : sProp 𝕄) = dutyTok ER (pcell c (.bar d)) 0 d from rfl)) $$ Ht
        isplitl [HS]; · rw [hpp, hc]; iexact HS
        ihave H := (Rec_bar m K c') $$ HR
        icases H with ⟨-, H⟩
        iexact H
      iintro HO
      iapply Hk
      isplitl [HO HT]
      · unfold Pend
        isplitl [HO]; · iexists W; iexact HO
        iexact HT
      isplitl [HW]; · iexact HW
      iempintro) hL hk

/-- Both neighbours are at the barrier: the slots of theirs for the first hops. -/
theorem s_met {α : Type} {Q : α → sProp 𝕄} {L : List Rs} {kk : PUnit → Prog (TpuEff nD τ sig (Elt F) Λ₀ .tc) α}
    {sem : Sem sig} {z : Int} (hs : sem = barS := by rfl) (hz : z = ((2 : ℕ) : Int) := by rfl)
    (hL : sub [.pend 2, .b0] L = true := by decide +kernel)
    (hk : St m K c ([.pend 2, .b1, .ft 0 0, .ft 1 0, .ft 2 0, .ft 3 0] ++ rest [.pend 2, .b0] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.semWait sem z) kk) Q :=
  St_step m K c (pre := [.pend 2, .b0]) (post := [.pend 2, .b1, .ft 0 0, .ft 1 0, .ft 2 0, .ft 3 0])
    (by
      subst hs hz
      simp only [sepL, res]
      unfold Pend
      iintro ⟨#HR, ⟨⟨%W, HO⟩, HT⟩, ⟨Hat, Hc⟩, -⟩ Hk
      iapply (Rounds.wp_wait_rest_token 𝒱₀ ER (Rd m) (c : Thread nD τ) none (κ := K (c, none)) (sm := .reg barS) (k' := 2)
          (fun R => by rw [wpE_semWait_eq]) (Set.mem_univ _) 2 (O := OL c 2) (W := W) (R := 0) (m := 0) (T := ∅)
          (by rw [Nat.zero_add]; exact (expect_bar m c).symm)) $$ [Hc HO Hat]
      · isplitr
        · ihave H := (Rec_bar m K c) $$ HR
          icases H with ⟨H, -⟩
          iexact H
        isplitl [Hc]; · iexact Hc
        isplitl [HO]; · iexact HO
        isplitr; · iapply (mayWait c (.reg barS) (u := 2) (k := 2) le_rfl (by omega)); iapply (Rec_lev m K) $$ HR
        iexact Hat
      iintro ⟨HO, Hat, -, Hp⟩
      ihave Hp := (Entails.of_eq (rest_bar m c)) $$ Hp
      unfold barPay
      rw [if_neg Bool.false_ne_true, if_pos rfl]
      icases Hp with ⟨⟨H0, H1⟩, H2, H3⟩
      iapply Hk
      isplitl [HO HT]
      · isplitl [HO]; · iexists _; iexact HO
        iexact HT
      isplitl [Hat]; · iexact Hat
      isplitl [H0]; · iexact H0
      isplitl [H1]; · iexact H1
      isplitl [H2]; · iexact H2
      isplitl [H3]; · iexact H3
      iempintro) hL hk

/-- A credit: a free slot is given to the device it is filled from. -/
theorem s_signal {α : Type} {Q : α → sProp 𝕄} {L : List Rs} {kk : PUnit → Prog (TpuEff nD τ sig (Elt F) Λ₀ .tc) α}
    {c' : Dev nD} {sem : Sem sig} {z : Int} (X : Fin 4) (n k w : ℕ) (hc : c' = fr X c)
    (hs : sem = crS X := by rfl) (hz : z = ((1 : ℕ) : Int) := by rfl) (hp : payL[k]? = some (.cr X n) := by decide +kernel)
    (hw : cnt w (.rc X (dsl (n + 1))) = (n + 1) / 2 := by decide +kernel)
    (hL : sub [.pend k, .wt w, .fs X (dsl (n + 1)), .rch X n] L = true := by decide +kernel)
    (hk : St m K c ([.pend (k + 1), .wt w] ++ rest [.pend k, .wt w, .fs X (dsl (n + 1)), .rch X n] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.semSignal (c' : Thread nD τ) sem z) kk) Q :=
  St_step m K c (pre := [.pend k, .wt w, .fs X (dsl (n + 1)), .rch X n]) (post := [.pend (k + 1), .wt w])
    (by
      iintro ⟨#HR, HL⟩ Hk
      simp only [sepL, res]
      icases HL with ⟨HP, HW, HF, Hr, -⟩
      iapply (step_signal m K c hc hs hz hp hw) $$ [HP HW HF Hr]
      · isplitr; · iexact HR
        isplitl [HP]; · iexact HP
        isplitl [HW]; · iexact HW
        isplitl [HF]; · iexact HF
        iexact Hr
      iintro ⟨HP, HW⟩
      iapply Hk
      isplitl [HP]; · iexact HP
      isplitl [HW]; · iexact HW
      iempintro) hL hk

/-- A chain's first hop, from the device's own slot. -/
theorem s_first {α : Type} {Q : α → sProp 𝕄} {L : List Rs} {kk : PUnit → Prog (TpuEff nD τ sig (Elt F) Λ₀ .tc) α}
    {c' : Dev nD} {src : Memref sig .tc .vmem S256x8192 .bf16} {dst : Memref sig (Dev.tc c' : Thread nD τ).2.kind .vmem S256x8192 .bf16}
    {s1 s2 : DmaSem sig} {hsc : dst.view.ref.isScScratch = false}
    {hsrc : src.view.WordExact} {hdst : dst.view.WordExact}
    {hsem : DmaTarget.Typed .vmem (.dma s2) (.remote (Dev.tc c' : Thread nD τ) dst (.dma s1) hsc)}
    (X : Fin 4) (k w : ℕ) (hc : c' = tg X c) (hsr : src = slotM (ow X) 0 := by rfl)
    (hds : dst = slotM X (dsl 0) := by rfl) (h1 : s1 = sdS X (dsl 0) := by rfl) (h2 : s2 = rcS X (dsl 0) := by rfl)
    (hp : payL[k]? = some (.is X 0) := by decide +kernel)
    (hwc : cnt w (.cr X) = 0 := by decide +kernel) (hws : cnt w (.sd X (dsl 0)) = 0 / 2 := by decide +kernel)
    (hL : sub [.pend k, .wt w, .os X, .ft X 0] L = true := by decide +kernel)
    (hk : St m K c ([.pend (k + 1), .wt w, .go X 0] ++ rest [.pend k, .wt w, .os X, .ft X 0] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.enqueueDma src (.remote (Dev.tc c' : Thread nD τ) dst (.dma s1) hsc) (.dma s2) hsrc hdst hsem) kk) Q :=
  St_step m K c (pre := [.pend k, .wt w, .os X, .ft X 0]) (post := [.pend (k + 1), .wt w, .go X 0])
    (by
      iintro ⟨#HR, HL⟩ Hk
      simp only [sepL, res, OwnS]
      icases HL with ⟨HP, HW, HS, HF, -⟩
      iapply (step_issue m K c hc hsr hds h1 h2 hp hwc hws (congrArg (fun d => chk m d (hf X)) (org_tg_zero c X).symm) (.rfl)) $$ [HP HW HS HF]
      · isplitr; · iexact HR
        isplitl [HP]; · iexact HP
        isplitl [HW]; · iexact HW
        isplitl [HS]; · iexact HS
        iexact HF
      iintro ⟨HP, HW, HG⟩
      iapply Hk
      isplitl [HP]; · iexact HP
      isplitl [HW]; · iexact HW
      isplitl [HG]; · iexact HG
      iempintro) hL hk

/-- A later hop, from the slot the hop before landed in. -/
theorem s_next {α : Type} {Q : α → sProp 𝕄} {L : List Rs} {kk : PUnit → Prog (TpuEff nD τ sig (Elt F) Λ₀ .tc) α}
    {c' : Dev nD} {src : Memref sig .tc .vmem S256x8192 .bf16} {dst : Memref sig (Dev.tc c' : Thread nD τ).2.kind .vmem S256x8192 .bf16}
    {s1 s2 : DmaSem sig} {hsc : dst.view.ref.isScScratch = false}
    {hsrc : src.view.WordExact} {hdst : dst.view.WordExact}
    {hsem : DmaTarget.Typed .vmem (.dma s2) (.remote (Dev.tc c' : Thread nD τ) dst (.dma s1) hsc)}
    (X : Fin 4) (q : ℕ) (k w : ℕ) (hc : c' = tg X c) (hsr : src = slotM X (dsl q) := by rfl)
    (hds : dst = slotM X (dsl (q + 1)) := by rfl) (h1 : s1 = sdS X (dsl (q + 1)) := by rfl) (h2 : s2 = rcS X (dsl (q + 1)) := by rfl)
    (hp : payL[k]? = some (.is X (q + 1)) := by decide +kernel)
    (hwc : cnt w (.cr X) = q + 1 := by decide +kernel) (hws : cnt w (.sd X (dsl (q + 1))) = (q + 1) / 2 := by decide +kernel)
    (hL : sub [.pend k, .wt w, .ld X q, .ft X (q + 1)] L = true := by decide +kernel)
    (hk : St m K c ([.pend (k + 1), .wt w, .go X (q + 1)] ++ rest [.pend k, .wt w, .ld X q, .ft X (q + 1)] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.enqueueDma src (.remote (Dev.tc c' : Thread nD τ) dst (.dma s1) hsc) (.dma s2) hsrc hdst hsem) kk) Q :=
  St_step m K c (pre := [.pend k, .wt w, .ld X q, .ft X (q + 1)]) (post := [.pend (k + 1), .wt w, .go X (q + 1)])
    (by
      iintro ⟨#HR, HL⟩ Hk
      simp only [sepL, res, LdP]
      icases HL with ⟨HP, HW, HS, HF, -⟩
      iapply (step_issue m K c hc hsr hds h1 h2 hp hwc hws (congrArg (fun d => chk m d (hf X)) (org_tg_succ c X q).symm) (.rfl)) $$ [HP HW HS HF]
      · isplitr; · iexact HR
        isplitl [HP]; · iexact HP
        isplitl [HW]; · iexact HW
        isplitl [HS]; · iexact HS
        iexact HF
      iintro ⟨HP, HW, HG⟩
      iapply Hk
      isplitl [HP]; · iexact HP
      isplitl [HW]; · iexact HW
      isplitl [HG]; · iexact HG
      iempintro) hL hk

/-! ## Waits -/

theorem back_zero (m : (ℓ : Loc nD τ sig) → Buf (Elt F) ℓ) (c : Dev nD) (X : Fin 4) : Back m c X 0 = OwnS m c X := rfl
theorem back_succ (m : (ℓ : Loc nD τ sig) → Buf (Elt F) ℓ) (c : Dev nD) (X : Fin 4) (q : ℕ) : Back m c X (q + 1) = LdP m c X q := rfl

/-- A hop has landed. -/
theorem s_recv {α : Type} {Q : α → sProp 𝕄} {L : List Rs} {kk : PUnit → Prog (TpuEff nD τ sig (Elt F) Λ₀ .tc) α}
    {sp sp' : Space} {s s' : Shape} {e e' : EltTy} {sm : DmaSem sig}
    {src : Memref sig .tc sp' s' e'} {dst : Memref sig .tc sp s e} {hsrc : src.view.WordExact} {hdst : dst.view.WordExact}
    (X : Fin 4) (q : ℕ) (k n : ℕ)
    (hs : sm = rcS X (dsl q) := by rfl) (hN : dst.view.dmaCredit = NH := by rfl) (he : wl[n]? = some (.rc X q) := by decide +kernel)
    (hu : rk (.is X q) ≤ k := by decide +kernel) (hu' : rk (.is X q) < 100 := by decide +kernel)
    (hL : sub [.pend k, .wt n] L = true := by decide +kernel)
    (hk : St m K c ([.pend k, .wt (n + 1), .ld X q, .rch X q] ++ rest [.pend k, .wt n] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.waitDma2 sm src dst hsrc hdst) kk) Q :=
  St_step m K c (pre := [.pend k, .wt n]) (post := [.pend k, .wt (n + 1), .ld X q, .rch X q])
    (by
      iintro ⟨#HR, HL⟩ Hk
      simp only [sepL, res]
      icases HL with ⟨H0, H1, -⟩
      iapply (step_recv m K c hs hN he hu hu') $$ [H0 H1]
      · isplitr; · iexact HR
        isplitl [H0]; · iexact H0
        iexact H1
      iintro ⟨G0, G1, G2, G3⟩
      iapply Hk
      isplitl [G0]; · iexact G0
      isplitl [G1]; · iexact G1
      isplitl [G2]; · iexact G2
      isplitl [G3]; · iexact G3
      iempintro) hL hk

/-- A chain's first hop has left. -/
theorem s_sent_first {α : Type} {Q : α → sProp 𝕄} {L : List Rs} {kk : PUnit → Prog (TpuEff nD τ sig (Elt F) Λ₀ .tc) α}
    {sp sp' : Space} {s s' : Shape} {e e' : EltTy} {sm : DmaSem sig}
    {src : Memref sig .tc sp' s' e'} {dst : Memref sig .tc sp s e} {hsrc : src.view.WordExact} {hdst : dst.view.WordExact}
    (X : Fin 4) (k n : ℕ)
    (hs : sm = sdS X (dsl 0) := by rfl) (hN : dst.view.dmaCredit = NH := by rfl) (he : wl[n]? = some (.sd X 0) := by decide +kernel)
    (hL : sub [.pend k, .wt n, .go X 0] L = true := by decide +kernel)
    (hk : St m K c ([.pend k, .wt (n + 1), .os X] ++ rest [.pend k, .wt n, .go X 0] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.waitDma2 sm src dst hsrc hdst) kk) Q :=
  St_step m K c (pre := [.pend k, .wt n, .go X 0]) (post := [.pend k, .wt (n + 1), .os X])
    (by
      iintro ⟨#HR, HL⟩ Hk
      simp only [sepL, res]
      icases HL with ⟨H0, H1, H2, -⟩
      iapply (step_sent m K c (q := 0) hs hN he) $$ [H0 H1 H2]
      · isplitr; · iexact HR
        isplitl [H0]; · iexact H0
        isplitl [H1]; · iexact H1
        iexact H2
      iintro ⟨G0, G1, G2⟩
      iapply Hk
      isplitl [G0]; · iexact G0
      isplitl [G1]; · iexact G1
      isplitl [G2]; · iapply (Entails.of_eq (back_zero m c X)) $$ G2
      iempintro) hL hk

/-- A later hop has left. -/
theorem s_sent {α : Type} {Q : α → sProp 𝕄} {L : List Rs} {kk : PUnit → Prog (TpuEff nD τ sig (Elt F) Λ₀ .tc) α}
    {sp sp' : Space} {s s' : Shape} {e e' : EltTy} {sm : DmaSem sig}
    {src : Memref sig .tc sp' s' e'} {dst : Memref sig .tc sp s e} {hsrc : src.view.WordExact} {hdst : dst.view.WordExact}
    (X : Fin 4) (q : ℕ) (k n : ℕ)
    (hs : sm = sdS X (dsl (q + 1)) := by rfl) (hN : dst.view.dmaCredit = NH := by rfl) (he : wl[n]? = some (.sd X (q + 1)) := by decide +kernel)
    (hL : sub [.pend k, .wt n, .go X (q + 1)] L = true := by decide +kernel)
    (hk : St m K c ([.pend k, .wt (n + 1), .ld X q] ++ rest [.pend k, .wt n, .go X (q + 1)] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.waitDma2 sm src dst hsrc hdst) kk) Q :=
  St_step m K c (pre := [.pend k, .wt n, .go X (q + 1)]) (post := [.pend k, .wt (n + 1), .ld X q])
    (by
      iintro ⟨#HR, HL⟩ Hk
      simp only [sepL, res]
      icases HL with ⟨H0, H1, H2, -⟩
      iapply (step_sent m K c (q := q + 1) hs hN he) $$ [H0 H1 H2]
      · isplitr; · iexact HR
        isplitl [H0]; · iexact H0
        isplitl [H1]; · iexact H1
        iexact H2
      iintro ⟨G0, G1, G2⟩
      iapply Hk
      isplitl [G0]; · iexact G0
      isplitl [G1]; · iexact G1
      isplitl [G2]; · iapply (Entails.of_eq (back_succ m c X q)) $$ G2
      iempintro) hL hk

/-- A copy into the staging buffer is done. -/
theorem s_copied {α : Type} {Q : α → sProp 𝕄} {L : List Rs} {kk : PUnit → Prog (TpuEff nD τ sig (Elt F) Λ₀ .tc) α}
    {sp sp' : Space} {s s' : Shape} {e e' : EltTy} {sm : DmaSem sig}
    {src : Memref sig .tc sp' s' e'} {dst : Memref sig .tc sp s e} {hsrc : src.view.WordExact} {hdst : dst.view.WordExact}
    (h : Fin 2) (k n : ℕ)
    (hs : sm = stS := by rfl) (hN : dst.view.dmaCredit = NT := by rfl) (he : wl[n]? = some (.stg h.val) := by decide +kernel)
    (hL : sub [.pend k, .wt n, .sc] L = true := by decide +kernel)
    (hk : St m K c ([.pend k, .wt (n + 1), .st h] ++ rest [.pend k, .wt n, .sc] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.waitDma2 sm src dst hsrc hdst) kk) Q :=
  St_step m K c (pre := [.pend k, .wt n, .sc]) (post := [.pend k, .wt (n + 1), .st h])
    (by
      iintro ⟨#HR, HL⟩ Hk
      simp only [sepL, res]
      icases HL with ⟨H0, H1, H2, -⟩
      iapply (step_copied m K c hs hN he) $$ [H0 H1 H2]
      · isplitr; · iexact HR
        isplitl [H0]; · iexact H0
        isplitl [H1]; · iexact H1
        iexact H2
      iintro ⟨G0, G1, G2⟩
      iapply Hk
      isplitl [G0]; · iexact G0
      isplitl [G1]; · iexact G1
      isplitl [G2]; · iexact G2
      iempintro) hL hk

/-- A credit has come. -/
theorem s_credit {α : Type} {Q : α → sProp 𝕄} {L : List Rs} {kk : PUnit → Prog (TpuEff nD τ sig (Elt F) Λ₀ .tc) α}
    {sm : Sem sig} {z : Int} (X : Fin 4) (i k n : ℕ)
    (hs : sm = crS X := by rfl) (hz : z = ((1 : ℕ) : Int) := by rfl) (he : wl[n]? = some (.cr X i) := by decide +kernel)
    (hu : rk (.cr X i) ≤ k := by decide +kernel) (hu' : rk (.cr X i) < 100 := by decide +kernel)
    (hL : sub [.pend k, .wt n] L = true := by decide +kernel)
    (hk : St m K c ([.pend k, .wt (n + 1), .ft X (i + 1)] ++ rest [.pend k, .wt n] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.semWait sm z) kk) Q :=
  St_step m K c (pre := [.pend k, .wt n]) (post := [.pend k, .wt (n + 1), .ft X (i + 1)])
    (by
      iintro ⟨#HR, HL⟩ Hk
      simp only [sepL, res]
      icases HL with ⟨H0, H1, -⟩
      iapply (step_credit m K c hs hz he hu hu') $$ [H0 H1]
      · isplitr; · iexact HR
        isplitl [H0]; · iexact H0
        iexact H1
      iintro ⟨G0, G1, G2⟩
      iapply Hk
      isplitl [G0]; · iexact G0
      isplitl [G1]; · iexact G1
      isplitl [G2]; · iexact G2
      iempintro) hL hk

/-! ## The device's own copies, loads and stores -/

/-- The copy of a half of the device's block of `x` into the staging buffer. -/
theorem s_copy {α : Type} {Q : α → sProp 𝕄} {L : List Rs} {kk : PUnit → Prog (TpuEff nD τ sig (Elt F) Λ₀ .tc) α}
    {src : Memref sig .tc .hbm S256x8192 .f32} {dst : Memref sig .tc .vmem S256x8192 .f32} {sm : DmaSem sig}
    {hsrc : src.view.WordExact} {hdst : dst.view.WordExact} {hsem : DmaTarget.Typed (nD := nD) (p := .tc) .hbm (.dma sm) (.here dst)}
    (h : Fin 2) (w : ℕ) (hsr : src = xhM h := by rfl) (hds : dst = stM := by rfl) (hs : sm = stS := by rfl) (hw : cnt w .stg = h.val := by decide +kernel)
    (hL : sub [.wt w, .xs h, .sf, .tk h] L = true := by decide +kernel)
    (hk : St m K c ([.wt w, .sc] ++ rest [.wt w, .xs h, .sf, .tk h] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.enqueueDma src (.here dst) (.dma sm) hsrc hdst hsem) kk) Q :=
  St_step m K c (pre := [.wt w, .xs h, .sf, .tk h]) (post := [.wt w, .sc])
    (by
      iintro ⟨#HR, HL⟩ Hk
      simp only [sepL, res]
      icases HL with ⟨H0, H1, H2, H3, -⟩
      iapply (step_copy m K c hsr hds hs hw) $$ [H0 H1 H2 H3]
      · isplitr; · iexact HR
        isplitl [H0]; · iexact H0
        isplitl [H1]; · iexact H1
        isplitl [H2]; · iexact H2
        iexact H3
      iintro ⟨G0, G1⟩
      iapply Hk
      isplitl [G0]; · iexact G0
      isplitl [G1]; · iexact G1
      iempintro) hL hk

/-- A load of a landed slot. -/
theorem s_load {α : Type} {Q : α → sProp 𝕄} {L : List Rs} {kk : Vec F S1x256x8192 .bf16 → Prog (TpuEff nD τ sig (Elt F) Λ₀ .tc) α}
    {mm : Memref sig .tc .vmem S2x256x8192 .bf16} {off : Fin 3 → ℕ} {inb : ∀ a, off a + S1x256x8192.size a ≤ S2x256x8192.size a}
    {hl : mm.view.LoadsAt (Rect.unit (s := S2x256x8192) off S1x256x8192.size inb).toLoadRect}
    (X : Fin 4) (q : ℕ) (hm : mm = bufM X := by rfl) (ho : off = ![(dsl q).val, 0, 0] := by rfl)
    (hL : sub [.ld X q] L = true := by decide +kernel)
    (hk : St m K c ([.ld X q] ++ rest [.ld X q] L) ⊢ wp frame (wpE (defs₀ (F := F)) 𝒱₀ (c : Thread nD τ) none) Set.univ (kk (chk m (org c X q) (hf X))) Q) :
    St m K c L ⊢ wp frame (wpE (defs₀ (F := F)) 𝒱₀ (c : Thread nD τ) none) Set.univ (.op (.load mm (Rect.unit (s := S2x256x8192) off S1x256x8192.size inb).toLoadRect hl) kk) Q :=
  St_step m K c (pre := [.ld X q]) (post := [.ld X q])
    (by
      iintro ⟨#HR, HL⟩ Hk
      simp only [sepL, res, LdP]
      icases HL with ⟨H0, -⟩
      iapply (load_slot c (q := fullShare) (v := chk m (org c X q) (hf X)) hm ho) $$ H0
      iintro H0
      iapply Hk
      isplitl; · iexact H0
      iempintro) hL hk

/-- A load of the device's own slot while its hops are under way. -/
theorem s_load_kept {α : Type} {Q : α → sProp 𝕄} {L : List Rs} {kk : Vec F S1x256x8192 .bf16 → Prog (TpuEff nD τ sig (Elt F) Λ₀ .tc) α}
    {mm : Memref sig .tc .vmem S2x256x8192 .bf16} {off : Fin 3 → ℕ} {inb : ∀ a, off a + S1x256x8192.size a ≤ S2x256x8192.size a}
    {hl : mm.view.LoadsAt (Rect.unit (s := S2x256x8192) off S1x256x8192.size inb).toLoadRect}
    (b : Fin 2) (hm : mm = bufM (ob b) := by rfl) (ho : off = ![(0 : Fin 2).val, 0, 0] := by rfl)
    (hL : sub [.kp b] L = true := by decide +kernel)
    (hk : St m K c ([.kp b] ++ rest [.kp b] L) ⊢ wp frame (wpE (defs₀ (F := F)) 𝒱₀ (c : Thread nD τ) none) Set.univ (kk (chk m c b)) Q) :
    St m K c L ⊢ wp frame (wpE (defs₀ (F := F)) 𝒱₀ (c : Thread nD τ) none) Set.univ (.op (.load mm (Rect.unit (s := S2x256x8192) off S1x256x8192.size inb).toLoadRect hl) kk) Q :=
  St_step m K c (pre := [.kp b]) (post := [.kp b])
    (by
      iintro ⟨#HR, HL⟩ Hk
      simp only [sepL, res]
      icases HL with ⟨H0, -⟩
      iapply (load_slot c hm ho) $$ H0
      iintro H0
      iapply Hk
      isplitl; · iexact H0
      iempintro) hL hk

/-- A load of a free slot. -/
theorem s_load_free {α : Type} {Q : α → sProp 𝕄} {L : List Rs} {kk : Vec F S1x256x8192 .bf16 → Prog (TpuEff nD τ sig (Elt F) Λ₀ .tc) α}
    {mm : Memref sig .tc .vmem S2x256x8192 .bf16} {off : Fin 3 → ℕ} {inb : ∀ a, off a + S1x256x8192.size a ≤ S2x256x8192.size a}
    {hl : mm.view.LoadsAt (Rect.unit (s := S2x256x8192) off S1x256x8192.size inb).toLoadRect}
    (X : Fin 4) (s : Fin 2) (hm : mm = bufM X := by rfl) (ho : off = ![s.val, 0, 0] := by rfl)
    (hL : sub [.fs X s] L = true := by decide +kernel)
    (hk : ∀ w, St m K c ([.fs X s] ++ rest [.fs X s] L) ⊢ wp frame (wpE (defs₀ (F := F)) 𝒱₀ (c : Thread nD τ) none) Set.univ (kk w) Q) :
    St m K c L ⊢ wp frame (wpE (defs₀ (F := F)) 𝒱₀ (c : Thread nD τ) none) Set.univ (.op (.load mm (Rect.unit (s := S2x256x8192) off S1x256x8192.size inb).toLoadRect hl) kk) Q :=
  St_step_any m K c (pre := [.fs X s]) (post := [.fs X s])
    (by
      iintro ⟨#HR, HL⟩ Hk
      simp only [sepL, res]
      icases HL with ⟨H0, -⟩
      iapply (load_free c hm ho) $$ H0
      iintro %w H0
      iapply Hk
      isplitl; · iexact H0
      iempintro) hL hk

/-- The store of a half block into the device's own slot. -/
theorem s_store {α : Type} {Q : α → sProp 𝕄} {L : List Rs} {kk : PUnit → Prog (TpuEff nD τ sig (Elt F) Λ₀ .tc) α}
    {mm : Memref sig .tc .vmem S2x256x8192 .bf16} {off : Fin 3 → ℕ} {inb : ∀ a, off a + S1x256x8192.size a ≤ S2x256x8192.size a}
    {w : FVec F S1x256x8192 .bf16}
    {hx : (mm.access (Rect.unit (s := S2x256x8192) off S1x256x8192.size inb)).Stores Finset.univ}
    {hm' : (Finset.univ : Finset (Rect.unit (s := S2x256x8192) off S1x256x8192.size inb).shape.Idx) = Finset.univ
      ∨ ∀ a, (Rect.unit (s := S2x256x8192) off S1x256x8192.size inb).stride a = 1}
    (b : Fin 2) (hm : mm = bufM (ob b) := by rfl) (ho : off = ![(0 : Fin 2).val, 0, 0] := by rfl) (hw : w = chk m c b := by rfl)
    (hL : sub [.fs (ob b) 0] L = true := by decide +kernel)
    (hk : St m K c ([.own b] ++ rest [.fs (ob b) 0] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.store mm (Rect.unit (s := S2x256x8192) off S1x256x8192.size inb) w Finset.univ hx hm') kk) Q :=
  St_step m K c (pre := [.fs (ob b) 0]) (post := [.own b])
    (by
      iintro ⟨#HR, HL⟩ Hk
      simp only [sepL, res]
      icases HL with ⟨H0, -⟩
      iapply (store_slot c hm ho hw) $$ H0
      iintro H0
      iapply Hk
      isplitl; · iexact H0
      iempintro) hL hk

/-- A load of the staging buffer. -/
theorem s_load_stage {α : Type} {Q : α → sProp 𝕄} {L : List Rs} {kk : Vec F S256x8192 .f32 → Prog (TpuEff nD τ sig (Elt F) Λ₀ .tc) α}
    {mm : Memref sig .tc .vmem S256x8192 .f32} {off : Fin 2 → ℕ} {inb : ∀ a, off a + S256x8192.size a ≤ S256x8192.size a}
    {hl : mm.view.LoadsAt (Rect.unit (s := S256x8192) off S256x8192.size inb).toLoadRect}
    (h : Fin 2) (hm : mm = stM := by rfl) (ho : off = ![0, 0] := by rfl)
    (hL : sub [.st h] L = true := by decide +kernel)
    (hk : St m K c ([.st h] ++ rest [.st h] L) ⊢ wp frame (wpE (defs₀ (F := F)) 𝒱₀ (c : Thread nD τ) none) Set.univ (kk (xh m c h)) Q) :
    St m K c L ⊢ wp frame (wpE (defs₀ (F := F)) 𝒱₀ (c : Thread nD τ) none) Set.univ (.op (.load mm (Rect.unit (s := S256x8192) off S256x8192.size inb).toLoadRect hl) kk) Q :=
  St_step m K c (pre := [.st h]) (post := [.st h])
    (by
      iintro ⟨#HR, HL⟩ Hk
      simp only [sepL, res]
      icases HL with ⟨H0, -⟩
      iapply (load_stage m c hm ho) $$ H0
      iintro H0
      iapply Hk
      isplitl; · iexact H0
      iempintro) hL hk

/-- A load of the weights. -/
theorem s_load_w {α : Type} {Q : α → sProp 𝕄} {L : List Rs} {kk : Vec F S8192x256 .f32 → Prog (TpuEff nD τ sig (Elt F) Λ₀ .tc) α}
    {mm : Memref sig .tc .vmem S8192x256 .f32} {off : Fin 2 → ℕ} {inb : ∀ a, off a + S8192x256.size a ≤ S8192x256.size a}
    {hl : mm.view.LoadsAt (Rect.unit (s := S8192x256) off S8192x256.size inb).toLoadRect}
    (hm : mm = wM := by rfl) (ho : off = ![0, 0] := by rfl)
    (hL : sub [.wi] L = true := by decide +kernel)
    (hk : St m K c ([.wi] ++ rest [.wi] L) ⊢ wp frame (wpE (defs₀ (F := F)) 𝒱₀ (c : Thread nD τ) none) Set.univ (kk (wv m c)) Q) :
    St m K c L ⊢ wp frame (wpE (defs₀ (F := F)) 𝒱₀ (c : Thread nD τ) none) Set.univ (.op (.load mm (Rect.unit (s := S8192x256) off S8192x256.size inb).toLoadRect hl) kk) Q :=
  St_step m K c (pre := [.wi]) (post := [.wi])
    (by
      iintro ⟨#HR, HL⟩ Hk
      simp only [sepL, res]
      icases HL with ⟨H0, -⟩
      iapply (load_w m c hm ho) $$ H0
      iintro H0
      iapply Hk
      isplitl; · iexact H0
      iempintro) hL hk

/-- A load of the buffer of the rounded weights before they are stored. -/
theorem s_load_wf {α : Type} {Q : α → sProp 𝕄} {L : List Rs} {kk : Vec F S8192x256 .bf16 → Prog (TpuEff nD τ sig (Elt F) Λ₀ .tc) α}
    {mm : Memref sig .tc .vmem S8192x256 .bf16} {off : Fin 2 → ℕ} {inb : ∀ a, off a + S8192x256.size a ≤ S8192x256.size a}
    {hl : mm.view.LoadsAt (Rect.unit (s := S8192x256) off S8192x256.size inb).toLoadRect}
    (hm : mm = wbM := by rfl)
    (hL : sub [.wf] L = true := by decide +kernel)
    (hk : ∀ w, St m K c ([.wf] ++ rest [.wf] L) ⊢ wp frame (wpE (defs₀ (F := F)) 𝒱₀ (c : Thread nD τ) none) Set.univ (kk w) Q) :
    St m K c L ⊢ wp frame (wpE (defs₀ (F := F)) 𝒱₀ (c : Thread nD τ) none) Set.univ (.op (.load mm (Rect.unit (s := S8192x256) off S8192x256.size inb).toLoadRect hl) kk) Q :=
  St_step_any m K c (pre := [.wf]) (post := [.wf])
    (by
      iintro ⟨#HR, HL⟩ Hk
      simp only [sepL, res]
      icases HL with ⟨H0, -⟩
      iapply (load_wf c hm) $$ H0
      iintro %w H0
      iapply Hk
      isplitl; · iexact H0
      iempintro) hL hk

/-- The store of the rounded weights. -/
theorem s_store_wb {α : Type} {Q : α → sProp 𝕄} {L : List Rs} {kk : PUnit → Prog (TpuEff nD τ sig (Elt F) Λ₀ .tc) α}
    {mm : Memref sig .tc .vmem S8192x256 .bf16} {off : Fin 2 → ℕ} {inb : ∀ a, off a + S8192x256.size a ≤ S8192x256.size a}
    {w : FVec F S8192x256 .bf16}
    {hx : (mm.access (Rect.unit (s := S8192x256) off S8192x256.size inb)).Stores Finset.univ}
    {hm' : (Finset.univ : Finset (Rect.unit (s := S8192x256) off S8192x256.size inb).shape.Idx) = Finset.univ
      ∨ ∀ a, (Rect.unit (s := S8192x256) off S8192x256.size inb).stride a = 1}
    (hm : mm = wbM := by rfl) (ho : off = ![0, 0] := by rfl) (hw : w = wbf m c := by rfl)
    (hL : sub [.wf] L = true := by decide +kernel)
    (hk : St m K c ([.wb] ++ rest [.wf] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.store mm (Rect.unit (s := S8192x256) off S8192x256.size inb) w Finset.univ hx hm') kk) Q :=
  St_step m K c (pre := [.wf]) (post := [.wb])
    (by
      iintro ⟨#HR, HL⟩ Hk
      simp only [sepL, res]
      icases HL with ⟨H0, -⟩
      iapply (store_wb m c hm ho hw) $$ H0
      iintro H0
      iapply Hk
      isplitl; · iexact H0
      iempintro) hL hk

/-- A load of the rounded weights. -/
theorem s_load_wb {α : Type} {Q : α → sProp 𝕄} {L : List Rs} {kk : Vec F S8192x256 .bf16 → Prog (TpuEff nD τ sig (Elt F) Λ₀ .tc) α}
    {mm : Memref sig .tc .vmem S8192x256 .bf16} {off : Fin 2 → ℕ} {inb : ∀ a, off a + S8192x256.size a ≤ S8192x256.size a}
    {hl : mm.view.LoadsAt (Rect.unit (s := S8192x256) off S8192x256.size inb).toLoadRect}
    (hm : mm = wbM := by rfl) (ho : off = ![0, 0] := by rfl)
    (hL : sub [.wb] L = true := by decide +kernel)
    (hk : St m K c ([.wb] ++ rest [.wb] L) ⊢ wp frame (wpE (defs₀ (F := F)) 𝒱₀ (c : Thread nD τ) none) Set.univ (kk (wbf m c)) Q) :
    St m K c L ⊢ wp frame (wpE (defs₀ (F := F)) 𝒱₀ (c : Thread nD τ) none) Set.univ (.op (.load mm (Rect.unit (s := S8192x256) off S8192x256.size inb).toLoadRect hl) kk) Q :=
  St_step m K c (pre := [.wb]) (post := [.wb])
    (by
      iintro ⟨#HR, HL⟩ Hk
      simp only [sepL, res]
      icases HL with ⟨H0, -⟩
      iapply (load_wb m c hm ho) $$ H0
      iintro H0
      iapply Hk
      isplitl; · iexact H0
      iempintro) hL hk

/-- A load of 256 rows of the result. -/
theorem s_load_out {α : Type} {Q : α → sProp 𝕄} {L : List Rs} {kk : Vec F S256x256 .bf16 → Prog (TpuEff nD τ sig (Elt F) Λ₀ .tc) α}
    {mm : Memref sig .tc .vmem S8192x256 .bf16} {off : Fin 2 → ℕ} {inb : ∀ a, off a + S256x256.size a ≤ S8192x256.size a}
    {hl : mm.view.LoadsAt (Rect.unit (s := S8192x256) off S256x256.size inb).toLoadRect}
    (n : ℕ) (hm : mm = oM := by rfl)
    (hL : sub [.out n] L = true := by decide +kernel)
    (hk : ∀ w, St m K c ([.out n] ++ rest [.out n] L) ⊢ wp frame (wpE (defs₀ (F := F)) 𝒱₀ (c : Thread nD τ) none) Set.univ (kk w) Q) :
    St m K c L ⊢ wp frame (wpE (defs₀ (F := F)) 𝒱₀ (c : Thread nD τ) none) Set.univ (.op (.load mm (Rect.unit (s := S8192x256) off S256x256.size inb).toLoadRect hl) kk) Q :=
  St_step_any m K c (pre := [.out n]) (post := [.out n])
    (by
      iintro ⟨#HR, HL⟩ Hk
      simp only [sepL, res]
      icases HL with ⟨H0, -⟩
      iapply (load_out m c hm) $$ H0
      iintro %w H0
      iapply Hk
      isplitl; · iexact H0
      iempintro) hL hk

/-- The store of the next block of the result. -/
theorem s_store_out {α : Type} {Q : α → sProp 𝕄} {L : List Rs} {kk : PUnit → Prog (TpuEff nD τ sig (Elt F) Λ₀ .tc) α}
    {mm : Memref sig .tc .vmem S8192x256 .bf16} {off : Fin 2 → ℕ} {inb : ∀ a, off a + S256x256.size a ≤ S8192x256.size a}
    {w : FVec F S256x256 .bf16}
    {hx : (mm.access (Rect.unit (s := S8192x256) off S256x256.size inb)).Stores Finset.univ}
    {hm' : (Finset.univ : Finset (Rect.unit (s := S8192x256) off S256x256.size inb).shape.Idx) = Finset.univ
      ∨ ∀ a, (Rect.unit (s := S8192x256) off S256x256.size inb).stride a = 1}
    (n : ℕ) (b : BE) (ho : off = ![256 * brow c b, 0]) (hw : w = oblk m c (b.dev c) b.half := by rfl) (hm : mm = oM := by rfl)
    (hb : bl[n]? = some b := by decide +kernel)
    (hL : sub [.out n] L = true := by decide +kernel)
    (hk : St m K c ([.out (n + 1)] ++ rest [.out n] L) ⊢ wp frame (wpE (defs₀ (F := F)) 𝒱₀ (c : Thread nD τ) none) Set.univ (kk ⟨⟩) Q) :
    St m K c L ⊢ wp frame (wpE (defs₀ (F := F)) 𝒱₀ (c : Thread nD τ) none) Set.univ (.op (.store mm (Rect.unit (s := S8192x256) off S256x256.size inb) w Finset.univ hx hm') kk) Q :=
  St_step m K c (pre := [.out n]) (post := [.out (n + 1)])
    (by
      iintro ⟨#HR, HL⟩ Hk
      simp only [sepL, res]
      icases HL with ⟨H0, -⟩
      iapply (store_out m c hm hb ho hw) $$ H0
      iintro H0
      iapply Hk
      isplitl; · iexact H0
      iempintro) hL hk

/-- A load of a word of the device's row of the table. -/
theorem s_tab {α : Type} {Q : α → sProp 𝕄} {L : List Rs} {kk : (S1x1.Idx → Elt F .i32) → Prog (TpuEff nD τ sig (Elt F) Λ₀ .tc) α}
    {mm : Memref sig .tc .smem S16x18 .i32} {off : Fin 2 → ℕ} {inb : ∀ a, off a + S1x1.size a ≤ S16x18.size a}
    {hl : mm.view.LoadsAt (Rect.unit (s := S16x18) off S1x1.size inb).toLoadRect}
    (j : Fin 18) (ho : off = ![c.val, j.val]) (hm : mm = tbM := by rfl)
    (hL : sub [.tb] L = true := by decide +kernel)
    (hk : St m K c ([.tb] ++ rest [.tb] L) ⊢ wp frame (wpE (defs₀ (F := F)) 𝒱₀ (c : Thread nD τ) none) Set.univ (kk (fun _ => tw c j)) Q) :
    St m K c L ⊢ wp frame (wpE (defs₀ (F := F)) 𝒱₀ (c : Thread nD τ) none) Set.univ (.op (.load mm (Rect.unit (s := S16x18) off S1x1.size inb).toLoadRect hl) kk) Q :=
  St_step m K c (pre := [.tb]) (post := [.tb])
    (by
      iintro ⟨#HR, HL⟩ Hk
      simp only [sepL, res]
      icases HL with ⟨H0, -⟩
      iapply (load_tab c hm j ho) $$ H0
      iintro H0
      iapply Hk
      isplitl; · iexact H0
      iempintro) hL hk

end Cert.Ring
end
-- ==== Proof.Tab.lean ====
/-
The table of the ring: what a device reads from it, and the places it computes from what it reads.
-/
module

public import proofs.«01_k».proof.Proof.Rules

@[expose] public section

set_option maxRecDepth 16384

noncomputable section

namespace Cert.Ring

open Cert.KernelIdeal Cert.KernelIdeal.Gen
open Idealize.ShloMosaic

/-- The words of the device's row that name its neighbours, as devices. -/
theorem dev_l : ∀ c : Dev nD, k0_dev1 (tw c 1) = (lf c).val := by decide +kernel
theorem dev_r : ∀ c : Dev nD, k0_dev2 (tw c 0) = (rt c).val := by decide +kernel
theorem ok_l : ∀ c : Dev nD, k0_chk1 (tw c 1) := by decide +kernel
theorem ok_r : ∀ c : Dev nD, k0_chk2 (tw c 0) := by decide +kernel

/-- The word a device computes its row's number as. -/
def ownw (c : Dev nD) : BitVec 32 := Scalar.remsi (Scalar.divsi (Dev.word c) 1#32) 16#32
/-- The row a device reads is its own. -/
theorem row_c : ∀ c : Dev nD, (Scalar.indexCast (ownw c)).toNat = c.val := by decide +kernel
theorem row_at (c : Dev nD) (j : ℕ) : ![(Scalar.indexCast (ownw c)).toNat, j] = ![c.val, j] := congrArg (fun n => ![n, j]) (row_c c)

/-- The place of the word that names the device hop `q` of a chain started from. -/
abbrev jr (q : Fin 8) : Fin 18 := ⟨2 + q.val, by omega⟩
abbrev jl (q : Fin 8) : Fin 18 := ⟨10 + q.val, by omega⟩

/-- The blocks of the result a device stores its own two products at. -/
theorem at_own0 : ∀ c : Dev nD, k0_off3 c 0#32 = ![256 * brow c (.own 0), 0] := by decide +kernel
theorem at_own1 : ∀ c : Dev nD, k0_off3 c 256#32 = ![256 * brow c (.own 1), 0] := by decide +kernel
/-- The blocks it stores the product of what hop `q` of each chain landed at. -/
theorem at0 : ∀ (c : Dev nD) (q : Fin 8), k0_off5 (tw c (jr q)) = ![256 * brow c (.hop 0 q.val), 0] := by decide +kernel
theorem at1 : ∀ (c : Dev nD) (q : Fin 8), k0_off9 (tw c (jr q)) = ![256 * brow c (.hop 1 q.val), 0] := by decide +kernel
theorem at2 : ∀ (c : Dev nD) (q : Fin 8), k0_off7 (tw c (jl q)) = ![256 * brow c (.hop 2 q.val), 0] := by decide +kernel
theorem at3 : ∀ (c : Dev nD) (q : Fin 8), k0_off11 (tw c (jl q)) = ![256 * brow c (.hop 3 q.val), 0] := by decide +kernel
/-- Those blocks lie in the result. -/
theorem ok0 : ∀ (c : Dev nD) (q : Fin 8), k0_chk3 (tw c (jr q)) := by decide +kernel
theorem ok1 : ∀ (c : Dev nD) (q : Fin 8), k0_chk5 (tw c (jr q)) := by decide +kernel
theorem ok2 : ∀ (c : Dev nD) (q : Fin 8), k0_chk4 (tw c (jl q)) := by decide +kernel
theorem ok3 : ∀ (c : Dev nD) (q : Fin 8), k0_chk6 (tw c (jl q)) := by decide +kernel

end Cert.Ring
end
-- ==== Proof.Parts1.lean ====
/-
The steps of the kernel, parts 1 to 13 of its program: in each, one line per operation.
-/
module

public import proofs.«01_k».proof.Proof.Rules
public import proofs.«01_k».proof.Proof.Tab
public import proofs.«01_k».proof.Proof.Gen.KernelIdeal.Skeleton

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable {m : (ℓ : Loc nD τ sig) → Buf (Elt F) ℓ} {K : Dev nD × Option Kn → ℕ} {c : Dev nD}

variable {h0 : (Memref.whole cc0_stg0_0 : Memref sig .tc .smem S16x18 .i32).IsWhole} {h1 : (Memref.whole main_arg0 : Memref sig .tc .hbm S512x8192 .f32).IsWhole} {h2 : (Memref.whole cc0_stg1_0 : Memref sig .tc .vmem S8192x256 .f32).IsWhole} {h3 : (Memref.whole cc0_stg2_0 : Memref sig .tc .vmem S8192x256 .bf16).IsWhole}
  {h4 : (Memref.whole cc0_scratch0 : Memref sig .tc .vmem S2x256x8192 .bf16).IsWhole} {h5 : (Memref.whole cc0_scratch1 : Memref sig .tc .vmem S2x256x8192 .bf16).IsWhole} {h6 : (Memref.whole cc0_scratch2 : Memref sig .tc .vmem S2x256x8192 .bf16).IsWhole} {h7 : (Memref.whole cc0_scratch3 : Memref sig .tc .vmem S2x256x8192 .bf16).IsWhole} {h8 : (Memref.whole cc0_scratch4 : Memref sig .tc .vmem S256x8192 .f32).IsWhole} {h9 : (Memref.whole cc0_scratch5 : Memref sig .tc .vmem S8192x256 .bf16).IsWhole}

/-- Part 1 of the kernel, from what the device holds before it to what it holds after it. -/
theorem part1 {Q : (Σ' (d0 : Dev nD) (v2 : BitVec 32) (v4 : Elt F .i32) (k0_hw2 : k0_chk2 v4) (v6 : Elt F .i32), k0_chk1 v6) → sProp 𝕄}
    (hk : St m K c
      [.pend 2, .wt 1, .out 0, .b1, .fs 1 0, .fs 2 0, .fs 3 0, .ft 0 0, .ft 1 0, .ft 2 0, .ft 3 0, .kp 0, .os 0, .os 2, .st 0, .tb, .tk 1, .wf, .wi,
       .xs 1]
      ⊢ Q ⟨c, (ownw c), (tw c 0), (ok_r c), (tw c 1), (ok_l c)⟩) :
    St m K c
      [.pend 0, .wt 0, .out 0, .b0, .fs 0 0, .fs 0 1, .fs 1 0, .fs 1 1, .fs 2 0, .fs 2 1, .fs 3 0, .fs 3 1, .sf, .tb, .tk 0, .tk 1, .wf, .wi, .xs 0,
       .xs 1]
      ⊢ wp frame (wpE (defs₀ (F := F)) 𝒱₀ (c : Thread nD τ) none) Set.univ
        (k0_part1 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12) Q := by
  rw [k0_part1_eq_skeleton]
  unfold k0_part1_skel
  simp only [smemLoad, smemLoadElt, semSignalWord, semWaitWord, Prog.lift, Prog.bind_op, Prog.bind_ret, Prog.pure_eq_ret, Prog.bind_assoc, wp_deviceId]
  refine s_tab 0 (row_at c 0) (hk := ?_)
  refine s_assume m K c (ok_r c) ?_
  refine s_tab 1 (row_at c 1) (hk := ?_)
  refine s_assume m K c (ok_l c) ?_
  refine s_bar false 0 0 (Fin.ext (dev_l c)) (hk := ?_)
  refine s_bar true 1 0 (Fin.ext (dev_r c)) (hk := ?_)
  refine s_met (hk := ?_)
  refine s_copy 0 0 (hk := ?_)
  refine s_copied 0 2 0 (hk := ?_)
  refine s_load_stage 0 (hk := ?_)
  refine s_load_free 0 0 (hk := ?_)
  intro _
  refine s_store 0 (hk := ?_)
  refine St_mono m K c (lend m c 0) (by decide +kernel) ?_
  exact St_ret m K c (hk := hk)

/-- Part 2 of the kernel, from what the device holds before it to what it holds after it. -/
theorem part2 {hw2 : k0_chk2 (tw c 0)} {hw1 : k0_chk1 (tw c 1)} {Q : (FVec F S256x8192 .bf16) → sProp 𝕄}
    (hk : St m K c
      [.pend 4, .wt 2, .out 0, .b1, .fs 1 0, .fs 2 0, .fs 3 0, .ft 1 0, .ft 3 0, .go 0 0, .go 2 0, .kp 0, .st 1, .tb, .wb, .wi, .xs 0]
      ⊢ Q (k0_pay4 (xh m c 1))) :
    St m K c
      [.pend 2, .wt 1, .out 0, .b1, .fs 1 0, .fs 2 0, .fs 3 0, .ft 0 0, .ft 1 0, .ft 2 0, .ft 3 0, .kp 0, .os 0, .os 2, .st 0, .tb, .tk 1, .wf, .wi,
       .xs 1]
      ⊢ wp frame (wpE (defs₀ (F := F)) 𝒱₀ (c : Thread nD τ) none) Set.univ
        (k0_part2 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part2_eq_skeleton]
  unfold k0_part2_skel
  simp only [smemLoad, smemLoadElt, semSignalWord, semWaitWord, Prog.lift, Prog.bind_op, Prog.bind_ret, Prog.pure_eq_ret, Prog.bind_assoc]
  refine s_first 0 2 1 (Fin.ext (dev_r c)) (hk := ?_)
  refine s_first 2 3 1 (Fin.ext (dev_l c)) (hk := ?_)
  refine St_mono m K c (st_free m c 0) (by decide +kernel) ?_
  refine s_copy 1 1 (hk := ?_)
  refine s_load_w (hk := ?_)
  refine s_load_wf (hk := ?_)
  intro _
  refine s_store_wb (hk := ?_)
  refine s_copied 1 4 1 (hk := ?_)
  refine s_load_stage 1 (hk := ?_)
  exact St_ret m K c (hk := hk)

/-- Part 3 of the kernel, from what the device holds before it to what it holds after it. -/
theorem part3 {hw2 : k0_chk2 (tw c 0)} {hw1 : k0_chk1 (tw c 1)} {Q : (Σ' (v73 : FVec F S256x8192 .bf16) (v74 : Vec F S8192x256 .bf16), FVec F S256x256 .f32) → sProp 𝕄}
    (hk : St m K c
      [.pend 6, .wt 2, .out 0, .b1, .fs 2 0, .fs 3 0, .go 0 0, .go 1 0, .go 2 0, .go 3 0, .kp 0, .kp 1, .st 1, .tb, .wb, .wi, .xs 0]
      ⊢ Q ⟨k0_pay6 (chk m c 0), (wbf m c), (constant S256x256 .f32 0x00000000#32)⟩) :
    St m K c
      [.pend 4, .wt 2, .out 0, .b1, .fs 1 0, .fs 2 0, .fs 3 0, .ft 1 0, .ft 3 0, .go 0 0, .go 2 0, .kp 0, .st 1, .tb, .wb, .wi, .xs 0]
      ⊢ wp frame (wpE (defs₀ (F := F)) 𝒱₀ (c : Thread nD τ) none) Set.univ
        (k0_part3 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1 (k0_pay4 (xh m c 1))) Q := by
  rw [k0_part3_eq_skeleton]
  unfold k0_part3_skel
  simp only [smemLoad, smemLoadElt, semSignalWord, semWaitWord, Prog.lift, Prog.bind_op, Prog.bind_ret, Prog.pure_eq_ret, Prog.bind_assoc]
  refine s_load_free 1 0 (hk := ?_)
  intro _
  refine s_store 1 (hk := ?_)
  refine St_mono m K c (lend m c 1) (by decide +kernel) ?_
  refine s_first 1 4 2 (Fin.ext (dev_r c)) (hk := ?_)
  refine s_first 3 5 2 (Fin.ext (dev_l c)) (hk := ?_)
  refine s_load_kept 0 (hk := ?_)
  refine s_load_wb (hk := ?_)
  exact St_ret m K c (hk := hk)

/-- Part 4 of the kernel, from what the device holds before it to what it holds after it. -/
theorem part4 {v2 : BitVec 32} {Q : (Vec F S1x256x8192 .bf16) → sProp 𝕄}
    (hk : St m K c
      [.pend 6, .wt 3, .out 2, .b1, .fs 2 0, .fs 3 0, .go 0 0, .go 1 0, .go 2 0, .go 3 0, .kp 0, .kp 1, .ld 0 0, .rch 0 0, .st 1, .tb, .wb, .wi,
       .xs 0]
      ⊢ Q (chk m (org c 0 0) (hf 0))) :
    St m K c
      [.pend 6, .wt 2, .out 0, .b1, .fs 2 0, .fs 3 0, .go 0 0, .go 1 0, .go 2 0, .go 3 0, .kp 0, .kp 1, .st 1, .tb, .wb, .wi, .xs 0]
      ⊢ wp frame (wpE (defs₀ (F := F)) 𝒱₀ (c : Thread nD τ) none) Set.univ
        (k0_part4 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (k0_pay6 (chk m c 0)) (wbf m c) (constant S256x256 .f32 0x00000000#32)) Q := by
  rw [k0_part4_eq_skeleton]
  unfold k0_part4_skel
  simp only [smemLoad, smemLoadElt, semSignalWord, semWaitWord, Prog.lift, Prog.bind_op, Prog.bind_ret, Prog.pure_eq_ret, Prog.bind_assoc]
  refine s_load_out 0 (hk := ?_)
  intro _
  refine s_store_out 0 (.own 0) (at_own0 c) (hk := ?_)
  refine s_load_kept 1 (hk := ?_)
  refine s_load_wb (hk := ?_)
  refine s_load_out 1 (hk := ?_)
  intro _
  refine s_store_out 1 (.own 1) (at_own1 c) (hk := ?_)
  refine s_recv 0 0 6 2 (hk := ?_)
  refine s_load 0 0 (hk := ?_)
  exact St_ret m K c (hk := hk)

/-- Part 5 of the kernel, from what the device holds before it to what it holds after it. -/
theorem part5 {v2 : BitVec 32} {Q : (Σ' (v126 : Elt F .i32) (k0_hw4 : k0_chk4 v126), FVec F S256x256 .f32) → sProp 𝕄}
    (hk : St m K c
      [.pend 6, .wt 4, .out 3, .b1, .fs 2 0, .fs 3 0, .go 0 0, .go 1 0, .go 2 0, .go 3 0, .kp 0, .kp 1, .ld 0 0, .ld 2 0, .rch 0 0, .rch 2 0, .st 1,
       .tb, .wb, .wi, .xs 0]
      ⊢ Q ⟨(tw c (jl 0)), (ok2 c 0), k0_pay10 (chk m (org c 2 0) (hf 2)) (wbf m c)⟩) :
    St m K c
      [.pend 6, .wt 3, .out 2, .b1, .fs 2 0, .fs 3 0, .go 0 0, .go 1 0, .go 2 0, .go 3 0, .kp 0, .kp 1, .ld 0 0, .rch 0 0, .st 1, .tb, .wb, .wi,
       .xs 0]
      ⊢ wp frame (wpE (defs₀ (F := F)) 𝒱₀ (c : Thread nD τ) none) Set.univ
        (k0_part5 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1) (chk m (org c 0 0) (hf 0))) Q := by
  rw [k0_part5_eq_skeleton]
  unfold k0_part5_skel
  simp only [smemLoad, smemLoadElt, semSignalWord, semWaitWord, Prog.lift, Prog.bind_op, Prog.bind_ret, Prog.pure_eq_ret, Prog.bind_assoc]
  refine s_tab (jr 0) (row_at c 2) (hk := ?_)
  refine s_assume m K c (ok0 c 0) ?_
  refine s_load_wb (hk := ?_)
  refine s_load_out 2 (hk := ?_)
  intro _
  refine s_store_out 2 (.hop 0 0) (at0 c 0) (hk := ?_)
  refine s_recv 2 0 6 3 (hk := ?_)
  refine s_load 2 0 (hk := ?_)
  refine s_tab (jl 0) (row_at c 10) (hk := ?_)
  refine s_assume m K c (ok2 c 0) ?_
  refine s_load_wb (hk := ?_)
  exact St_ret m K c (hk := hk)

/-- Part 6 of the kernel, from what the device holds before it to what it holds after it. -/
theorem part6 {hw2 : k0_chk2 (tw c 0)} {hw1 : k0_chk1 (tw c 1)} {Q : (PUnit) → sProp 𝕄}
    (hk : St m K c
      [.pend 8, .wt 7, .out 4, .b1, .fs 3 0, .ft 0 1, .go 1 0, .go 3 0, .kp 1, .ld 0 0, .ld 2 0, .st 1, .tb, .wb, .wi, .xs 0]
      ⊢ Q ⟨⟩) :
    St m K c
      [.pend 6, .wt 4, .out 3, .b1, .fs 2 0, .fs 3 0, .go 0 0, .go 1 0, .go 2 0, .go 3 0, .kp 0, .kp 1, .ld 0 0, .ld 2 0, .rch 0 0, .rch 2 0, .st 1,
       .tb, .wb, .wi, .xs 0]
      ⊢ wp frame (wpE (defs₀ (F := F)) 𝒱₀ (c : Thread nD τ) none) Set.univ
        (k0_part6 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1 (tw c (jl 0)) (ok2 c 0) (k0_pay10 (chk m (org c 2 0) (hf 2)) (wbf m c))) Q := by
  rw [k0_part6_eq_skeleton]
  unfold k0_part6_skel
  simp only [smemLoad, smemLoadElt, semSignalWord, semWaitWord, Prog.lift, Prog.bind_op, Prog.bind_ret, Prog.pure_eq_ret, Prog.bind_assoc]
  refine s_load_out 3 (hk := ?_)
  intro _
  refine s_store_out 3 (.hop 2 0) (at2 c 0) (hk := ?_)
  refine s_sent_first 0 6 4 (hk := ?_)
  refine s_sent_first 2 6 5 (hk := ?_)
  refine St_mono m K c (unlend m c 0) (by decide +kernel) ?_
  refine s_signal 0 0 6 6 (Fin.ext (dev_l c)) (hk := ?_)
  refine s_signal 2 0 7 6 (Fin.ext (dev_r c)) (hk := ?_)
  refine s_credit 0 0 8 6 (hk := ?_)
  exact St_ret m K c (hk := hk)

/-- Part 7 of the kernel, from what the device holds before it to what it holds after it. -/
theorem part7 {hw2 : k0_chk2 (tw c 0)} {hw1 : k0_chk1 (tw c 1)} {Q : (PUnit) → sProp 𝕄}
    (hk : St m K c
      [.pend 10, .wt 8, .out 4, .b1, .fs 3 0, .go 0 1, .go 1 0, .go 2 1, .go 3 0, .kp 1, .st 1, .tb, .wb, .wi, .xs 0]
      ⊢ Q ⟨⟩) :
    St m K c
      [.pend 8, .wt 7, .out 4, .b1, .fs 3 0, .ft 0 1, .go 1 0, .go 3 0, .kp 1, .ld 0 0, .ld 2 0, .st 1, .tb, .wb, .wi, .xs 0]
      ⊢ wp frame (wpE (defs₀ (F := F)) 𝒱₀ (c : Thread nD τ) none) Set.univ
        (k0_part7 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part7_eq_skeleton]
  unfold k0_part7_skel
  simp only [smemLoad, smemLoadElt, semSignalWord, semWaitWord, Prog.lift, Prog.bind_op, Prog.bind_ret, Prog.pure_eq_ret, Prog.bind_assoc]
  refine s_next 0 0 8 7 (Fin.ext (dev_r c)) (hk := ?_)
  refine s_credit 2 0 9 7 (hk := ?_)
  refine s_next 2 0 9 8 (Fin.ext (dev_l c)) (hk := ?_)
  exact St_ret m K c (hk := hk)

/-- Part 8 of the kernel, from what the device holds before it to what it holds after it. -/
theorem part8 {v2 : BitVec 32} {Q : (PUnit) → sProp 𝕄}
    (hk : St m K c
      [.pend 10, .wt 10, .out 5, .b1, .fs 3 0, .go 0 1, .go 1 0, .go 2 1, .go 3 0, .kp 1, .ld 1 0, .ld 3 0, .rch 1 0, .rch 3 0, .st 1, .tb, .wb, .wi,
       .xs 0]
      ⊢ Q ⟨⟩) :
    St m K c
      [.pend 10, .wt 8, .out 4, .b1, .fs 3 0, .go 0 1, .go 1 0, .go 2 1, .go 3 0, .kp 1, .st 1, .tb, .wb, .wi, .xs 0]
      ⊢ wp frame (wpE (defs₀ (F := F)) 𝒱₀ (c : Thread nD τ) none) Set.univ
        (k0_part8 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1)) Q := by
  rw [k0_part8_eq_skeleton]
  unfold k0_part8_skel
  simp only [smemLoad, smemLoadElt, semSignalWord, semWaitWord, Prog.lift, Prog.bind_op, Prog.bind_ret, Prog.pure_eq_ret, Prog.bind_assoc]
  refine s_recv 1 0 10 8 (hk := ?_)
  refine s_load 1 0 (hk := ?_)
  refine s_tab (jr 0) (row_at c 2) (hk := ?_)
  refine s_assume m K c (ok1 c 0) ?_
  refine s_load_wb (hk := ?_)
  refine s_load_out 4 (hk := ?_)
  intro _
  refine s_store_out 4 (.hop 1 0) (at1 c 0) (hk := ?_)
  refine s_recv 3 0 10 9 (hk := ?_)
  exact St_ret m K c (hk := hk)

/-- Part 9 of the kernel, from what the device holds before it to what it holds after it. -/
theorem part9 {v2 : BitVec 32} {Q : (PUnit) → sProp 𝕄}
    (hk : St m K c
      [.pend 10, .wt 12, .out 6, .b1, .fs 1 0, .fs 3 0, .go 0 1, .go 2 1, .ld 1 0, .ld 3 0, .rch 1 0, .rch 3 0, .st 1, .tb, .wb, .wi, .xs 0]
      ⊢ Q ⟨⟩) :
    St m K c
      [.pend 10, .wt 10, .out 5, .b1, .fs 3 0, .go 0 1, .go 1 0, .go 2 1, .go 3 0, .kp 1, .ld 1 0, .ld 3 0, .rch 1 0, .rch 3 0, .st 1, .tb, .wb, .wi,
       .xs 0]
      ⊢ wp frame (wpE (defs₀ (F := F)) 𝒱₀ (c : Thread nD τ) none) Set.univ
        (k0_part9 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2) Q := by
  rw [k0_part9_eq_skeleton]
  unfold k0_part9_skel
  simp only [smemLoad, smemLoadElt, semSignalWord, semWaitWord, Prog.lift, Prog.bind_op, Prog.bind_ret, Prog.pure_eq_ret, Prog.bind_assoc]
  refine s_load 3 0 (hk := ?_)
  refine s_tab (jl 0) (row_at c 10) (hk := ?_)
  refine s_assume m K c (ok3 c 0) ?_
  refine s_load_wb (hk := ?_)
  refine s_load_out 5 (hk := ?_)
  intro _
  refine s_store_out 5 (.hop 3 0) (at3 c 0) (hk := ?_)
  refine s_sent_first 1 10 10 (hk := ?_)
  refine s_sent_first 3 10 11 (hk := ?_)
  refine St_mono m K c (unlend m c 1) (by decide +kernel) ?_
  exact St_ret m K c (hk := hk)

/-- Part 10 of the kernel, from what the device holds before it to what it holds after it. -/
theorem part10 {hw2 : k0_chk2 (tw c 0)} {hw1 : k0_chk1 (tw c 1)} {Q : (PUnit) → sProp 𝕄}
    (hk : St m K c
      [.pend 13, .wt 14, .out 6, .b1, .ft 3 1, .go 0 1, .go 1 1, .go 2 1, .ld 3 0, .st 1, .tb, .wb, .wi, .xs 0]
      ⊢ Q ⟨⟩) :
    St m K c
      [.pend 10, .wt 12, .out 6, .b1, .fs 1 0, .fs 3 0, .go 0 1, .go 2 1, .ld 1 0, .ld 3 0, .rch 1 0, .rch 3 0, .st 1, .tb, .wb, .wi, .xs 0]
      ⊢ wp frame (wpE (defs₀ (F := F)) 𝒱₀ (c : Thread nD τ) none) Set.univ
        (k0_part10 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part10_eq_skeleton]
  unfold k0_part10_skel
  simp only [smemLoad, smemLoadElt, semSignalWord, semWaitWord, Prog.lift, Prog.bind_op, Prog.bind_ret, Prog.pure_eq_ret, Prog.bind_assoc]
  refine s_signal 1 0 10 12 (Fin.ext (dev_l c)) (hk := ?_)
  refine s_signal 3 0 11 12 (Fin.ext (dev_r c)) (hk := ?_)
  refine s_credit 1 0 12 12 (hk := ?_)
  refine s_next 1 0 12 13 (Fin.ext (dev_r c)) (hk := ?_)
  refine s_credit 3 0 13 13 (hk := ?_)
  exact St_ret m K c (hk := hk)

/-- Part 11 of the kernel, from what the device holds before it to what it holds after it. -/
theorem part11 {hw1 : k0_chk1 (tw c 1)} {v2 : BitVec 32} {Q : (PUnit) → sProp 𝕄}
    (hk : St m K c
      [.pend 14, .wt 15, .out 7, .b1, .go 0 1, .go 1 1, .go 2 1, .go 3 1, .ld 0 1, .rch 0 1, .st 1, .tb, .wb, .wi, .xs 0]
      ⊢ Q ⟨⟩) :
    St m K c
      [.pend 13, .wt 14, .out 6, .b1, .ft 3 1, .go 0 1, .go 1 1, .go 2 1, .ld 3 0, .st 1, .tb, .wb, .wi, .xs 0]
      ⊢ wp frame (wpE (defs₀ (F := F)) 𝒱₀ (c : Thread nD τ) none) Set.univ
        (k0_part11 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (tw c 1) hw1) Q := by
  rw [k0_part11_eq_skeleton]
  unfold k0_part11_skel
  simp only [smemLoad, smemLoadElt, semSignalWord, semWaitWord, Prog.lift, Prog.bind_op, Prog.bind_ret, Prog.pure_eq_ret, Prog.bind_assoc]
  refine s_next 3 0 13 14 (Fin.ext (dev_l c)) (hk := ?_)
  refine s_recv 0 1 14 14 (hk := ?_)
  refine s_load 0 1 (hk := ?_)
  refine s_tab (jr 1) (row_at c 3) (hk := ?_)
  refine s_assume m K c (ok0 c 1) ?_
  refine s_load_wb (hk := ?_)
  refine s_load_out 6 (hk := ?_)
  intro _
  refine s_store_out 6 (.hop 0 1) (at0 c 1) (hk := ?_)
  exact St_ret m K c (hk := hk)

/-- Part 12 of the kernel, from what the device holds before it to what it holds after it. -/
theorem part12 {v2 : BitVec 32} {Q : (PUnit) → sProp 𝕄}
    (hk : St m K c
      [.pend 14, .wt 17, .out 8, .b1, .fs 0 1, .go 1 1, .go 2 1, .go 3 1, .ld 0 1, .ld 2 1, .rch 0 1, .rch 2 1, .st 1, .tb, .wb, .wi, .xs 0]
      ⊢ Q ⟨⟩) :
    St m K c
      [.pend 14, .wt 15, .out 7, .b1, .go 0 1, .go 1 1, .go 2 1, .go 3 1, .ld 0 1, .rch 0 1, .st 1, .tb, .wb, .wi, .xs 0]
      ⊢ wp frame (wpE (defs₀ (F := F)) 𝒱₀ (c : Thread nD τ) none) Set.univ
        (k0_part12 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2) Q := by
  rw [k0_part12_eq_skeleton]
  unfold k0_part12_skel
  simp only [smemLoad, smemLoadElt, semSignalWord, semWaitWord, Prog.lift, Prog.bind_op, Prog.bind_ret, Prog.pure_eq_ret, Prog.bind_assoc]
  refine s_recv 2 1 14 15 (hk := ?_)
  refine s_load 2 1 (hk := ?_)
  refine s_tab (jl 1) (row_at c 11) (hk := ?_)
  refine s_assume m K c (ok2 c 1) ?_
  refine s_load_wb (hk := ?_)
  refine s_load_out 7 (hk := ?_)
  intro _
  refine s_store_out 7 (.hop 2 1) (at2 c 1) (hk := ?_)
  refine s_sent 0 0 14 16 (hk := ?_)
  refine St_mono m K c (ld_free m c 0 0) (by decide +kernel) ?_
  exact St_ret m K c (hk := hk)

/-- Part 13 of the kernel, from what the device holds before it to what it holds after it. -/
theorem part13 {hw2 : k0_chk2 (tw c 0)} {hw1 : k0_chk1 (tw c 1)} {Q : (PUnit) → sProp 𝕄}
    (hk : St m K c
      [.pend 17, .wt 20, .out 8, .b1, .ft 2 2, .go 0 2, .go 1 1, .go 3 1, .ld 2 1, .st 1, .tb, .wb, .wi, .xs 0]
      ⊢ Q ⟨⟩) :
    St m K c
      [.pend 14, .wt 17, .out 8, .b1, .fs 0 1, .go 1 1, .go 2 1, .go 3 1, .ld 0 1, .ld 2 1, .rch 0 1, .rch 2 1, .st 1, .tb, .wb, .wi, .xs 0]
      ⊢ wp frame (wpE (defs₀ (F := F)) 𝒱₀ (c : Thread nD τ) none) Set.univ
        (k0_part13 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part13_eq_skeleton]
  unfold k0_part13_skel
  simp only [smemLoad, smemLoadElt, semSignalWord, semWaitWord, Prog.lift, Prog.bind_op, Prog.bind_ret, Prog.pure_eq_ret, Prog.bind_assoc]
  refine s_sent 2 0 14 17 (hk := ?_)
  refine St_mono m K c (ld_free m c 2 0) (by decide +kernel) ?_
  refine s_signal 0 1 14 18 (Fin.ext (dev_l c)) (hk := ?_)
  refine s_signal 2 1 15 18 (Fin.ext (dev_r c)) (hk := ?_)
  refine s_credit 0 1 16 18 (hk := ?_)
  refine s_next 0 1 16 19 (Fin.ext (dev_r c)) (hk := ?_)
  refine s_credit 2 1 17 19 (hk := ?_)
  exact St_ret m K c (hk := hk)

end Cert.Ring
-- ==== Proof.Parts2.lean ====
/-
The steps of the kernel, parts 14 to 25 of its program: in each, one line per operation.
-/
module

public import proofs.«01_k».proof.Proof.Rules
public import proofs.«01_k».proof.Proof.Tab
public import proofs.«01_k».proof.Proof.Gen.KernelIdeal.Skeleton

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable {m : (ℓ : Loc nD τ sig) → Buf (Elt F) ℓ} {K : Dev nD × Option Kn → ℕ} {c : Dev nD}

variable {h0 : (Memref.whole cc0_stg0_0 : Memref sig .tc .smem S16x18 .i32).IsWhole} {h1 : (Memref.whole main_arg0 : Memref sig .tc .hbm S512x8192 .f32).IsWhole} {h2 : (Memref.whole cc0_stg1_0 : Memref sig .tc .vmem S8192x256 .f32).IsWhole} {h3 : (Memref.whole cc0_stg2_0 : Memref sig .tc .vmem S8192x256 .bf16).IsWhole}
  {h4 : (Memref.whole cc0_scratch0 : Memref sig .tc .vmem S2x256x8192 .bf16).IsWhole} {h5 : (Memref.whole cc0_scratch1 : Memref sig .tc .vmem S2x256x8192 .bf16).IsWhole} {h6 : (Memref.whole cc0_scratch2 : Memref sig .tc .vmem S2x256x8192 .bf16).IsWhole} {h7 : (Memref.whole cc0_scratch3 : Memref sig .tc .vmem S2x256x8192 .bf16).IsWhole} {h8 : (Memref.whole cc0_scratch4 : Memref sig .tc .vmem S256x8192 .f32).IsWhole} {h9 : (Memref.whole cc0_scratch5 : Memref sig .tc .vmem S8192x256 .bf16).IsWhole}

/-- Part 14 of the kernel, from what the device holds before it to what it holds after it. -/
theorem part14 {hw1 : k0_chk1 (tw c 1)} {v2 : BitVec 32} {Q : (Σ' (v339 : Elt F .i32) (k0_hw9 : k0_chk9 v339) (v344 : FVec F S256x256 .bf16), BitVec 32) → sProp 𝕄}
    (hk : St m K c
      [.pend 18, .wt 21, .out 8, .b1, .go 0 2, .go 1 1, .go 2 2, .go 3 1, .ld 1 1, .rch 1 1, .st 1, .tb, .wb, .wi, .xs 0]
      ⊢ Q ⟨(tw c (jr 1)), (ok1 c 1), k0_pay16 (chk m (org c 1 1) (hf 1)) (wbf m c), (Scalar.addi (Scalar.muli (tw c (jr 1)) 512#32) 256#32)⟩) :
    St m K c
      [.pend 17, .wt 20, .out 8, .b1, .ft 2 2, .go 0 2, .go 1 1, .go 3 1, .ld 2 1, .st 1, .tb, .wb, .wi, .xs 0]
      ⊢ wp frame (wpE (defs₀ (F := F)) 𝒱₀ (c : Thread nD τ) none) Set.univ
        (k0_part14 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (tw c 1) hw1) Q := by
  rw [k0_part14_eq_skeleton]
  unfold k0_part14_skel
  simp only [smemLoad, smemLoadElt, semSignalWord, semWaitWord, Prog.lift, Prog.bind_op, Prog.bind_ret, Prog.pure_eq_ret, Prog.bind_assoc]
  refine s_next 2 1 17 20 (Fin.ext (dev_l c)) (hk := ?_)
  refine s_recv 1 1 18 20 (hk := ?_)
  refine s_load 1 1 (hk := ?_)
  refine s_tab (jr 1) (row_at c 3) (hk := ?_)
  refine s_assume m K c (ok1 c 1) ?_
  refine s_load_wb (hk := ?_)
  exact St_ret m K c (hk := hk)

/-- Part 15 of the kernel, from what the device holds before it to what it holds after it. -/
theorem part15 {v2 : BitVec 32} {Q : (PUnit) → sProp 𝕄}
    (hk : St m K c
      [.pend 18, .wt 22, .out 10, .b1, .go 0 2, .go 1 1, .go 2 2, .go 3 1, .ld 1 1, .ld 3 1, .rch 1 1, .rch 3 1, .st 1, .tb, .wb, .wi, .xs 0]
      ⊢ Q ⟨⟩) :
    St m K c
      [.pend 18, .wt 21, .out 8, .b1, .go 0 2, .go 1 1, .go 2 2, .go 3 1, .ld 1 1, .rch 1 1, .st 1, .tb, .wb, .wi, .xs 0]
      ⊢ wp frame (wpE (defs₀ (F := F)) 𝒱₀ (c : Thread nD τ) none) Set.univ
        (k0_part15 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1) (tw c (jr 1)) (ok1 c 1) (k0_pay16 (chk m (org c 1 1) (hf 1)) (wbf m c)) (Scalar.addi (Scalar.muli (tw c (jr 1)) 512#32) 256#32)) Q := by
  rw [k0_part15_eq_skeleton]
  unfold k0_part15_skel
  simp only [smemLoad, smemLoadElt, semSignalWord, semWaitWord, Prog.lift, Prog.bind_op, Prog.bind_ret, Prog.pure_eq_ret, Prog.bind_assoc]
  refine s_load_out 8 (hk := ?_)
  intro _
  refine s_store_out 8 (.hop 1 1) (at1 c 1) (hk := ?_)
  refine s_recv 3 1 18 21 (hk := ?_)
  refine s_load 3 1 (hk := ?_)
  refine s_tab (jl 1) (row_at c 11) (hk := ?_)
  refine s_assume m K c (ok3 c 1) ?_
  refine s_load_wb (hk := ?_)
  refine s_load_out 9 (hk := ?_)
  intro _
  refine s_store_out 9 (.hop 3 1) (at3 c 1) (hk := ?_)
  exact St_ret m K c (hk := hk)

/-- Part 16 of the kernel, from what the device holds before it to what it holds after it. -/
theorem part16 {hw2 : k0_chk2 (tw c 0)} {hw1 : k0_chk1 (tw c 1)} {Q : (PUnit) → sProp 𝕄}
    (hk : St m K c
      [.pend 20, .wt 25, .out 10, .b1, .ft 1 2, .go 0 2, .go 2 2, .ld 1 1, .ld 3 1, .st 1, .tb, .wb, .wi, .xs 0]
      ⊢ Q ⟨⟩) :
    St m K c
      [.pend 18, .wt 22, .out 10, .b1, .go 0 2, .go 1 1, .go 2 2, .go 3 1, .ld 1 1, .ld 3 1, .rch 1 1, .rch 3 1, .st 1, .tb, .wb, .wi, .xs 0]
      ⊢ wp frame (wpE (defs₀ (F := F)) 𝒱₀ (c : Thread nD τ) none) Set.univ
        (k0_part16 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part16_eq_skeleton]
  unfold k0_part16_skel
  simp only [smemLoad, smemLoadElt, semSignalWord, semWaitWord, Prog.lift, Prog.bind_op, Prog.bind_ret, Prog.pure_eq_ret, Prog.bind_assoc]
  refine s_sent 1 0 18 22 (hk := ?_)
  refine St_mono m K c (ld_free m c 1 0) (by decide +kernel) ?_
  refine s_sent 3 0 18 23 (hk := ?_)
  refine St_mono m K c (ld_free m c 3 0) (by decide +kernel) ?_
  refine s_signal 1 1 18 24 (Fin.ext (dev_l c)) (hk := ?_)
  refine s_signal 3 1 19 24 (Fin.ext (dev_r c)) (hk := ?_)
  refine s_credit 1 1 20 24 (hk := ?_)
  exact St_ret m K c (hk := hk)

/-- Part 17 of the kernel, from what the device holds before it to what it holds after it. -/
theorem part17 {hw2 : k0_chk2 (tw c 0)} {hw1 : k0_chk1 (tw c 1)} {v2 : BitVec 32} {Q : (Σ' (v415 : FVec F S256x8192 .bf16), Elt F .i32) → sProp 𝕄}
    (hk : St m K c
      [.pend 22, .wt 27, .out 10, .b1, .go 0 2, .go 1 2, .go 2 2, .go 3 2, .ld 0 2, .rch 0 2, .st 1, .tb, .wb, .wi, .xs 0]
      ⊢ Q ⟨k0_pay18 (chk m (org c 0 2) (hf 0)), (tw c (jr 2))⟩) :
    St m K c
      [.pend 20, .wt 25, .out 10, .b1, .ft 1 2, .go 0 2, .go 2 2, .ld 1 1, .ld 3 1, .st 1, .tb, .wb, .wi, .xs 0]
      ⊢ wp frame (wpE (defs₀ (F := F)) 𝒱₀ (c : Thread nD τ) none) Set.univ
        (k0_part17 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) hw2 (tw c 1) hw1) Q := by
  rw [k0_part17_eq_skeleton]
  unfold k0_part17_skel
  simp only [smemLoad, smemLoadElt, semSignalWord, semWaitWord, Prog.lift, Prog.bind_op, Prog.bind_ret, Prog.pure_eq_ret, Prog.bind_assoc]
  refine s_next 1 1 20 25 (Fin.ext (dev_r c)) (hk := ?_)
  refine s_credit 3 1 21 25 (hk := ?_)
  refine s_next 3 1 21 26 (Fin.ext (dev_l c)) (hk := ?_)
  refine s_recv 0 2 22 26 (hk := ?_)
  refine s_load 0 2 (hk := ?_)
  refine s_tab (jr 2) (row_at c 4) (hk := ?_)
  exact St_ret m K c (hk := hk)

/-- Part 18 of the kernel, from what the device holds before it to what it holds after it. -/
theorem part18 {v2 : BitVec 32} {Q : (Σ' (v438 : Elt F .i32) (k0_hw12 : k0_chk12 v438) (v443 : FVec F S256x256 .bf16) (v444 : BitVec 32), BitVec 32) → sProp 𝕄}
    (hk : St m K c
      [.pend 22, .wt 28, .out 11, .b1, .go 0 2, .go 1 2, .go 2 2, .go 3 2, .ld 0 2, .ld 2 2, .rch 0 2, .rch 2 2, .st 1, .tb, .wb, .wi, .xs 0]
      ⊢ Q ⟨(tw c (jl 2)), (ok2 c 2), k0_pay20 (chk m (org c 2 2) (hf 2)) (wbf m c), (Scalar.muli (tw c (jl 2)) 512#32), 0#32⟩) :
    St m K c
      [.pend 22, .wt 27, .out 10, .b1, .go 0 2, .go 1 2, .go 2 2, .go 3 2, .ld 0 2, .rch 0 2, .st 1, .tb, .wb, .wi, .xs 0]
      ⊢ wp frame (wpE (defs₀ (F := F)) 𝒱₀ (c : Thread nD τ) none) Set.univ
        (k0_part18 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1) (k0_pay18 (chk m (org c 0 2) (hf 0))) (tw c (jr 2))) Q := by
  rw [k0_part18_eq_skeleton]
  unfold k0_part18_skel
  simp only [smemLoad, smemLoadElt, semSignalWord, semWaitWord, Prog.lift, Prog.bind_op, Prog.bind_ret, Prog.pure_eq_ret, Prog.bind_assoc]
  refine s_assume m K c (ok0 c 2) ?_
  refine s_load_wb (hk := ?_)
  refine s_load_out 10 (hk := ?_)
  intro _
  refine s_store_out 10 (.hop 0 2) (at0 c 2) (hk := ?_)
  refine s_recv 2 2 22 27 (hk := ?_)
  refine s_load 2 2 (hk := ?_)
  refine s_tab (jl 2) (row_at c 12) (hk := ?_)
  refine s_assume m K c (ok2 c 2) ?_
  refine s_load_wb (hk := ?_)
  exact St_ret m K c (hk := hk)

/-- Part 19 of the kernel, from what the device holds before it to what it holds after it. -/
theorem part19 {hw2 : k0_chk2 (tw c 0)} {hw1 : k0_chk1 (tw c 1)} {Q : (PUnit) → sProp 𝕄}
    (hk : St m K c
      [.pend 24, .wt 31, .out 12, .b1, .ft 0 3, .go 1 2, .go 3 2, .ld 0 2, .ld 2 2, .st 1, .tb, .wb, .wi, .xs 0]
      ⊢ Q ⟨⟩) :
    St m K c
      [.pend 22, .wt 28, .out 11, .b1, .go 0 2, .go 1 2, .go 2 2, .go 3 2, .ld 0 2, .ld 2 2, .rch 0 2, .rch 2 2, .st 1, .tb, .wb, .wi, .xs 0]
      ⊢ wp frame (wpE (defs₀ (F := F)) 𝒱₀ (c : Thread nD τ) none) Set.univ
        (k0_part19 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1 (tw c (jl 2)) (ok2 c 2) (k0_pay20 (chk m (org c 2 2) (hf 2)) (wbf m c)) (Scalar.muli (tw c (jl 2)) 512#32) 0#32) Q := by
  rw [k0_part19_eq_skeleton]
  unfold k0_part19_skel
  simp only [smemLoad, smemLoadElt, semSignalWord, semWaitWord, Prog.lift, Prog.bind_op, Prog.bind_ret, Prog.pure_eq_ret, Prog.bind_assoc]
  refine s_load_out 11 (hk := ?_)
  intro _
  refine s_store_out 11 (.hop 2 2) (at2 c 2) (hk := ?_)
  refine s_sent 0 1 22 28 (hk := ?_)
  refine St_mono m K c (ld_free m c 0 1) (by decide +kernel) ?_
  refine s_sent 2 1 22 29 (hk := ?_)
  refine St_mono m K c (ld_free m c 2 1) (by decide +kernel) ?_
  refine s_signal 0 2 22 30 (Fin.ext (dev_l c)) (hk := ?_)
  refine s_signal 2 2 23 30 (Fin.ext (dev_r c)) (hk := ?_)
  refine s_credit 0 2 24 30 (hk := ?_)
  exact St_ret m K c (hk := hk)

/-- Part 20 of the kernel, from what the device holds before it to what it holds after it. -/
theorem part20 {hw2 : k0_chk2 (tw c 0)} {hw1 : k0_chk1 (tw c 1)} {Q : (PUnit) → sProp 𝕄}
    (hk : St m K c
      [.pend 26, .wt 32, .out 12, .b1, .go 0 3, .go 1 2, .go 2 3, .go 3 2, .st 1, .tb, .wb, .wi, .xs 0]
      ⊢ Q ⟨⟩) :
    St m K c
      [.pend 24, .wt 31, .out 12, .b1, .ft 0 3, .go 1 2, .go 3 2, .ld 0 2, .ld 2 2, .st 1, .tb, .wb, .wi, .xs 0]
      ⊢ wp frame (wpE (defs₀ (F := F)) 𝒱₀ (c : Thread nD τ) none) Set.univ
        (k0_part20 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part20_eq_skeleton]
  unfold k0_part20_skel
  simp only [smemLoad, smemLoadElt, semSignalWord, semWaitWord, Prog.lift, Prog.bind_op, Prog.bind_ret, Prog.pure_eq_ret, Prog.bind_assoc]
  refine s_next 0 2 24 31 (Fin.ext (dev_r c)) (hk := ?_)
  refine s_credit 2 2 25 31 (hk := ?_)
  refine s_next 2 2 25 32 (Fin.ext (dev_l c)) (hk := ?_)
  exact St_ret m K c (hk := hk)

/-- Part 21 of the kernel, from what the device holds before it to what it holds after it. -/
theorem part21 {v2 : BitVec 32} {Q : (FVec F S256x8192 .bf16) → sProp 𝕄}
    (hk : St m K c
      [.pend 26, .wt 34, .out 13, .b1, .go 0 3, .go 1 2, .go 2 3, .go 3 2, .ld 1 2, .ld 3 2, .rch 1 2, .rch 3 2, .st 1, .tb, .wb, .wi, .xs 0]
      ⊢ Q (k0_pay22 (chk m (org c 3 2) (hf 3)))) :
    St m K c
      [.pend 26, .wt 32, .out 12, .b1, .go 0 3, .go 1 2, .go 2 3, .go 3 2, .st 1, .tb, .wb, .wi, .xs 0]
      ⊢ wp frame (wpE (defs₀ (F := F)) 𝒱₀ (c : Thread nD τ) none) Set.univ
        (k0_part21 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1)) Q := by
  rw [k0_part21_eq_skeleton]
  unfold k0_part21_skel
  simp only [smemLoad, smemLoadElt, semSignalWord, semWaitWord, Prog.lift, Prog.bind_op, Prog.bind_ret, Prog.pure_eq_ret, Prog.bind_assoc]
  refine s_recv 1 2 26 32 (hk := ?_)
  refine s_load 1 2 (hk := ?_)
  refine s_tab (jr 2) (row_at c 4) (hk := ?_)
  refine s_assume m K c (ok1 c 2) ?_
  refine s_load_wb (hk := ?_)
  refine s_load_out 12 (hk := ?_)
  intro _
  refine s_store_out 12 (.hop 1 2) (at1 c 2) (hk := ?_)
  refine s_recv 3 2 26 33 (hk := ?_)
  refine s_load 3 2 (hk := ?_)
  exact St_ret m K c (hk := hk)

/-- Part 22 of the kernel, from what the device holds before it to what it holds after it. -/
theorem part22 {Q : (PUnit) → sProp 𝕄}
    (hk : St m K c
      [.pend 26, .wt 36, .out 14, .b1, .fs 1 0, .fs 3 0, .go 0 3, .go 2 3, .ld 1 2, .ld 3 2, .rch 1 2, .rch 3 2, .st 1, .tb, .wb, .wi, .xs 0]
      ⊢ Q ⟨⟩) :
    St m K c
      [.pend 26, .wt 34, .out 13, .b1, .go 0 3, .go 1 2, .go 2 3, .go 3 2, .ld 1 2, .ld 3 2, .rch 1 2, .rch 3 2, .st 1, .tb, .wb, .wi, .xs 0]
      ⊢ wp frame (wpE (defs₀ (F := F)) 𝒱₀ (c : Thread nD τ) none) Set.univ
        (k0_part22 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c (tw c 1) (k0_pay22 (chk m (org c 3 2) (hf 3)))) Q := by
  rw [k0_part22_eq_skeleton]
  unfold k0_part22_skel
  simp only [smemLoad, smemLoadElt, semSignalWord, semWaitWord, Prog.lift, Prog.bind_op, Prog.bind_ret, Prog.pure_eq_ret, Prog.bind_assoc]
  refine s_tab (jl 2) (row_at c 12) (hk := ?_)
  refine s_assume m K c (ok3 c 2) ?_
  refine s_load_wb (hk := ?_)
  refine s_load_out 13 (hk := ?_)
  intro _
  refine s_store_out 13 (.hop 3 2) (at3 c 2) (hk := ?_)
  refine s_sent 1 1 26 34 (hk := ?_)
  refine St_mono m K c (ld_free m c 1 1) (by decide +kernel) ?_
  refine s_sent 3 1 26 35 (hk := ?_)
  refine St_mono m K c (ld_free m c 3 1) (by decide +kernel) ?_
  exact St_ret m K c (hk := hk)

/-- Part 23 of the kernel, from what the device holds before it to what it holds after it. -/
theorem part23 {hw2 : k0_chk2 (tw c 0)} {hw1 : k0_chk1 (tw c 1)} {Q : (PUnit) → sProp 𝕄}
    (hk : St m K c
      [.pend 30, .wt 38, .out 14, .b1, .go 0 3, .go 1 3, .go 2 3, .go 3 3, .st 1, .tb, .wb, .wi, .xs 0]
      ⊢ Q ⟨⟩) :
    St m K c
      [.pend 26, .wt 36, .out 14, .b1, .fs 1 0, .fs 3 0, .go 0 3, .go 2 3, .ld 1 2, .ld 3 2, .rch 1 2, .rch 3 2, .st 1, .tb, .wb, .wi, .xs 0]
      ⊢ wp frame (wpE (defs₀ (F := F)) 𝒱₀ (c : Thread nD τ) none) Set.univ
        (k0_part23 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part23_eq_skeleton]
  unfold k0_part23_skel
  simp only [smemLoad, smemLoadElt, semSignalWord, semWaitWord, Prog.lift, Prog.bind_op, Prog.bind_ret, Prog.pure_eq_ret, Prog.bind_assoc]
  refine s_signal 1 2 26 36 (Fin.ext (dev_l c)) (hk := ?_)
  refine s_signal 3 2 27 36 (Fin.ext (dev_r c)) (hk := ?_)
  refine s_credit 1 2 28 36 (hk := ?_)
  refine s_next 1 2 28 37 (Fin.ext (dev_r c)) (hk := ?_)
  refine s_credit 3 2 29 37 (hk := ?_)
  refine s_next 3 2 29 38 (Fin.ext (dev_l c)) (hk := ?_)
  exact St_ret m K c (hk := hk)

/-- Part 24 of the kernel, from what the device holds before it to what it holds after it. -/
theorem part24 {v2 : BitVec 32} {Q : (PUnit) → sProp 𝕄}
    (hk : St m K c
      [.pend 30, .wt 39, .out 15, .b1, .go 0 3, .go 1 3, .go 2 3, .go 3 3, .ld 0 3, .rch 0 3, .st 1, .tb, .wb, .wi, .xs 0]
      ⊢ Q ⟨⟩) :
    St m K c
      [.pend 30, .wt 38, .out 14, .b1, .go 0 3, .go 1 3, .go 2 3, .go 3 3, .st 1, .tb, .wb, .wi, .xs 0]
      ⊢ wp frame (wpE (defs₀ (F := F)) 𝒱₀ (c : Thread nD τ) none) Set.univ
        (k0_part24 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (tw c 1)) Q := by
  rw [k0_part24_eq_skeleton]
  unfold k0_part24_skel
  simp only [smemLoad, smemLoadElt, semSignalWord, semWaitWord, Prog.lift, Prog.bind_op, Prog.bind_ret, Prog.pure_eq_ret, Prog.bind_assoc]
  refine s_recv 0 3 30 38 (hk := ?_)
  refine s_load 0 3 (hk := ?_)
  refine s_tab (jr 3) (row_at c 5) (hk := ?_)
  refine s_assume m K c (ok0 c 3) ?_
  refine s_load_wb (hk := ?_)
  refine s_load_out 14 (hk := ?_)
  intro _
  refine s_store_out 14 (.hop 0 3) (at0 c 3) (hk := ?_)
  exact St_ret m K c (hk := hk)

/-- Part 25 of the kernel, from what the device holds before it to what it holds after it. -/
theorem part25 {v2 : BitVec 32} {Q : (PUnit) → sProp 𝕄}
    (hk : St m K c
      [.pend 30, .wt 41, .out 16, .b1, .fs 0 1, .go 1 3, .go 2 3, .go 3 3, .ld 0 3, .ld 2 3, .rch 0 3, .rch 2 3, .st 1, .tb, .wb, .wi, .xs 0]
      ⊢ Q ⟨⟩) :
    St m K c
      [.pend 30, .wt 39, .out 15, .b1, .go 0 3, .go 1 3, .go 2 3, .go 3 3, .ld 0 3, .rch 0 3, .st 1, .tb, .wb, .wi, .xs 0]
      ⊢ wp frame (wpE (defs₀ (F := F)) 𝒱₀ (c : Thread nD τ) none) Set.univ
        (k0_part25 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2) Q := by
  rw [k0_part25_eq_skeleton]
  unfold k0_part25_skel
  simp only [smemLoad, smemLoadElt, semSignalWord, semWaitWord, Prog.lift, Prog.bind_op, Prog.bind_ret, Prog.pure_eq_ret, Prog.bind_assoc]
  refine s_recv 2 3 30 39 (hk := ?_)
  refine s_load 2 3 (hk := ?_)
  refine s_tab (jl 3) (row_at c 13) (hk := ?_)
  refine s_assume m K c (ok2 c 3) ?_
  refine s_load_wb (hk := ?_)
  refine s_load_out 15 (hk := ?_)
  intro _
  refine s_store_out 15 (.hop 2 3) (at2 c 3) (hk := ?_)
  refine s_sent 0 2 30 40 (hk := ?_)
  refine St_mono m K c (ld_free m c 0 2) (by decide +kernel) ?_
  exact St_ret m K c (hk := hk)

end Cert.Ring
-- ==== Proof.Parts3.lean ====
/-
The steps of the kernel, parts 26 to 37 of its program: in each, one line per operation.
-/
module

public import proofs.«01_k».proof.Proof.Rules
public import proofs.«01_k».proof.Proof.Tab
public import proofs.«01_k».proof.Proof.Gen.KernelIdeal.Skeleton

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable {m : (ℓ : Loc nD τ sig) → Buf (Elt F) ℓ} {K : Dev nD × Option Kn → ℕ} {c : Dev nD}

variable {h0 : (Memref.whole cc0_stg0_0 : Memref sig .tc .smem S16x18 .i32).IsWhole} {h1 : (Memref.whole main_arg0 : Memref sig .tc .hbm S512x8192 .f32).IsWhole} {h2 : (Memref.whole cc0_stg1_0 : Memref sig .tc .vmem S8192x256 .f32).IsWhole} {h3 : (Memref.whole cc0_stg2_0 : Memref sig .tc .vmem S8192x256 .bf16).IsWhole}
  {h4 : (Memref.whole cc0_scratch0 : Memref sig .tc .vmem S2x256x8192 .bf16).IsWhole} {h5 : (Memref.whole cc0_scratch1 : Memref sig .tc .vmem S2x256x8192 .bf16).IsWhole} {h6 : (Memref.whole cc0_scratch2 : Memref sig .tc .vmem S2x256x8192 .bf16).IsWhole} {h7 : (Memref.whole cc0_scratch3 : Memref sig .tc .vmem S2x256x8192 .bf16).IsWhole} {h8 : (Memref.whole cc0_scratch4 : Memref sig .tc .vmem S256x8192 .f32).IsWhole} {h9 : (Memref.whole cc0_scratch5 : Memref sig .tc .vmem S8192x256 .bf16).IsWhole}

/-- Part 26 of the kernel, from what the device holds before it to what it holds after it. -/
theorem part26 {hw2 : k0_chk2 (tw c 0)} {hw1 : k0_chk1 (tw c 1)} {Q : (PUnit) → sProp 𝕄}
    (hk : St m K c
      [.pend 33, .wt 44, .out 16, .b1, .ft 2 4, .go 0 4, .go 1 3, .go 3 3, .ld 2 3, .st 1, .tb, .wb, .wi, .xs 0]
      ⊢ Q ⟨⟩) :
    St m K c
      [.pend 30, .wt 41, .out 16, .b1, .fs 0 1, .go 1 3, .go 2 3, .go 3 3, .ld 0 3, .ld 2 3, .rch 0 3, .rch 2 3, .st 1, .tb, .wb, .wi, .xs 0]
      ⊢ wp frame (wpE (defs₀ (F := F)) 𝒱₀ (c : Thread nD τ) none) Set.univ
        (k0_part26 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part26_eq_skeleton]
  unfold k0_part26_skel
  simp only [smemLoad, smemLoadElt, semSignalWord, semWaitWord, Prog.lift, Prog.bind_op, Prog.bind_ret, Prog.pure_eq_ret, Prog.bind_assoc]
  refine s_sent 2 2 30 41 (hk := ?_)
  refine St_mono m K c (ld_free m c 2 2) (by decide +kernel) ?_
  refine s_signal 0 3 30 42 (Fin.ext (dev_l c)) (hk := ?_)
  refine s_signal 2 3 31 42 (Fin.ext (dev_r c)) (hk := ?_)
  refine s_credit 0 3 32 42 (hk := ?_)
  refine s_next 0 3 32 43 (Fin.ext (dev_r c)) (hk := ?_)
  refine s_credit 2 3 33 43 (hk := ?_)
  exact St_ret m K c (hk := hk)

/-- Part 27 of the kernel, from what the device holds before it to what it holds after it. -/
theorem part27 {hw1 : k0_chk1 (tw c 1)} {v2 : BitVec 32} {Q : (PUnit) → sProp 𝕄}
    (hk : St m K c
      [.pend 34, .wt 45, .out 17, .b1, .go 0 4, .go 1 3, .go 2 4, .go 3 3, .ld 1 3, .rch 1 3, .st 1, .tb, .wb, .wi, .xs 0]
      ⊢ Q ⟨⟩) :
    St m K c
      [.pend 33, .wt 44, .out 16, .b1, .ft 2 4, .go 0 4, .go 1 3, .go 3 3, .ld 2 3, .st 1, .tb, .wb, .wi, .xs 0]
      ⊢ wp frame (wpE (defs₀ (F := F)) 𝒱₀ (c : Thread nD τ) none) Set.univ
        (k0_part27 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (tw c 1) hw1) Q := by
  rw [k0_part27_eq_skeleton]
  unfold k0_part27_skel
  simp only [smemLoad, smemLoadElt, semSignalWord, semWaitWord, Prog.lift, Prog.bind_op, Prog.bind_ret, Prog.pure_eq_ret, Prog.bind_assoc]
  refine s_next 2 3 33 44 (Fin.ext (dev_l c)) (hk := ?_)
  refine s_recv 1 3 34 44 (hk := ?_)
  refine s_load 1 3 (hk := ?_)
  refine s_tab (jr 3) (row_at c 5) (hk := ?_)
  refine s_assume m K c (ok1 c 3) ?_
  refine s_load_wb (hk := ?_)
  refine s_load_out 16 (hk := ?_)
  intro _
  refine s_store_out 16 (.hop 1 3) (at1 c 3) (hk := ?_)
  exact St_ret m K c (hk := hk)

/-- Part 28 of the kernel, from what the device holds before it to what it holds after it. -/
theorem part28 {v2 : BitVec 32} {Q : (PUnit) → sProp 𝕄}
    (hk : St m K c
      [.pend 34, .wt 46, .out 18, .b1, .go 0 4, .go 1 3, .go 2 4, .go 3 3, .ld 1 3, .ld 3 3, .rch 1 3, .rch 3 3, .st 1, .tb, .wb, .wi, .xs 0]
      ⊢ Q ⟨⟩) :
    St m K c
      [.pend 34, .wt 45, .out 17, .b1, .go 0 4, .go 1 3, .go 2 4, .go 3 3, .ld 1 3, .rch 1 3, .st 1, .tb, .wb, .wi, .xs 0]
      ⊢ wp frame (wpE (defs₀ (F := F)) 𝒱₀ (c : Thread nD τ) none) Set.univ
        (k0_part28 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1)) Q := by
  rw [k0_part28_eq_skeleton]
  unfold k0_part28_skel
  simp only [smemLoad, smemLoadElt, semSignalWord, semWaitWord, Prog.lift, Prog.bind_op, Prog.bind_ret, Prog.pure_eq_ret, Prog.bind_assoc]
  refine s_recv 3 3 34 45 (hk := ?_)
  refine s_load 3 3 (hk := ?_)
  refine s_tab (jl 3) (row_at c 13) (hk := ?_)
  refine s_assume m K c (ok3 c 3) ?_
  refine s_load_wb (hk := ?_)
  refine s_load_out 17 (hk := ?_)
  intro _
  refine s_store_out 17 (.hop 3 3) (at3 c 3) (hk := ?_)
  exact St_ret m K c (hk := hk)

/-- Part 29 of the kernel, from what the device holds before it to what it holds after it. -/
theorem part29 {hw2 : k0_chk2 (tw c 0)} {hw1 : k0_chk1 (tw c 1)} {Q : (PUnit) → sProp 𝕄}
    (hk : St m K c
      [.pend 36, .wt 49, .out 18, .b1, .ft 1 4, .go 0 4, .go 2 4, .ld 1 3, .ld 3 3, .st 1, .tb, .wb, .wi, .xs 0]
      ⊢ Q ⟨⟩) :
    St m K c
      [.pend 34, .wt 46, .out 18, .b1, .go 0 4, .go 1 3, .go 2 4, .go 3 3, .ld 1 3, .ld 3 3, .rch 1 3, .rch 3 3, .st 1, .tb, .wb, .wi, .xs 0]
      ⊢ wp frame (wpE (defs₀ (F := F)) 𝒱₀ (c : Thread nD τ) none) Set.univ
        (k0_part29 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part29_eq_skeleton]
  unfold k0_part29_skel
  simp only [smemLoad, smemLoadElt, semSignalWord, semWaitWord, Prog.lift, Prog.bind_op, Prog.bind_ret, Prog.pure_eq_ret, Prog.bind_assoc]
  refine s_sent 1 2 34 46 (hk := ?_)
  refine St_mono m K c (ld_free m c 1 2) (by decide +kernel) ?_
  refine s_sent 3 2 34 47 (hk := ?_)
  refine St_mono m K c (ld_free m c 3 2) (by decide +kernel) ?_
  refine s_signal 1 3 34 48 (Fin.ext (dev_l c)) (hk := ?_)
  refine s_signal 3 3 35 48 (Fin.ext (dev_r c)) (hk := ?_)
  refine s_credit 1 3 36 48 (hk := ?_)
  exact St_ret m K c (hk := hk)

/-- Part 30 of the kernel, from what the device holds before it to what it holds after it. -/
theorem part30 {hw2 : k0_chk2 (tw c 0)} {hw1 : k0_chk1 (tw c 1)} {v2 : BitVec 32} {Q : (Σ' (v727 : FVec F S256x8192 .bf16) (v729 : Elt F .i32) (k0_hw19 : k0_chk19 v729), Vec F S8192x256 .bf16) → sProp 𝕄}
    (hk : St m K c
      [.pend 38, .wt 51, .out 18, .b1, .go 0 4, .go 1 4, .go 2 4, .go 3 4, .ld 0 4, .rch 0 4, .st 1, .tb, .wb, .wi, .xs 0]
      ⊢ Q ⟨k0_pay28 (chk m (org c 0 4) (hf 0)), (tw c (jr 4)), (ok0 c 4), (wbf m c)⟩) :
    St m K c
      [.pend 36, .wt 49, .out 18, .b1, .ft 1 4, .go 0 4, .go 2 4, .ld 1 3, .ld 3 3, .st 1, .tb, .wb, .wi, .xs 0]
      ⊢ wp frame (wpE (defs₀ (F := F)) 𝒱₀ (c : Thread nD τ) none) Set.univ
        (k0_part30 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) hw2 (tw c 1) hw1) Q := by
  rw [k0_part30_eq_skeleton]
  unfold k0_part30_skel
  simp only [smemLoad, smemLoadElt, semSignalWord, semWaitWord, Prog.lift, Prog.bind_op, Prog.bind_ret, Prog.pure_eq_ret, Prog.bind_assoc]
  refine s_next 1 3 36 49 (Fin.ext (dev_r c)) (hk := ?_)
  refine s_credit 3 3 37 49 (hk := ?_)
  refine s_next 3 3 37 50 (Fin.ext (dev_l c)) (hk := ?_)
  refine s_recv 0 4 38 50 (hk := ?_)
  refine s_load 0 4 (hk := ?_)
  refine s_tab (jr 4) (row_at c 6) (hk := ?_)
  refine s_assume m K c (ok0 c 4) ?_
  refine s_load_wb (hk := ?_)
  exact St_ret m K c (hk := hk)

/-- Part 31 of the kernel, from what the device holds before it to what it holds after it. -/
theorem part31 {v2 : BitVec 32} {Q : (Σ' (v750 : Elt F .i32) (k0_hw20 : k0_chk20 v750), FVec F S256x256 .bf16) → sProp 𝕄}
    (hk : St m K c
      [.pend 38, .wt 52, .out 19, .b1, .go 0 4, .go 1 4, .go 2 4, .go 3 4, .ld 0 4, .ld 2 4, .rch 0 4, .rch 2 4, .st 1, .tb, .wb, .wi, .xs 0]
      ⊢ Q ⟨(tw c (jl 4)), (ok2 c 4), k0_pay30 (chk m (org c 2 4) (hf 2)) (wbf m c)⟩) :
    St m K c
      [.pend 38, .wt 51, .out 18, .b1, .go 0 4, .go 1 4, .go 2 4, .go 3 4, .ld 0 4, .rch 0 4, .st 1, .tb, .wb, .wi, .xs 0]
      ⊢ wp frame (wpE (defs₀ (F := F)) 𝒱₀ (c : Thread nD τ) none) Set.univ
        (k0_part31 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1) (k0_pay28 (chk m (org c 0 4) (hf 0))) (tw c (jr 4)) (ok0 c 4) (wbf m c)) Q := by
  rw [k0_part31_eq_skeleton]
  unfold k0_part31_skel
  simp only [smemLoad, smemLoadElt, semSignalWord, semWaitWord, Prog.lift, Prog.bind_op, Prog.bind_ret, Prog.pure_eq_ret, Prog.bind_assoc]
  refine s_load_out 18 (hk := ?_)
  intro _
  refine s_store_out 18 (.hop 0 4) (at0 c 4) (hk := ?_)
  refine s_recv 2 4 38 51 (hk := ?_)
  refine s_load 2 4 (hk := ?_)
  refine s_tab (jl 4) (row_at c 14) (hk := ?_)
  refine s_assume m K c (ok2 c 4) ?_
  refine s_load_wb (hk := ?_)
  refine s_load_out 19 (hk := ?_)
  intro _
  exact St_ret m K c (hk := hk)

/-- Part 32 of the kernel, from what the device holds before it to what it holds after it. -/
theorem part32 {hw2 : k0_chk2 (tw c 0)} {hw1 : k0_chk1 (tw c 1)} {Q : (BitVec 32) → sProp 𝕄}
    (hk : St m K c
      [.pend 40, .wt 55, .out 20, .b1, .ft 0 5, .go 1 4, .go 3 4, .ld 0 4, .ld 2 4, .st 1, .tb, .wb, .wi, .xs 0]
      ⊢ Q (Scalar.muli (tw c 0) 1#32)) :
    St m K c
      [.pend 38, .wt 52, .out 19, .b1, .go 0 4, .go 1 4, .go 2 4, .go 3 4, .ld 0 4, .ld 2 4, .rch 0 4, .rch 2 4, .st 1, .tb, .wb, .wi, .xs 0]
      ⊢ wp frame (wpE (defs₀ (F := F)) 𝒱₀ (c : Thread nD τ) none) Set.univ
        (k0_part32 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1 (tw c (jl 4)) (ok2 c 4) (k0_pay30 (chk m (org c 2 4) (hf 2)) (wbf m c))) Q := by
  rw [k0_part32_eq_skeleton]
  unfold k0_part32_skel
  simp only [smemLoad, smemLoadElt, semSignalWord, semWaitWord, Prog.lift, Prog.bind_op, Prog.bind_ret, Prog.pure_eq_ret, Prog.bind_assoc]
  refine s_store_out 19 (.hop 2 4) (at2 c 4) (hk := ?_)
  refine s_sent 0 3 38 52 (hk := ?_)
  refine St_mono m K c (ld_free m c 0 3) (by decide +kernel) ?_
  refine s_sent 2 3 38 53 (hk := ?_)
  refine St_mono m K c (ld_free m c 2 3) (by decide +kernel) ?_
  refine s_signal 0 4 38 54 (Fin.ext (dev_l c)) (hk := ?_)
  refine s_signal 2 4 39 54 (Fin.ext (dev_r c)) (hk := ?_)
  refine s_credit 0 4 40 54 (hk := ?_)
  exact St_ret m K c (hk := hk)

/-- Part 33 of the kernel, from what the device holds before it to what it holds after it. -/
theorem part33 {hw2 : k0_chk2 (tw c 0)} {hw1 : k0_chk1 (tw c 1)} {Q : (PUnit) → sProp 𝕄}
    (hk : St m K c
      [.pend 42, .wt 56, .out 20, .b1, .go 0 5, .go 1 4, .go 2 5, .go 3 4, .st 1, .tb, .wb, .wi, .xs 0]
      ⊢ Q ⟨⟩) :
    St m K c
      [.pend 40, .wt 55, .out 20, .b1, .ft 0 5, .go 1 4, .go 3 4, .ld 0 4, .ld 2 4, .st 1, .tb, .wb, .wi, .xs 0]
      ⊢ wp frame (wpE (defs₀ (F := F)) 𝒱₀ (c : Thread nD τ) none) Set.univ
        (k0_part33 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1 (Scalar.muli (tw c 0) 1#32)) Q := by
  rw [k0_part33_eq_skeleton]
  unfold k0_part33_skel
  simp only [smemLoad, smemLoadElt, semSignalWord, semWaitWord, Prog.lift, Prog.bind_op, Prog.bind_ret, Prog.pure_eq_ret, Prog.bind_assoc]
  refine s_next 0 4 40 55 (Fin.ext (dev_r c)) (hk := ?_)
  refine s_credit 2 4 41 55 (hk := ?_)
  refine s_next 2 4 41 56 (Fin.ext (dev_l c)) (hk := ?_)
  exact St_ret m K c (hk := hk)

/-- Part 34 of the kernel, from what the device holds before it to what it holds after it. -/
theorem part34 {v2 : BitVec 32} {Q : (Σ' (v826 : FVec F S256x8192 .bf16) (v828 : Elt F .i32), k0_chk22 v828) → sProp 𝕄}
    (hk : St m K c
      [.pend 42, .wt 58, .out 21, .b1, .go 0 5, .go 1 4, .go 2 5, .go 3 4, .ld 1 4, .ld 3 4, .rch 1 4, .rch 3 4, .st 1, .tb, .wb, .wi, .xs 0]
      ⊢ Q ⟨k0_pay32 (chk m (org c 3 4) (hf 3)), (tw c (jl 4)), (ok3 c 4)⟩) :
    St m K c
      [.pend 42, .wt 56, .out 20, .b1, .go 0 5, .go 1 4, .go 2 5, .go 3 4, .st 1, .tb, .wb, .wi, .xs 0]
      ⊢ wp frame (wpE (defs₀ (F := F)) 𝒱₀ (c : Thread nD τ) none) Set.univ
        (k0_part34 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1)) Q := by
  rw [k0_part34_eq_skeleton]
  unfold k0_part34_skel
  simp only [smemLoad, smemLoadElt, semSignalWord, semWaitWord, Prog.lift, Prog.bind_op, Prog.bind_ret, Prog.pure_eq_ret, Prog.bind_assoc]
  refine s_recv 1 4 42 56 (hk := ?_)
  refine s_load 1 4 (hk := ?_)
  refine s_tab (jr 4) (row_at c 6) (hk := ?_)
  refine s_assume m K c (ok1 c 4) ?_
  refine s_load_wb (hk := ?_)
  refine s_load_out 20 (hk := ?_)
  intro _
  refine s_store_out 20 (.hop 1 4) (at1 c 4) (hk := ?_)
  refine s_recv 3 4 42 57 (hk := ?_)
  refine s_load 3 4 (hk := ?_)
  refine s_tab (jl 4) (row_at c 14) (hk := ?_)
  refine s_assume m K c (ok3 c 4) ?_
  exact St_ret m K c (hk := hk)

/-- Part 35 of the kernel, from what the device holds before it to what it holds after it. -/
theorem part35 {hw1 : k0_chk1 (tw c 1)} {Q : (BitVec 32) → sProp 𝕄}
    (hk : St m K c
      [.pend 43, .wt 60, .out 22, .b1, .fs 3 0, .go 0 5, .go 2 5, .ld 1 4, .ld 3 4, .rch 3 4, .st 1, .tb, .wb, .wi, .xs 0]
      ⊢ Q (Scalar.muli (tw c 0) 1#32)) :
    St m K c
      [.pend 42, .wt 58, .out 21, .b1, .go 0 5, .go 1 4, .go 2 5, .go 3 4, .ld 1 4, .ld 3 4, .rch 1 4, .rch 3 4, .st 1, .tb, .wb, .wi, .xs 0]
      ⊢ wp frame (wpE (defs₀ (F := F)) 𝒱₀ (c : Thread nD τ) none) Set.univ
        (k0_part35 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) (tw c 1) hw1 (k0_pay32 (chk m (org c 3 4) (hf 3))) (tw c (jl 4)) (ok3 c 4)) Q := by
  rw [k0_part35_eq_skeleton]
  unfold k0_part35_skel
  simp only [smemLoad, smemLoadElt, semSignalWord, semWaitWord, Prog.lift, Prog.bind_op, Prog.bind_ret, Prog.pure_eq_ret, Prog.bind_assoc]
  refine s_load_wb (hk := ?_)
  refine s_load_out 21 (hk := ?_)
  intro _
  refine s_store_out 21 (.hop 3 4) (at3 c 4) (hk := ?_)
  refine s_sent 1 3 42 58 (hk := ?_)
  refine St_mono m K c (ld_free m c 1 3) (by decide +kernel) ?_
  refine s_sent 3 3 42 59 (hk := ?_)
  refine St_mono m K c (ld_free m c 3 3) (by decide +kernel) ?_
  refine s_signal 1 4 42 60 (Fin.ext (dev_l c)) (hk := ?_)
  exact St_ret m K c (hk := hk)

/-- Part 36 of the kernel, from what the device holds before it to what it holds after it. -/
theorem part36 {hw2 : k0_chk2 (tw c 0)} {hw1 : k0_chk1 (tw c 1)} {Q : (PUnit) → sProp 𝕄}
    (hk : St m K c
      [.pend 46, .wt 62, .out 22, .b1, .go 0 5, .go 1 5, .go 2 5, .go 3 5, .st 1, .tb, .wb, .wi, .xs 0]
      ⊢ Q ⟨⟩) :
    St m K c
      [.pend 43, .wt 60, .out 22, .b1, .fs 3 0, .go 0 5, .go 2 5, .ld 1 4, .ld 3 4, .rch 3 4, .st 1, .tb, .wb, .wi, .xs 0]
      ⊢ wp frame (wpE (defs₀ (F := F)) 𝒱₀ (c : Thread nD τ) none) Set.univ
        (k0_part36 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1 (Scalar.muli (tw c 0) 1#32)) Q := by
  rw [k0_part36_eq_skeleton]
  unfold k0_part36_skel
  simp only [smemLoad, smemLoadElt, semSignalWord, semWaitWord, Prog.lift, Prog.bind_op, Prog.bind_ret, Prog.pure_eq_ret, Prog.bind_assoc]
  refine s_signal 3 4 43 60 (Fin.ext (dev_r c)) (hk := ?_)
  refine s_credit 1 4 44 60 (hk := ?_)
  refine s_next 1 4 44 61 (Fin.ext (dev_r c)) (hk := ?_)
  refine s_credit 3 4 45 61 (hk := ?_)
  refine s_next 3 4 45 62 (Fin.ext (dev_l c)) (hk := ?_)
  exact St_ret m K c (hk := hk)

/-- Part 37 of the kernel, from what the device holds before it to what it holds after it. -/
theorem part37 {v2 : BitVec 32} {Q : (PUnit) → sProp 𝕄}
    (hk : St m K c
      [.pend 46, .wt 63, .out 23, .b1, .go 0 5, .go 1 5, .go 2 5, .go 3 5, .ld 0 5, .rch 0 5, .st 1, .tb, .wb, .wi, .xs 0]
      ⊢ Q ⟨⟩) :
    St m K c
      [.pend 46, .wt 62, .out 22, .b1, .go 0 5, .go 1 5, .go 2 5, .go 3 5, .st 1, .tb, .wb, .wi, .xs 0]
      ⊢ wp frame (wpE (defs₀ (F := F)) 𝒱₀ (c : Thread nD τ) none) Set.univ
        (k0_part37 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (tw c 1)) Q := by
  rw [k0_part37_eq_skeleton]
  unfold k0_part37_skel
  simp only [smemLoad, smemLoadElt, semSignalWord, semWaitWord, Prog.lift, Prog.bind_op, Prog.bind_ret, Prog.pure_eq_ret, Prog.bind_assoc]
  refine s_recv 0 5 46 62 (hk := ?_)
  refine s_load 0 5 (hk := ?_)
  refine s_tab (jr 5) (row_at c 7) (hk := ?_)
  refine s_assume m K c (ok0 c 5) ?_
  refine s_load_wb (hk := ?_)
  refine s_load_out 22 (hk := ?_)
  intro _
  refine s_store_out 22 (.hop 0 5) (at0 c 5) (hk := ?_)
  exact St_ret m K c (hk := hk)

end Cert.Ring
-- ==== Proof.Parts4.lean ====
/-
The steps of the kernel, parts 38 to 49 of its program: in each, one line per operation.
-/
module

public import proofs.«01_k».proof.Proof.Rules
public import proofs.«01_k».proof.Proof.Tab
public import proofs.«01_k».proof.Proof.Gen.KernelIdeal.Skeleton

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable {m : (ℓ : Loc nD τ sig) → Buf (Elt F) ℓ} {K : Dev nD × Option Kn → ℕ} {c : Dev nD}

variable {h0 : (Memref.whole cc0_stg0_0 : Memref sig .tc .smem S16x18 .i32).IsWhole} {h1 : (Memref.whole main_arg0 : Memref sig .tc .hbm S512x8192 .f32).IsWhole} {h2 : (Memref.whole cc0_stg1_0 : Memref sig .tc .vmem S8192x256 .f32).IsWhole} {h3 : (Memref.whole cc0_stg2_0 : Memref sig .tc .vmem S8192x256 .bf16).IsWhole}
  {h4 : (Memref.whole cc0_scratch0 : Memref sig .tc .vmem S2x256x8192 .bf16).IsWhole} {h5 : (Memref.whole cc0_scratch1 : Memref sig .tc .vmem S2x256x8192 .bf16).IsWhole} {h6 : (Memref.whole cc0_scratch2 : Memref sig .tc .vmem S2x256x8192 .bf16).IsWhole} {h7 : (Memref.whole cc0_scratch3 : Memref sig .tc .vmem S2x256x8192 .bf16).IsWhole} {h8 : (Memref.whole cc0_scratch4 : Memref sig .tc .vmem S256x8192 .f32).IsWhole} {h9 : (Memref.whole cc0_scratch5 : Memref sig .tc .vmem S8192x256 .bf16).IsWhole}

/-- Part 38 of the kernel, from what the device holds before it to what it holds after it. -/
theorem part38 {v2 : BitVec 32} {Q : (PUnit) → sProp 𝕄}
    (hk : St m K c
      [.pend 46, .wt 65, .out 24, .b1, .fs 0 1, .go 1 5, .go 2 5, .go 3 5, .ld 0 5, .ld 2 5, .rch 0 5, .rch 2 5, .st 1, .tb, .wb, .wi, .xs 0]
      ⊢ Q ⟨⟩) :
    St m K c
      [.pend 46, .wt 63, .out 23, .b1, .go 0 5, .go 1 5, .go 2 5, .go 3 5, .ld 0 5, .rch 0 5, .st 1, .tb, .wb, .wi, .xs 0]
      ⊢ wp frame (wpE (defs₀ (F := F)) 𝒱₀ (c : Thread nD τ) none) Set.univ
        (k0_part38 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2) Q := by
  rw [k0_part38_eq_skeleton]
  unfold k0_part38_skel
  simp only [smemLoad, smemLoadElt, semSignalWord, semWaitWord, Prog.lift, Prog.bind_op, Prog.bind_ret, Prog.pure_eq_ret, Prog.bind_assoc]
  refine s_recv 2 5 46 63 (hk := ?_)
  refine s_load 2 5 (hk := ?_)
  refine s_tab (jl 5) (row_at c 15) (hk := ?_)
  refine s_assume m K c (ok2 c 5) ?_
  refine s_load_wb (hk := ?_)
  refine s_load_out 23 (hk := ?_)
  intro _
  refine s_store_out 23 (.hop 2 5) (at2 c 5) (hk := ?_)
  refine s_sent 0 4 46 64 (hk := ?_)
  refine St_mono m K c (ld_free m c 0 4) (by decide +kernel) ?_
  exact St_ret m K c (hk := hk)

/-- Part 39 of the kernel, from what the device holds before it to what it holds after it. -/
theorem part39 {hw2 : k0_chk2 (tw c 0)} {hw1 : k0_chk1 (tw c 1)} {Q : (PUnit) → sProp 𝕄}
    (hk : St m K c
      [.pend 49, .wt 68, .out 24, .b1, .ft 2 6, .go 0 6, .go 1 5, .go 3 5, .ld 2 5, .st 1, .tb, .wb, .wi, .xs 0]
      ⊢ Q ⟨⟩) :
    St m K c
      [.pend 46, .wt 65, .out 24, .b1, .fs 0 1, .go 1 5, .go 2 5, .go 3 5, .ld 0 5, .ld 2 5, .rch 0 5, .rch 2 5, .st 1, .tb, .wb, .wi, .xs 0]
      ⊢ wp frame (wpE (defs₀ (F := F)) 𝒱₀ (c : Thread nD τ) none) Set.univ
        (k0_part39 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part39_eq_skeleton]
  unfold k0_part39_skel
  simp only [smemLoad, smemLoadElt, semSignalWord, semWaitWord, Prog.lift, Prog.bind_op, Prog.bind_ret, Prog.pure_eq_ret, Prog.bind_assoc]
  refine s_sent 2 4 46 65 (hk := ?_)
  refine St_mono m K c (ld_free m c 2 4) (by decide +kernel) ?_
  refine s_signal 0 5 46 66 (Fin.ext (dev_l c)) (hk := ?_)
  refine s_signal 2 5 47 66 (Fin.ext (dev_r c)) (hk := ?_)
  refine s_credit 0 5 48 66 (hk := ?_)
  refine s_next 0 5 48 67 (Fin.ext (dev_r c)) (hk := ?_)
  refine s_credit 2 5 49 67 (hk := ?_)
  exact St_ret m K c (hk := hk)

/-- Part 40 of the kernel, from what the device holds before it to what it holds after it. -/
theorem part40 {hw1 : k0_chk1 (tw c 1)} {v2 : BitVec 32} {Q : (PUnit) → sProp 𝕄}
    (hk : St m K c
      [.pend 50, .wt 69, .out 25, .b1, .go 0 6, .go 1 5, .go 2 6, .go 3 5, .ld 1 5, .rch 1 5, .st 1, .tb, .wb, .wi, .xs 0]
      ⊢ Q ⟨⟩) :
    St m K c
      [.pend 49, .wt 68, .out 24, .b1, .ft 2 6, .go 0 6, .go 1 5, .go 3 5, .ld 2 5, .st 1, .tb, .wb, .wi, .xs 0]
      ⊢ wp frame (wpE (defs₀ (F := F)) 𝒱₀ (c : Thread nD τ) none) Set.univ
        (k0_part40 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (tw c 1) hw1) Q := by
  rw [k0_part40_eq_skeleton]
  unfold k0_part40_skel
  simp only [smemLoad, smemLoadElt, semSignalWord, semWaitWord, Prog.lift, Prog.bind_op, Prog.bind_ret, Prog.pure_eq_ret, Prog.bind_assoc]
  refine s_next 2 5 49 68 (Fin.ext (dev_l c)) (hk := ?_)
  refine s_recv 1 5 50 68 (hk := ?_)
  refine s_load 1 5 (hk := ?_)
  refine s_tab (jr 5) (row_at c 7) (hk := ?_)
  refine s_assume m K c (ok1 c 5) ?_
  refine s_load_wb (hk := ?_)
  refine s_load_out 24 (hk := ?_)
  intro _
  refine s_store_out 24 (.hop 1 5) (at1 c 5) (hk := ?_)
  exact St_ret m K c (hk := hk)

/-- Part 41 of the kernel, from what the device holds before it to what it holds after it. -/
theorem part41 {v2 : BitVec 32} {Q : (PUnit) → sProp 𝕄}
    (hk : St m K c
      [.pend 50, .wt 70, .out 26, .b1, .go 0 6, .go 1 5, .go 2 6, .go 3 5, .ld 1 5, .ld 3 5, .rch 1 5, .rch 3 5, .st 1, .tb, .wb, .wi, .xs 0]
      ⊢ Q ⟨⟩) :
    St m K c
      [.pend 50, .wt 69, .out 25, .b1, .go 0 6, .go 1 5, .go 2 6, .go 3 5, .ld 1 5, .rch 1 5, .st 1, .tb, .wb, .wi, .xs 0]
      ⊢ wp frame (wpE (defs₀ (F := F)) 𝒱₀ (c : Thread nD τ) none) Set.univ
        (k0_part41 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1)) Q := by
  rw [k0_part41_eq_skeleton]
  unfold k0_part41_skel
  simp only [smemLoad, smemLoadElt, semSignalWord, semWaitWord, Prog.lift, Prog.bind_op, Prog.bind_ret, Prog.pure_eq_ret, Prog.bind_assoc]
  refine s_recv 3 5 50 69 (hk := ?_)
  refine s_load 3 5 (hk := ?_)
  refine s_tab (jl 5) (row_at c 15) (hk := ?_)
  refine s_assume m K c (ok3 c 5) ?_
  refine s_load_wb (hk := ?_)
  refine s_load_out 25 (hk := ?_)
  intro _
  refine s_store_out 25 (.hop 3 5) (at3 c 5) (hk := ?_)
  exact St_ret m K c (hk := hk)

/-- Part 42 of the kernel, from what the device holds before it to what it holds after it. -/
theorem part42 {hw2 : k0_chk2 (tw c 0)} {hw1 : k0_chk1 (tw c 1)} {Q : (PUnit) → sProp 𝕄}
    (hk : St m K c
      [.pend 53, .wt 74, .out 26, .b1, .ft 3 6, .go 0 6, .go 1 6, .go 2 6, .ld 3 5, .st 1, .tb, .wb, .wi, .xs 0]
      ⊢ Q ⟨⟩) :
    St m K c
      [.pend 50, .wt 70, .out 26, .b1, .go 0 6, .go 1 5, .go 2 6, .go 3 5, .ld 1 5, .ld 3 5, .rch 1 5, .rch 3 5, .st 1, .tb, .wb, .wi, .xs 0]
      ⊢ wp frame (wpE (defs₀ (F := F)) 𝒱₀ (c : Thread nD τ) none) Set.univ
        (k0_part42 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part42_eq_skeleton]
  unfold k0_part42_skel
  simp only [smemLoad, smemLoadElt, semSignalWord, semWaitWord, Prog.lift, Prog.bind_op, Prog.bind_ret, Prog.pure_eq_ret, Prog.bind_assoc]
  refine s_sent 1 4 50 70 (hk := ?_)
  refine St_mono m K c (ld_free m c 1 4) (by decide +kernel) ?_
  refine s_sent 3 4 50 71 (hk := ?_)
  refine St_mono m K c (ld_free m c 3 4) (by decide +kernel) ?_
  refine s_signal 1 5 50 72 (Fin.ext (dev_l c)) (hk := ?_)
  refine s_signal 3 5 51 72 (Fin.ext (dev_r c)) (hk := ?_)
  refine s_credit 1 5 52 72 (hk := ?_)
  refine s_next 1 5 52 73 (Fin.ext (dev_r c)) (hk := ?_)
  refine s_credit 3 5 53 73 (hk := ?_)
  exact St_ret m K c (hk := hk)

/-- Part 43 of the kernel, from what the device holds before it to what it holds after it. -/
theorem part43 {hw1 : k0_chk1 (tw c 1)} {v2 : BitVec 32} {Q : (Σ' (v1041 : Elt F .i32) (k0_hw27 : k0_chk27 v1041) (v1043 : FVec F S256x256 .f32), FVec F S256x256 .f32) → sProp 𝕄}
    (hk : St m K c
      [.pend 54, .wt 75, .out 26, .b1, .go 0 6, .go 1 6, .go 2 6, .go 3 6, .ld 0 6, .rch 0 6, .st 1, .tb, .wb, .wi, .xs 0]
      ⊢ Q ⟨(tw c (jr 6)), (ok0 c 6), k0_pay38 (chk m (org c 0 6) (hf 0)) (wbf m c), k0_pay39 (F := F)⟩) :
    St m K c
      [.pend 53, .wt 74, .out 26, .b1, .ft 3 6, .go 0 6, .go 1 6, .go 2 6, .ld 3 5, .st 1, .tb, .wb, .wi, .xs 0]
      ⊢ wp frame (wpE (defs₀ (F := F)) 𝒱₀ (c : Thread nD τ) none) Set.univ
        (k0_part43 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) (tw c 1) hw1) Q := by
  rw [k0_part43_eq_skeleton]
  unfold k0_part43_skel
  simp only [smemLoad, smemLoadElt, semSignalWord, semWaitWord, Prog.lift, Prog.bind_op, Prog.bind_ret, Prog.pure_eq_ret, Prog.bind_assoc]
  refine s_next 3 5 53 74 (Fin.ext (dev_l c)) (hk := ?_)
  refine s_recv 0 6 54 74 (hk := ?_)
  refine s_load 0 6 (hk := ?_)
  refine s_tab (jr 6) (row_at c 8) (hk := ?_)
  refine s_assume m K c (ok0 c 6) ?_
  refine s_load_wb (hk := ?_)
  exact St_ret m K c (hk := hk)

/-- Part 44 of the kernel, from what the device holds before it to what it holds after it. -/
theorem part44 {v2 : BitVec 32} {Q : (PUnit) → sProp 𝕄}
    (hk : St m K c
      [.pend 54, .wt 76, .out 28, .b1, .go 0 6, .go 1 6, .go 2 6, .go 3 6, .ld 0 6, .ld 2 6, .rch 0 6, .rch 2 6, .st 1, .tb, .wb, .wi, .xs 0]
      ⊢ Q ⟨⟩) :
    St m K c
      [.pend 54, .wt 75, .out 26, .b1, .go 0 6, .go 1 6, .go 2 6, .go 3 6, .ld 0 6, .rch 0 6, .st 1, .tb, .wb, .wi, .xs 0]
      ⊢ wp frame (wpE (defs₀ (F := F)) 𝒱₀ (c : Thread nD τ) none) Set.univ
        (k0_part44 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1) (tw c (jr 6)) (ok0 c 6) (k0_pay38 (chk m (org c 0 6) (hf 0)) (wbf m c)) (k0_pay39 (F := F))) Q := by
  rw [k0_part44_eq_skeleton]
  unfold k0_part44_skel
  simp only [smemLoad, smemLoadElt, semSignalWord, semWaitWord, Prog.lift, Prog.bind_op, Prog.bind_ret, Prog.pure_eq_ret, Prog.bind_assoc]
  refine s_load_out 26 (hk := ?_)
  intro _
  refine s_store_out 26 (.hop 0 6) (at0 c 6) (hk := ?_)
  refine s_recv 2 6 54 75 (hk := ?_)
  refine s_load 2 6 (hk := ?_)
  refine s_tab (jl 6) (row_at c 16) (hk := ?_)
  refine s_assume m K c (ok2 c 6) ?_
  refine s_load_wb (hk := ?_)
  refine s_load_out 27 (hk := ?_)
  intro _
  refine s_store_out 27 (.hop 2 6) (at2 c 6) (hk := ?_)
  exact St_ret m K c (hk := hk)

/-- Part 45 of the kernel, from what the device holds before it to what it holds after it. -/
theorem part45 {hw1 : k0_chk1 (tw c 1)} {Q : (PUnit) → sProp 𝕄}
    (hk : St m K c
      [.pend 55, .wt 79, .out 28, .b1, .fs 2 0, .ft 0 7, .go 1 6, .go 3 6, .ld 0 6, .ld 2 6, .rch 2 6, .st 1, .tb, .wb, .wi, .xs 0]
      ⊢ Q ⟨⟩) :
    St m K c
      [.pend 54, .wt 76, .out 28, .b1, .go 0 6, .go 1 6, .go 2 6, .go 3 6, .ld 0 6, .ld 2 6, .rch 0 6, .rch 2 6, .st 1, .tb, .wb, .wi, .xs 0]
      ⊢ wp frame (wpE (defs₀ (F := F)) 𝒱₀ (c : Thread nD τ) none) Set.univ
        (k0_part45 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) (tw c 1) hw1) Q := by
  rw [k0_part45_eq_skeleton]
  unfold k0_part45_skel
  simp only [smemLoad, smemLoadElt, semSignalWord, semWaitWord, Prog.lift, Prog.bind_op, Prog.bind_ret, Prog.pure_eq_ret, Prog.bind_assoc]
  refine s_sent 0 5 54 76 (hk := ?_)
  refine St_mono m K c (ld_free m c 0 5) (by decide +kernel) ?_
  refine s_sent 2 5 54 77 (hk := ?_)
  refine St_mono m K c (ld_free m c 2 5) (by decide +kernel) ?_
  refine s_signal 0 6 54 78 (Fin.ext (dev_l c)) (hk := ?_)
  refine s_credit 0 6 55 78 (hk := ?_)
  exact St_ret m K c (hk := hk)

/-- Part 46 of the kernel, from what the device holds before it to what it holds after it. -/
theorem part46 {hw2 : k0_chk2 (tw c 0)} {v2 : BitVec 32} {Q : (BitVec 32) → sProp 𝕄}
    (hk : St m K c
      [.pend 56, .wt 80, .out 29, .b1, .fs 2 0, .go 0 7, .go 1 6, .go 3 6, .ld 1 6, .ld 2 6, .rch 1 6, .rch 2 6, .st 1, .tb, .wb, .wi, .xs 0]
      ⊢ Q (Scalar.muli (tw c 1) 1#32)) :
    St m K c
      [.pend 55, .wt 79, .out 28, .b1, .fs 2 0, .ft 0 7, .go 1 6, .go 3 6, .ld 0 6, .ld 2 6, .rch 2 6, .st 1, .tb, .wb, .wi, .xs 0]
      ⊢ wp frame (wpE (defs₀ (F := F)) 𝒱₀ (c : Thread nD τ) none) Set.univ
        (k0_part46 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 0) hw2 (tw c 1)) Q := by
  rw [k0_part46_eq_skeleton]
  unfold k0_part46_skel
  simp only [smemLoad, smemLoadElt, semSignalWord, semWaitWord, Prog.lift, Prog.bind_op, Prog.bind_ret, Prog.pure_eq_ret, Prog.bind_assoc]
  refine s_next 0 6 55 79 (Fin.ext (dev_r c)) (hk := ?_)
  refine s_recv 1 6 56 79 (hk := ?_)
  refine s_load 1 6 (hk := ?_)
  refine s_tab (jr 6) (row_at c 8) (hk := ?_)
  refine s_assume m K c (ok1 c 6) ?_
  refine s_load_wb (hk := ?_)
  refine s_load_out 28 (hk := ?_)
  intro _
  refine s_store_out 28 (.hop 1 6) (at1 c 6) (hk := ?_)
  exact St_ret m K c (hk := hk)

/-- Part 47 of the kernel, from what the device holds before it to what it holds after it. -/
theorem part47 {v2 : BitVec 32} {Q : (PUnit) → sProp 𝕄}
    (hk : St m K c
      [.pend 56, .wt 82, .out 30, .b1, .fs 1 0, .fs 2 0, .go 0 7, .go 3 6, .ld 1 6, .ld 2 6, .ld 3 6, .rch 1 6, .rch 2 6, .rch 3 6, .st 1, .tb, .wb,
       .wi, .xs 0]
      ⊢ Q ⟨⟩) :
    St m K c
      [.pend 56, .wt 80, .out 29, .b1, .fs 2 0, .go 0 7, .go 1 6, .go 3 6, .ld 1 6, .ld 2 6, .rch 1 6, .rch 2 6, .st 1, .tb, .wb, .wi, .xs 0]
      ⊢ wp frame (wpE (defs₀ (F := F)) 𝒱₀ (c : Thread nD τ) none) Set.univ
        (k0_part47 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (Scalar.muli (tw c 1) 1#32)) Q := by
  rw [k0_part47_eq_skeleton]
  unfold k0_part47_skel
  simp only [smemLoad, smemLoadElt, semSignalWord, semWaitWord, Prog.lift, Prog.bind_op, Prog.bind_ret, Prog.pure_eq_ret, Prog.bind_assoc]
  refine s_recv 3 6 56 80 (hk := ?_)
  refine s_load 3 6 (hk := ?_)
  refine s_tab (jl 6) (row_at c 16) (hk := ?_)
  refine s_assume m K c (ok3 c 6) ?_
  refine s_load_wb (hk := ?_)
  refine s_load_out 29 (hk := ?_)
  intro _
  refine s_store_out 29 (.hop 3 6) (at3 c 6) (hk := ?_)
  refine s_sent 1 5 56 81 (hk := ?_)
  refine St_mono m K c (ld_free m c 1 5) (by decide +kernel) ?_
  exact St_ret m K c (hk := hk)

/-- Part 48 of the kernel, from what the device holds before it to what it holds after it. -/
theorem part48 {hw2 : k0_chk2 (tw c 0)} {hw1 : k0_chk1 (tw c 1)} {Q : (PUnit) → sProp 𝕄}
    (hk : St m K c
      [.pend 58, .wt 84, .out 30, .b1, .fs 1 0, .fs 2 0, .go 0 7, .go 3 7, .ld 1 6, .ld 2 6, .rch 1 6, .rch 2 6, .st 1, .tb, .wb, .wi, .xs 0]
      ⊢ Q ⟨⟩) :
    St m K c
      [.pend 56, .wt 82, .out 30, .b1, .fs 1 0, .fs 2 0, .go 0 7, .go 3 6, .ld 1 6, .ld 2 6, .ld 3 6, .rch 1 6, .rch 2 6, .rch 3 6, .st 1, .tb, .wb,
       .wi, .xs 0]
      ⊢ wp frame (wpE (defs₀ (F := F)) 𝒱₀ (c : Thread nD τ) none) Set.univ
        (k0_part48 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 (tw c 0) hw2 (tw c 1) hw1) Q := by
  rw [k0_part48_eq_skeleton]
  unfold k0_part48_skel
  simp only [smemLoad, smemLoadElt, semSignalWord, semWaitWord, Prog.lift, Prog.bind_op, Prog.bind_ret, Prog.pure_eq_ret, Prog.bind_assoc]
  refine s_sent 3 5 56 82 (hk := ?_)
  refine St_mono m K c (ld_free m c 3 5) (by decide +kernel) ?_
  refine s_signal 3 6 56 83 (Fin.ext (dev_r c)) (hk := ?_)
  refine s_credit 3 6 57 83 (hk := ?_)
  refine s_next 3 6 57 84 (Fin.ext (dev_l c)) (hk := ?_)
  exact St_ret m K c (hk := hk)

/-- Part 49 of the kernel, from what the device holds before it to what it holds after it. -/
theorem part49 {v2 : BitVec 32} {Q : (FVec F S256x8192 .bf16) → sProp 𝕄}
    (hk : St m K c
      [.pend 58, .wt 86, .out 31, .b1, .fs 1 0, .fs 2 0, .go 0 7, .go 3 7, .ld 0 7, .ld 1 6, .ld 2 6, .ld 3 7, .rch 0 7, .rch 1 6, .rch 2 6,
       .rch 3 7, .st 1, .tb, .wb, .wi, .xs 0]
      ⊢ Q (k0_pay45 (chk m (org c 3 7) (hf 3)))) :
    St m K c
      [.pend 58, .wt 84, .out 30, .b1, .fs 1 0, .fs 2 0, .go 0 7, .go 3 7, .ld 1 6, .ld 2 6, .rch 1 6, .rch 2 6, .st 1, .tb, .wb, .wi, .xs 0]
      ⊢ wp frame (wpE (defs₀ (F := F)) 𝒱₀ (c : Thread nD τ) none) Set.univ
        (k0_part49 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12 c v2 (tw c 1)) Q := by
  rw [k0_part49_eq_skeleton]
  unfold k0_part49_skel
  simp only [smemLoad, smemLoadElt, semSignalWord, semWaitWord, Prog.lift, Prog.bind_op, Prog.bind_ret, Prog.pure_eq_ret, Prog.bind_assoc]
  refine s_recv 0 7 58 84 (hk := ?_)
  refine s_load 0 7 (hk := ?_)
  refine s_tab (jr 7) (row_at c 9) (hk := ?_)
  refine s_assume m K c (ok0 c 7) ?_
  refine s_load_wb (hk := ?_)
  refine s_load_out 30 (hk := ?_)
  intro _
  refine s_store_out 30 (.hop 0 7) (at0 c 7) (hk := ?_)
  refine s_recv 3 7 58 85 (hk := ?_)
  refine s_load 3 7 (hk := ?_)
  exact St_ret m K c (hk := hk)

end Cert.Ring
-- ==== Proof.Body.lean ====
/-
The kernel whole: its parts, one after another.
-/
module

public import proofs.«01_k».proof.Proof.Rules
public import proofs.«01_k».proof.Proof.Parts1
public import proofs.«01_k».proof.Proof.Parts2
public import proofs.«01_k».proof.Proof.Parts3
public import proofs.«01_k».proof.Proof.Parts4
public import proofs.«01_k».proof.Proof.Gen.KernelIdeal.Skeleton

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable {m : (ℓ : Loc nD τ sig) → Buf (Elt F) ℓ} {K : Dev nD × Option Kn → ℕ} {c : Dev nD}

variable {h0 : (Memref.whole cc0_stg0_0 : Memref sig .tc .smem S16x18 .i32).IsWhole} {h1 : (Memref.whole main_arg0 : Memref sig .tc .hbm S512x8192 .f32).IsWhole} {h2 : (Memref.whole cc0_stg1_0 : Memref sig .tc .vmem S8192x256 .f32).IsWhole} {h3 : (Memref.whole cc0_stg2_0 : Memref sig .tc .vmem S8192x256 .bf16).IsWhole}
  {h4 : (Memref.whole cc0_scratch0 : Memref sig .tc .vmem S2x256x8192 .bf16).IsWhole} {h5 : (Memref.whole cc0_scratch1 : Memref sig .tc .vmem S2x256x8192 .bf16).IsWhole} {h6 : (Memref.whole cc0_scratch2 : Memref sig .tc .vmem S2x256x8192 .bf16).IsWhole} {h7 : (Memref.whole cc0_scratch3 : Memref sig .tc .vmem S2x256x8192 .bf16).IsWhole} {h8 : (Memref.whole cc0_scratch4 : Memref sig .tc .vmem S256x8192 .f32).IsWhole} {h9 : (Memref.whole cc0_scratch5 : Memref sig .tc .vmem S8192x256 .bf16).IsWhole}

/-- One program after another. -/
theorem St_bind (m : (ℓ : Loc nD τ sig) → Buf (Elt F) ℓ) (K : Dev nD × Option Kn → ℕ) (c : Dev nD) {α β : Type} {Q : β → sProp 𝕄} {L : List Rs}
    {p : Prog (TpuEff nD τ sig (Elt F) Λ₀ .tc) α} {k : α → Prog (TpuEff nD τ sig (Elt F) Λ₀ .tc) β}
    (h : St m K c L ⊢ wp frame (wpE (defs₀ (F := F)) 𝒱₀ (c : Thread nD τ) none) Set.univ p
      (fun a => wp frame (wpE (defs₀ (F := F)) 𝒱₀ (c : Thread nD τ) none) Set.univ (k a) Q)) :
    St m K c L ⊢ wp frame (wpE (defs₀ (F := F)) 𝒱₀ (c : Thread nD τ) none) Set.univ (p >>= k) Q := by
  rw [wp_bind]; exact h

set_option maxHeartbeats 4000000 in
/-- All of the kernel but its last steps. -/
theorem part50 {Q : (Σ' (v1194 : Elt F .i32) (k0_hw32 : k0_chk32 v1194) (v1196 : FVec F S256x256 .f32), FVec F S256x256 .f32) → sProp 𝕄}
    (hk : St m K c
      [.pend 58, .wt 86, .out 31, .b1, .fs 1 0, .fs 2 0, .go 0 7, .go 3 7, .ld 0 7, .ld 1 6, .ld 2 6, .ld 3 7, .rch 0 7, .rch 1 6, .rch 2 6,
       .rch 3 7, .st 1, .tb, .wb, .wi, .xs 0]
      ⊢ Q ⟨(tw c (jl 7)), (ok3 c 7), k0_pay46 (k0_pay45 (chk m (org c 3 7) (hf 3))) (wbf m c), k0_pay47 (F := F)⟩) :
    St m K c
      [.pend 0, .wt 0, .out 0, .b0, .fs 0 0, .fs 0 1, .fs 1 0, .fs 1 1, .fs 2 0, .fs 2 1, .fs 3 0, .fs 3 1, .sf, .tb, .tk 0, .tk 1, .wf, .wi, .xs 0,
       .xs 1]
      ⊢ wp frame (wpE (defs₀ (F := F)) 𝒱₀ (c : Thread nD τ) none) Set.univ
        (k0_part50 (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12) Q := by
  rw [k0_part50_eq_skeleton]
  unfold k0_part50_skel
  refine St_bind m K c (part1 ?_)
  dsimp only
  refine St_bind m K c (part2 ?_)
  refine St_bind m K c (part3 ?_)
  dsimp only
  refine St_bind m K c (part4 ?_)
  refine St_bind m K c (part5 ?_)
  dsimp only
  refine St_bind m K c (part6 ?_)
  refine St_bind m K c (part7 ?_)
  refine St_bind m K c (part8 ?_)
  refine St_bind m K c (part9 ?_)
  refine St_bind m K c (part10 ?_)
  refine St_bind m K c (part11 ?_)
  refine St_bind m K c (part12 ?_)
  refine St_bind m K c (part13 ?_)
  refine St_bind m K c (part14 ?_)
  dsimp only
  refine St_bind m K c (part15 ?_)
  refine St_bind m K c (part16 ?_)
  refine St_bind m K c (part17 ?_)
  dsimp only
  refine St_bind m K c (part18 ?_)
  dsimp only
  refine St_bind m K c (part19 ?_)
  refine St_bind m K c (part20 ?_)
  refine St_bind m K c (part21 ?_)
  refine St_bind m K c (part22 ?_)
  refine St_bind m K c (part23 ?_)
  refine St_bind m K c (part24 ?_)
  refine St_bind m K c (part25 ?_)
  refine St_bind m K c (part26 ?_)
  refine St_bind m K c (part27 ?_)
  refine St_bind m K c (part28 ?_)
  refine St_bind m K c (part29 ?_)
  refine St_bind m K c (part30 ?_)
  dsimp only
  refine St_bind m K c (part31 ?_)
  dsimp only
  refine St_bind m K c (part32 ?_)
  refine St_bind m K c (part33 ?_)
  refine St_bind m K c (part34 ?_)
  dsimp only
  refine St_bind m K c (part35 ?_)
  refine St_bind m K c (part36 ?_)
  refine St_bind m K c (part37 ?_)
  refine St_bind m K c (part38 ?_)
  refine St_bind m K c (part39 ?_)
  refine St_bind m K c (part40 ?_)
  refine St_bind m K c (part41 ?_)
  refine St_bind m K c (part42 ?_)
  refine St_bind m K c (part43 ?_)
  dsimp only
  refine St_bind m K c (part44 ?_)
  refine St_bind m K c (part45 ?_)
  refine St_bind m K c (part46 ?_)
  refine St_bind m K c (part47 ?_)
  refine St_bind m K c (part48 ?_)
  refine St_bind m K c (part49 ?_)
  simp only [smemLoad, smemLoadElt, semSignalWord, semWaitWord, Prog.lift, Prog.bind_op, Prog.bind_ret, Prog.pure_eq_ret, Prog.bind_assoc]
  refine s_tab (jl 7) (row_at c 17) (hk := ?_)
  refine s_assume m K c (ok3 c 7) ?_
  refine s_load_wb (hk := ?_)
  exact St_ret m K c (hk := hk)

/-- The kernel, from what a device holds when it starts to what it holds when it is done. -/
theorem kernel_body {Q : PUnit → sProp 𝕄}
    (hk : St m K c
      [.pend 58, .wt 88, .out 32, .b1, .fs 0 1, .fs 1 0, .fs 2 0, .fs 3 1, .ld 0 7, .ld 1 6, .ld 2 6, .ld 3 7, .rch 0 7, .rch 1 6, .rch 2 6,
       .rch 3 7, .st 1, .tb, .wb, .wi, .xs 0]
      ⊢ Q ⟨⟩) :
    St m K c
      [.pend 0, .wt 0, .out 0, .b0, .fs 0 0, .fs 0 1, .fs 1 0, .fs 1 1, .fs 2 0, .fs 2 1, .fs 3 0, .fs 3 1, .sf, .tb, .tk 0, .tk 1, .wf, .wi, .xs 0,
       .xs 1]
      ⊢ wp frame (wpE (defs₀ (F := F)) 𝒱₀ (c : Thread nD τ) none) Set.univ
        (cc0_body (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12) Q := by
  rw [cc0_body_eq_skeleton]
  unfold cc0_body_skel
  refine St_bind m K c (part50 ?_)
  dsimp only
  simp only [smemLoad, smemLoadElt, semSignalWord, semWaitWord, Prog.lift, Prog.bind_op, Prog.bind_ret, Prog.pure_eq_ret, Prog.bind_assoc]
  refine s_load_out 31 (hk := ?_)
  intro _
  refine s_store_out 31 (.hop 3 7) (at3 c 7) (hk := ?_)
  refine s_sent 0 6 58 86 (hk := ?_)
  refine St_mono m K c (ld_free m c 0 6) (by decide +kernel) ?_
  refine s_sent 3 6 58 87 (hk := ?_)
  refine St_mono m K c (ld_free m c 3 6) (by decide +kernel) ?_
  exact St_ret m K c (hk := hk)

end Cert.Ring
-- ==== Proof.Region.lean ====
/-
The kernel as the program's one region: what a device brings to it, what it takes away, and the kernel's run between.
-/
module

public import proofs.«01_k».proof.Proof.Body
public import proofs.«01_k».proof.Proof.Gen.KernelIdeal.Frame
public import Idealize.ShloMosaic.Lib.Pipeline.RegionTalk

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Option Kn → ℕ) (c : Dev nD)

/-! ## Buffers in parts -/

omit [FloatOps F] in
/-- The two slots make up a buffer, and have nothing in common. -/
theorem rS_cover : (rS 0).set ∪ (rS 1).set = (Finset.univ : Finset S2x256x8192.Idx) := by
  refine Finset.eq_univ_iff_forall.mpr fun i => ?_
  have h0 : (i 0 : ℕ) < 2 := (i 0).isLt
  have h1 : (i 1 : ℕ) < 256 := (i 1).isLt
  have h2 : (i 2 : ℕ) < 8192 := (i 2).isLt
  rw [Finset.mem_union, Rect.mem_set_unit, Rect.mem_set_unit]
  by_cases h : (i 0 : ℕ) = 0
  · left
    intro a
    match a with
    | ⟨0, _⟩ => show 0 ≤ (i 0 : ℕ) ∧ (i 0 : ℕ) < 0 + 1; omega
    | ⟨1, _⟩ => show 0 ≤ (i 1 : ℕ) ∧ (i 1 : ℕ) < 0 + 256; omega
    | ⟨2, _⟩ => show 0 ≤ (i 2 : ℕ) ∧ (i 2 : ℕ) < 0 + 8192; omega
  · right
    intro a
    match a with
    | ⟨0, _⟩ => show 1 ≤ (i 0 : ℕ) ∧ (i 0 : ℕ) < 1 + 1; omega
    | ⟨1, _⟩ => show 0 ≤ (i 1 : ℕ) ∧ (i 1 : ℕ) < 0 + 256; omega
    | ⟨2, _⟩ => show 0 ≤ (i 2 : ℕ) ∧ (i 2 : ℕ) < 0 + 8192; omega

omit [FloatOps F] in
theorem rS_disjoint : Disjoint (rS 0).set (rS 1).set := by
  refine Finset.disjoint_left.mpr fun i h h' => ?_
  rw [Rect.mem_set_unit] at h h'
  have a : 0 ≤ (i 0 : ℕ) ∧ (i 0 : ℕ) < 0 + 1 := h 0
  have b : 1 ≤ (i 0 : ℕ) ∧ (i 0 : ℕ) < 1 + 1 := h' 0
  omega

omit [FloatOps F] in
theorem slots_cover (X : Fin 4) : (slotM X 0).view.set ∪ (slotM X 1).view.set = (bufM X).view.set := by
  rw [slot_set, slot_set]
  show ((bufM X).view.slice (rS 0)).set ∪ ((bufM X).view.slice (rS 1)).set = _
  rw [View.set_slice, View.set_slice, ← Finset.map_union, rS_cover]
  rfl
omit [FloatOps F] in
theorem slots_disjoint (X : Fin 4) : Disjoint (slotM X 0).view.set (slotM X 1).view.set := by
  rw [slot_set, slot_set]
  show Disjoint ((bufM X).view.slice (rS 0)).set ((bufM X).view.slice (rS 1)).set
  rw [View.set_slice, View.set_slice]
  exact Finset.disjoint_map _ |>.mpr rS_disjoint

/-- The whole buffer of chain `X`, at anything. -/
def BufS (c : Dev nD) (X : Fin 4) : sProp 𝕄 :=
  iprop(∃ f : Buf (Elt F) ((bufM X).view.loc (c : Thread nD τ)), ((bufM X).view.loc (c : Thread nD τ) ↦[(bufM X).view.set]{fullShare} f))

omit [FloatOps F] in
/-- It is its two slots. -/
theorem buf_split (X : Fin 4) : (BufS c X : sProp 𝕄) ⊢ iprop(FrS c X 0 ∗ FrS c X 1) := by
  unfold BufS FrS
  rw [← slots_cover X]
  iintro ⟨%f, H⟩
  ihave H := (pointsTo_union (slots_disjoint X)).1 $$ H
  icases H with ⟨H0, H1⟩
  isplitl [H0]; · iexists f; iexact H0
  iexists f; iexact H1
omit [FloatOps F] in
theorem buf_join (X : Fin 4) : iprop(FrS c X 0 ∗ FrS c X 1) ⊢ (BufS c X : sProp 𝕄) := by
  unfold BufS FrS
  rw [← slots_cover X]
  iintro ⟨⟨%f, H0⟩, ⟨%g, H1⟩⟩
  iexists _
  iapply (pointsTo_join (f := f) (g := g) (slots_disjoint X))
  isplitl [H0]; · iexact H0
  iexact H1

omit [FloatOps F] in
theorem mem_half (h : Fin 2) (i : S512x8192.Idx) :
    i ∈ (xhM h).view.set ↔ h.val * 256 ≤ (i 0 : ℕ) ∧ (i 0 : ℕ) < h.val * 256 + 256 := by
  show i ∈ ((View.whole main_arg0).slice (Rect.unit (s := S512x8192) ![h.val * 256, 0] S256x8192.size (inbX h))).set ↔ _
  rw [View.set_slice_whole, Rect.mem_set_unit]
  have h1 : (i 1 : ℕ) < 8192 := (i 1).isLt
  refine ⟨fun H => H 0, fun H a => ?_⟩
  match a with
  | ⟨0, _⟩ => exact H
  | ⟨1, _⟩ => show 0 ≤ (i 1 : ℕ) ∧ (i 1 : ℕ) < 0 + 8192; omega
omit [FloatOps F] in
theorem halves_cover : (xhM 0).view.set ∪ (xhM 1).view.set = (Finset.univ : Finset S512x8192.Idx) := by
  refine Finset.eq_univ_iff_forall.mpr fun i => ?_
  have h0 : (i 0 : ℕ) < 512 := (i 0).isLt
  rw [Finset.mem_union, mem_half, mem_half]
  show (0 * 256 ≤ (i 0 : ℕ) ∧ (i 0 : ℕ) < 0 * 256 + 256) ∨ (1 * 256 ≤ (i 0 : ℕ) ∧ (i 0 : ℕ) < 1 * 256 + 256)
  omega
omit [FloatOps F] in
theorem halves_disjoint : Disjoint (xhM 0).view.set (xhM 1).view.set := by
  refine Finset.disjoint_left.mpr fun i h h' => ?_
  have a : 0 * 256 ≤ (i 0 : ℕ) ∧ (i 0 : ℕ) < 0 * 256 + 256 := (mem_half 0 i).mp h
  have b : 1 * 256 ≤ (i 0 : ℕ) ∧ (i 0 : ℕ) < 1 * 256 + 256 := (mem_half 1 i).mp h'
  omega

/-- The device's block of `x`. -/
abbrev XP (c : Dev nD) : sProp 𝕄 := (c : Thread nD τ).loc main_arg0 ↦{fullShare} m ((c : Thread nD τ).loc main_arg0)

omit [FloatOps F] in
/-- It is its two halves. -/
theorem x_halves : XP m c = (iprop(((c : Thread nD τ).loc main_arg0 ↦[(xhM 0).view.set]{fullShare} m ((c : Thread nD τ).loc main_arg0))
    ∗ ((c : Thread nD τ).loc main_arg0 ↦[(xhM 1).view.set]{fullShare} m ((c : Thread nD τ).loc main_arg0))) : sProp 𝕄) := by
  have h := pointsTo_union (ℓ := (c : Thread nD τ).loc main_arg0) (q := fullShare) (f := m ((c : Thread nD τ).loc main_arg0))
    (Ix := ℕ) (Name := ℕ) (U := UU) (Lvl := ℕ) halves_disjoint
  rw [← BI.equiv_iff.mp ⟨h.1, h.2⟩, halves_cover]

/-! ## What a device holds at the kernel's start and at its end -/

/-- The invariants, and that every barrier is open. -/
def Recs (K : Dev nD × Option Kn → ℕ) : sProp 𝕄 :=
  iprop(bigSep Finset.univ (fun x : Dev nD × Option Kn => cellInv ER (Rd m) (K x) (ocell x))
    ∗ bigSep Finset.univ (fun c : Dev nD => reached ER (barCell c) 0))
instance Recs_persistent : BI.Persistent (Recs m K) := by unfold Recs; infer_instance

/-- A device's own: its place at the barrier and what covers its wait there, the permissions of its payments, what
    covers its other waits. -/
def Hold (c : Dev nD) : sProp 𝕄 :=
  iprop((atPos ER (barCell c) 0 ∅ 0 ∗ cred (tallyAt (barCell c) 2 2)) ∗ bigSepL payL (ptok c)
    ∗ (dutyTok ER (cell c .stg) 0 false ∗ dutyTok ER (cell c .stg) 1 false) ∗ bigSepL wl (wcr c))
/-- A device before the kernel: it may still open its own semaphores. -/
def Tk (c : Dev nD) : sProp 𝕄 := iprop(∃ K, Recs m K ∗ bigSep Finset.univ (fun k : Kn => openTok ER (cell c k)) ∗ Hold c)
/-- A device in the kernel: its semaphores open. -/
def Xk (c : Dev nD) : sProp 𝕄 :=
  iprop(∃ K, Rec m K ∗ bigSep Finset.univ (fun k : Kn => iprop(atPos ER (cell c k) 0 ∅ 0 ∗ reached ER (cell c k) 0)) ∗ Hold c)

/-- The kernel's semaphores are opened. -/
theorem open_all : iprop(Tk m c ∗ Pipeline.ownSems0 csem c ∗ levAts L lv) ⊢ (|={Set.univ}=> Xk m c : sProp 𝕄) := by
  unfold Tk Xk Pipeline.ownSems0
  iintro ⟨⟨%K, #HR, Ho, HH⟩, Hs, #HL⟩
  have h1 : ∀ k ∈ (Finset.univ : Finset Kn), iprop(Recs m K ∗ (openTok ER (cell c k) ∗ semVal ((c.tc : Thread nD τ), csem k) 0))
      ⊢ (|={Set.univ}=> iprop(atPos ER (cell c k) 0 ∅ 0 ∗ reached ER (cell c k) 0) : sProp 𝕄) := fun k _ => by
    iintro ⟨#HR, Ho, Hs⟩
    iapply (Rounds.cell_open ER (Rd m) (g := cell c k) (Set.mem_univ (K (c, some k))))
    isplitr
    · unfold Recs
      icases HR with ⟨H, -⟩
      iapply (sep_at (fun x : Dev nD × Option Kn => cellInv ER (Rd m) (K x) (ocell x)) (c, some k)) $$ H
    isplitl [Ho]; · iexact Ho
    iexact Hs
  imod ((bigSep_with_persistent h1).trans (bigSep_fupd _ _)) $$ [Ho Hs] with Hat
  · isplitr; · iexact HR
    rw [bigSep_sep']
    isplitl [Ho]; · iexact Ho
    iexact Hs
  imodintro
  iexists K
  isplitr
  · unfold Recs Rec
    icases HR with ⟨#H1, #H2⟩
    isplitr; · iexact H1
    isplitr; · iexact H2
    iexact HL
  isplitl [Hat]; · iexact Hat
  iexact HH

/-- The kernel's semaphores are closed again, and its barrier, all at zero. -/
theorem close_all : iprop(Rec m K ∗ Wt c 88 ∗ atPos ER (barCell c) 1 ∅ 0)
    ⊢ (|={Set.univ}=> iprop(Pipeline.ownSems0 csem c ∗ semVal (barCell c) 0) : sProp 𝕄) := by
  unfold Wt Pipeline.ownSems0
  iintro ⟨#HR, ⟨Hat, -⟩, Hb⟩
  have h1 : ∀ k ∈ (Finset.univ : Finset Kn), iprop(Rec m K ∗ (atPos ER (cell c k) (cnt 88 k) ∅ 0 ∗ reached ER (cell c k) (cnt 88 k)))
      ⊢ (|={Set.univ}=> semVal ((c.tc : Thread nD τ), csem k) 0 : sProp 𝕄) := fun k _ => by
    iintro ⟨#HR, Hat, -⟩
    iapply (Rounds.cell_close ER (Rd m) (g := cell c k) (Set.mem_univ (K (c, some k))) (fun h => h) (R := cnt 88 k)
      (fun r hr => duties_k_later m c k r (by rw [← cnt_end]; exact hr)))
    isplitr; · iapply (Rec_inv m K c k) $$ HR
    iexact Hat
  imod ((bigSep_with_persistent h1).trans (bigSep_fupd _ _)) $$ [Hat] with Hs
  · isplitr; · iexact HR
    iexact Hat
  imod (Rounds.cell_close ER (Rd m) (g := barCell c) (Set.mem_univ (K (c, none))) (fun h => h) (R := 1)
      (fun r hr => duties_bar_later m c r hr)) $$ [Hb] with Hz
  · isplitr
    · ihave H := (Rec_bar m K c) $$ HR
      icases H with ⟨H, -⟩
      iexact H
    iexact Hb
  imodintro
  isplitl [Hs]; · iexact Hs
  iexact Hz

/-- The kernel's scratch buffers, at anything. -/
abbrev Scr (c : Dev nD) : sProp 𝕄 :=
  iprop(BufS c 0 ∗ BufS c 1 ∗ BufS c 2 ∗ BufS c 3
    ∗ (∃ f : Buf (Elt F) ((stM : Memref sig .tc .vmem S256x8192 .f32).view.loc (c : Thread nD τ)),
            (stM : Memref sig .tc .vmem S256x8192 .f32).view.loc (c : Thread nD τ) ↦{fullShare} f)
    ∗ Wf c)

omit [FloatOps F] in
theorem scr_eq : (Pipeline.scopedRest (Ix := ℕ) (Name := ℕ) (U := UU) (Lvl := ℕ) (Val := Elt F) spec0 c : sProp 𝕄) = Scr c := by
  rw [scopedRest0_eq]
  unfold Scr BufS Wf
  have e : ∀ X : Fin 4, (bufM X).view.set = Finset.univ := fun X => by
    match X with
    | ⟨0, _⟩ => exact View.set_whole _
    | ⟨1, _⟩ => exact View.set_whole _
    | ⟨2, _⟩ => exact View.set_whole _
    | ⟨3, _⟩ => exact View.set_whole _
  rw [e 0, e 1, e 2, e 3]
  rfl

/-- What a device brings makes the kernel's first state. -/
theorem begin_state :
    iprop(Scr c ∗ XP m c ∗ (Rec m K ∗ bigSep Finset.univ (fun k : Kn => iprop(atPos ER (cell c k) 0 ∅ 0 ∗ reached ER (cell c k) 0)) ∗ Hold c)
      ∗ (∃ W, owes (c : Thread nD τ) (OL c 0) W) ∗ Tb c ∗ Wi m c
      ∗ (∃ f : Buf (Elt F) ((oM : Memref sig .tc .vmem S8192x256 .bf16).view.loc (c : Thread nD τ)),
          ((oM : Memref sig .tc .vmem S8192x256 .bf16).view.loc (c : Thread nD τ) ↦{fullShare} f)))
      ⊢ St m K c
      [.pend 0, .wt 0, .out 0, .b0, .fs 0 0, .fs 0 1, .fs 1 0, .fs 1 1, .fs 2 0, .fs 2 1, .fs 3 0, .fs 3 1, .sf, .tb, .tk 0, .tk 1, .wf, .wi, .xs 0,
       .xs 1] := by
  have e0 : ∀ k, cnt 0 k = 0 := fun k => rfl
  rw [x_halves]
  unfold St Scr Hold
  simp only [sepL, res]
  unfold Pend Wt Out
  simp only [e0, List.drop_zero]
  iintro ⟨⟨H0, H1, H2, H3, Hst, Hwf⟩, ⟨Hx0, Hx1⟩, ⟨#HR, Hat, ⟨HbA, HbC⟩, Hpay, ⟨Ht0, Ht1⟩, Hw⟩, HO, Htb, Hwi, ⟨%f, Hout⟩⟩
  ihave H0 := (buf_split c 0) $$ H0; icases H0 with ⟨H00, H01⟩
  ihave H1 := (buf_split c 1) $$ H1; icases H1 with ⟨H10, H11⟩
  ihave H2 := (buf_split c 2) $$ H2; icases H2 with ⟨H20, H21⟩
  ihave H3 := (buf_split c 3) $$ H3; icases H3 with ⟨H30, H31⟩
  isplitr; · iexact HR
  isplitl [HO Hpay]
  · isplitl [HO]; · iexact HO
    iexact Hpay
  isplitl [Hat Hw]
  · isplitl [Hat]; · iexact Hat
    iexact Hw
  isplitl [Hout]
  · iexists f
    isplitr
    · ipureintro; rintro y ⟨b, hb, -⟩; exact absurd hb (List.not_mem_nil)
    iexact Hout
  isplitl [HbA HbC]
  · isplitl [HbA]; · iexact HbA
    iexact HbC
  isplitl [H00]; · iexact H00
  isplitl [H01]; · iexact H01
  isplitl [H10]; · iexact H10
  isplitl [H11]; · iexact H11
  isplitl [H20]; · iexact H20
  isplitl [H21]; · iexact H21
  isplitl [H30]; · iexact H30
  isplitl [H31]; · iexact H31
  isplitl [Hst]; · iexact Hst
  isplitl [Htb]; · iexact Htb
  isplitl [Ht0]; · iexact Ht0
  isplitl [Ht1]; · iexact Ht1
  isplitl [Hwf]; · iexact Hwf
  isplitl [Hwi]; · iexact Hwi
  isplitl [Hx0]; · iexact Hx0
  isplitl [Hx1]; · iexact Hx1
  iempintro

/-- Every block of 256 rows of the result is among the blocks a device stores. -/
theorem rows_covered : ∀ (c : Dev nD) (r : Fin 32), ∃ b ∈ bl, r.val = brow c b := by decide +kernel

/-- The kernel's last state gives all back: the buffers, the semaphores at zero, the result. -/
theorem end_state :
    St m K c
      [.pend 58, .wt 88, .out 32, .b1, .fs 0 1, .fs 1 0, .fs 2 0, .fs 3 1, .ld 0 7, .ld 1 6, .ld 2 6, .ld 3 7, .rch 0 7, .rch 1 6, .rch 2 6,
       .rch 3 7, .st 1, .tb, .wb, .wi, .xs 0]
      ⊢ (|={Set.univ}=> iprop(Scr c ∗ XP m c ∗ (Pipeline.ownSems0 csem c ∗ semVal (barCell c) 0)
        ∗ (∃ W, owes (c : Thread nD τ) 0 W) ∗ Tb c ∗ Wi m c
        ∗ ((oM : Memref sig .tc .vmem S8192x256 .bf16).view.loc (c : Thread nD τ) ↦{fullShare}
            (outAt m c : Buf (Elt F) ((oM : Memref sig .tc .vmem S8192x256 .bf16).view.loc (c : Thread nD τ))))) : sProp 𝕄) := by
  rw [x_halves]
  unfold St Scr
  simp only [sepL, res]
  unfold Pend Out
  have hO : OL c 58 = 0 := rfl
  rw [hO]
  iintro ⟨#HR, ⟨HO, -⟩, Hwt, ⟨%f, %hf, Hout⟩, Hb, H01, H10, H20, H31, L00, L11, L21, L30, -, -, -, -, Hst, Htb, Hwb, Hwi, Hx0, -⟩
  imod (close_all m K c) $$ [Hwt Hb] with Hz
  · isplitr; · iexact HR
    isplitl [Hwt]; · iexact Hwt
    iexact Hb
  unfold LdP StP
  icases Hst with ⟨Hst, Hx1⟩
  ihave L00 := (slot_free c _) $$ L00
  ihave L11 := (slot_free c _) $$ L11
  ihave L21 := (slot_free c _) $$ L21
  ihave L30 := (slot_free c _) $$ L30
  imodintro
  isplitl [H01 H10 H20 H31 L00 L11 L21 L30 Hst Hwb]
  · isplitl [L00 H01]
    · iapply (buf_join c 0)
      isplitl [L00]; · iexact L00
      iexact H01
    isplitl [L11 H10]
    · iapply (buf_join c 1)
      isplitl [H10]; · iexact H10
      iexact L11
    isplitl [L21 H20]
    · iapply (buf_join c 2)
      isplitl [H20]; · iexact H20
      iexact L21
    isplitl [L30 H31]
    · iapply (buf_join c 3)
      isplitl [L30]; · iexact L30
      iexact H31
    isplitl [Hst]; · iexists _; iexact Hst
    unfold Wf Wb; iexists _; iexact Hwb
  isplitl [Hx0 Hx1]
  · isplitl [Hx0]; · iexact Hx0
    iexact Hx1
  isplitl [Hz]; · iexact Hz
  isplitl [HO]; · iexact HO
  isplitl [Htb]; · iexact Htb
  isplitl [Hwi]; · iexact Hwi
  have hfe : f = outAt m c := funext fun y => hf y (by
    have h : (y 0 : ℕ) < 8192 := (y 0).isLt
    obtain ⟨b, hb, e⟩ := rows_covered c ⟨(y 0 : ℕ) / 256, by omega⟩
    exact ⟨b, hb, e⟩)
  rw [← hfe]
  iexact Hout

end Cert.Ring
end
-- ==== Proof.Segs.lean ====
/-
The program as a host segment and the kernel's region.
-/
module

public import proofs.«01_k».proof.Proof.Region
public import Idealize.ShloMosaic.Lib.Pipeline.Value

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-! ## The buffers -/

/-- What a device's buffers hold at the launch, when the kernel is entered, and when it is left. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v1) (outAt m c)

/-- The unscoped buffer no window stages. -/
abbrev xRef : Finset (DevRef τ sig) := {Proc.devRef .tc main_arg0}

theorem V₂_of_ne (b : Ref sig .tc) (h : b ≠ main_v1) : V₂ m c b = V₁ m c b := Function.update_of_ne (StableHlo.devRef_ne_of_ne h) ..
theorem V₂_out : V₂ m c main_v1 = outAt m c := Function.update_self ..

theorem V_main_c : V m c main_c = (tblV : S16x18.Idx → BitVec 32) := by
  show StableHlo.after hostOps0 (V₀ m c) (Proc.devRef .tc main_c) = _
  unfold hostOps0
  rw [StableHlo.after_cons, StableHlo.after_nil, StableHlo.nullary_result]
  rfl

theorem held_x (W : Valuation τ sig (Elt F)) (h : W (Proc.devRef .tc main_arg0) = m ((c : Thread nD τ).loc main_arg0)) :
    (StableHlo.held (c.tc : Thread nD τ) xRef W : sProp 𝕄) = XP m c := by
  unfold StableHlo.held
  rw [bigSep_singleton, h]
theorem held_x1 : (StableHlo.held (c.tc : Thread nD τ) xRef (V₁ m c) : sProp 𝕄) = XP m c := held_x m c _ (V_main_arg0 m c)
theorem held_x2 : (StableHlo.held (c.tc : Thread nD τ) xRef (V₂ m c) : sProp 𝕄) = XP m c :=
  held_x m c _ ((V₂_of_ne m c main_arg0 (by decide)).trans (V_main_arg0 m c))

omit [FloatOps F] in
/-- The unscoped buffers are the windows' arrays and that one. -/
theorem held_uc (W : Valuation τ sig (Elt F)) : (StableHlo.held (c.tc : Thread nD τ) (Pipeline.ucRefs τ sig) W : sProp 𝕄)
    = iprop(StableHlo.held (c.tc : Thread nD τ) xRef W ∗ StableHlo.held (c.tc : Thread nD τ) (Pipeline.arrRefs (τ := τ) spec0) W) := by
  rw [StableHlo.held_sub_split (c.tc : Thread nD τ) (show xRef ⊆ Pipeline.ucRefs τ sig by decide) W]
  rw [show Pipeline.ucRefs τ sig \ xRef = Pipeline.arrRefs (τ := τ) spec0 by decide]

/-! ## The region's proof data -/

/-- The windows' arrays as the region finds them; the two inputs left as they are, the result as computed; what the device
    holds before the kernel and after it; what it owes: all before, nothing after. -/
def dat0 (c : Dev nD) : Pipeline.Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => outAt m c
  Φ t := if t.val = 0 then iprop(Scr c ∗ (∃ r, prngReg c r) ∗ XP m c ∗ Xk m c)
    else iprop(Scr c ∗ (∃ r, prngReg c r) ∗ XP m c ∗ Pipeline.ownSems0 csem c ∗ semVal (barCell c) 0)
  q _ := fullShare
  owed t := if t.val = 0 then OL c 0 else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

theorem owed_zero : (pdats m 0 c).owed 0 = OL c 0 := by
  show (if ((0 : Fin (cfg0.N + 1)).val = 0) then OL c 0 else 0) = OL c 0; exact if_pos rfl
theorem owed_first : (dat0 m c).owed t0_0.castSucc = OL c 0 := by
  show (if (t0_0.castSucc : Fin (cfg0.N + 1)).val = 0 then OL c 0 else 0) = OL c 0; exact if_pos rfl
theorem owed_last : (pdats m 0 c).owed (Fin.last _) = 0 := by
  show (if (Fin.last cfg0.N).val = 0 then OL c 0 else 0) = 0
  rw [Fin.val_last, if_neg (by rw [show cfg0.N = 1 from N_0]; decide)]
theorem phi_zero (t : Fin (cfg0.N + 1)) (h : t.val = 0) :
    (dat0 m c).Φ t = iprop(Scr c ∗ (∃ r, prngReg c r) ∗ XP m c ∗ Xk m c) := by
  show (if t.val = 0 then iprop(Scr c ∗ (∃ r, prngReg c r) ∗ XP m c ∗ Xk m c) else _) = _; exact if_pos h
theorem phi_pos (t : Fin (cfg0.N + 1)) (h : t.val ≠ 0) :
    (dat0 m c).Φ t = iprop(Scr c ∗ (∃ r, prngReg c r) ∗ XP m c ∗ Pipeline.ownSems0 csem c ∗ semVal (barCell c) 0) := by
  show (if t.val = 0 then _ else iprop(Scr c ∗ (∃ r, prngReg c r) ∗ XP m c ∗ Pipeline.ownSems0 csem c ∗ semVal (barCell c) 0)) = _; exact if_neg h

/-- What a device owes, put into the region's form and taken out of it. -/
theorem owes_in (t : Fin (cfg0.N + 1)) (O : CellTallies nD τ sig ℕ) (h : (dat0 m c).owed t = O) :
    iprop(∃ W, owes (c : Thread nD τ) O W) ⊢ ((dat0 m c).owesAt 0 t : sProp 𝕄) := by
  unfold Dat.owesAt Pipeline.owesWithin Dat.bound; rw [h]
  iintro ⟨%W, HO⟩
  iexists W
  isplitr; · ipureintro; exact fun _ _ => Or.inl trivial
  iexact HO
theorem owes_out (t : Fin (cfg0.N + 1)) (O : CellTallies nD τ sig ℕ) (h : (dat0 m c).owed t = O) :
    ((dat0 m c).owesAt 0 t : sProp 𝕄) ⊢ iprop(∃ W, owes (c : Thread nD τ) O W) := by
  unfold Dat.owesAt Pipeline.owesWithin; rw [h]
  iintro ⟨%W, -, HO⟩
  iexists W
  iexact HO

/-! ## The windows' blocks are whole arrays -/

theorem blk0 : iblk m c 0 t0_0 = (tblV : S16x18.Idx → BitVec 32) := by
  unfold iblk
  show ((cfg0.win 0).blk t0_0).view.read (Elt F) (V m c main_c) = _
  rw [V_main_c]
  funext y
  show tblV _ = tblV y
  refine congrArg tblV (funext fun a => Fin.ext ?_)
  match a with
  | ⟨0, _⟩ => show 0 * 16 + 1 * (y 0 : ℕ) = (y 0 : ℕ); omega
  | ⟨1, _⟩ => show 0 * 18 + 1 * (y 1 : ℕ) = (y 1 : ℕ); omega

theorem blk1 : iblk m c 1 t0_0 = wv m c := by
  unfold iblk wv
  show ((cfg0.win 1).blk t0_0).view.read (Elt F) (V m c main_arg1) = _
  rw [V_main_arg1]
  rfl

/-- The device's weights are its argument. -/
theorem wv_eq : wv m c = (m ((c : Thread nD τ).loc main_arg1) : S8192x256.Idx → Elt F .f32) := by
  funext y
  show m ((c : Thread nD τ).loc main_arg1) _ = m ((c : Thread nD τ).loc main_arg1) y
  refine congrArg (m ((c : Thread nD τ).loc main_arg1)) (funext fun a => Fin.ext ?_)
  match a with
  | ⟨0, _⟩ => show 0 * 8192 + 1 * (y 0 : ℕ) = (y 0 : ℕ); omega
  | ⟨1, _⟩ => show 0 * 256 + 1 * (y 1 : ℕ) = (y 1 : ℕ); omega

theorem before0 (d) : (dat0 m c).before 0 t0_0 d = iblk m c 0 t0_0 := by
  unfold Pipeline.Dat.before; rw [if_pos (by decide)]; rfl
theorem before1 (d) : (dat0 m c).before 1 t0_0 d = iblk m c 1 t0_0 := by
  unfold Pipeline.Dat.before; rw [if_pos (by decide)]; rfl

theorem flushed2 (t : Fin cfg0.N) : (dat0 m c).flushed 2 t = ((cfg0.win 2).blk t).view.read (Elt F) (outAt m c) := by
  obtain rfl := fin_N0 t
  have ha : (dat0 m c).after 2 t0_0 = outAt m c := by dsimp only [dat0]
  unfold Pipeline.Dat.flushed
  rw [ha]
  funext y
  show outAt m c _ = outAt m c _
  refine congrArg (outAt m c) (funext fun a => Fin.ext ?_)
  match a with
  | ⟨0, _⟩ => show (y 0 : ℕ) = 0 * 8192 + 1 * (y 0 : ℕ); omega
  | ⟨1, _⟩ => show (y 1 : ℕ) = 0 * 256 + 1 * (y 1 : ℕ); omega

theorem cover2 (i : S8192x256.Idx) : ∃ t : Fin cfg0.N, (cfg0.win 2).flush t = true ∧ i ∈ ((cfg0.win 2).blk t).view.set := by
  refine ⟨t0_0, flush0_2 _, ?_⟩
  show i ∈ ((View.whole main_v1).slice (win0_2.rect t0_0)).set
  rw [View.set_slice_whole, Rect.mem_set_unit]
  have h0 : (i 0 : ℕ) < 8192 := (i 0).isLt
  have h1 : (i 1 : ℕ) < 256 := (i 1).isLt
  intro a
  match a with
  | ⟨0, _⟩ => show 0 * 8192 ≤ (i 0 : ℕ) ∧ (i 0 : ℕ) < 0 * 8192 + 8192; omega
  | ⟨1, _⟩ => show 0 * 256 ≤ (i 1 : ℕ) ∧ (i 1 : ℕ) < 0 * 256 + 256; omega

/-- The result array ends at the computed result. -/
theorem arr2 : (dat0 m c).arrAt 2 cfg0.N = outAt m c :=
  (dat0 m c).arrAt_eq_of_cover 2 (outAt m c) (fun t _ => flushed2 m c t) cover2

/-! ## The body -/

omit [FloatOps F] in
theorem owns_whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the kernel takes, and what it leaves. -/
def Before (c : Dev nD) : sProp 𝕄 := iprop(Scr c ∗ XP m c ∗ Xk m c ∗ (∃ W, owes (c : Thread nD τ) (OL c 0) W) ∗ Tb c ∗ Wi m c
  ∗ (∃ f : Buf (Elt F) ((oM : Memref sig .tc .vmem S8192x256 .bf16).view.loc (c : Thread nD τ)),
      (oM : Memref sig .tc .vmem S8192x256 .bf16).view.loc (c : Thread nD τ) ↦{fullShare} f))
def After (c : Dev nD) : sProp 𝕄 := iprop(Scr c ∗ XP m c ∗ (Pipeline.ownSems0 csem c ∗ semVal (barCell c) 0)
  ∗ (∃ W, owes (c : Thread nD τ) 0 W) ∗ Tb c ∗ Wi m c
  ∗ ((oM : Memref sig .tc .vmem S8192x256 .bf16).view.loc (c : Thread nD τ) ↦{fullShare}
      (outAt m c : Buf (Elt F) ((oM : Memref sig .tc .vmem S8192x256 .bf16).view.loc (c : Thread nD τ)))))

section
variable {h0 : (Memref.whole cc0_stg0_0 : Memref sig .tc .smem S16x18 .i32).IsWhole} {h1 : (Memref.whole main_arg0 : Memref sig .tc .hbm S512x8192 .f32).IsWhole} {h2 : (Memref.whole cc0_stg1_0 : Memref sig .tc .vmem S8192x256 .f32).IsWhole} {h3 : (Memref.whole cc0_stg2_0 : Memref sig .tc .vmem S8192x256 .bf16).IsWhole}
  {h4 : (Memref.whole cc0_scratch0 : Memref sig .tc .vmem S2x256x8192 .bf16).IsWhole} {h5 : (Memref.whole cc0_scratch1 : Memref sig .tc .vmem S2x256x8192 .bf16).IsWhole} {h6 : (Memref.whole cc0_scratch2 : Memref sig .tc .vmem S2x256x8192 .bf16).IsWhole} {h7 : (Memref.whole cc0_scratch3 : Memref sig .tc .vmem S2x256x8192 .bf16).IsWhole} {h8 : (Memref.whole cc0_scratch4 : Memref sig .tc .vmem S256x8192 .f32).IsWhole} {h9 : (Memref.whole cc0_scratch5 : Memref sig .tc .vmem S8192x256 .bf16).IsWhole}

/-- The kernel's run, from what it takes to what it leaves, with anything kept beside. -/
theorem kernel_run {R : sProp 𝕄} {Q : PUnit → sProp 𝕄} (hQ : iprop(After m c ∗ R) ⊢ Q ⟨⟩) :
    iprop(Before m c ∗ R) ⊢ wp frame (wpE (defs₀ (F := F)) 𝒱₀ (c : Thread nD τ) none) Set.univ
        (cc0_body (Memref.whole cc0_stg0_0) h0 (Memref.whole main_arg0) h1 (Memref.whole cc0_stg1_0) h2 (Memref.whole cc0_stg2_0) h3 (Memref.whole cc0_scratch0) h4 (Memref.whole cc0_scratch1) h5 (Memref.whole cc0_scratch2) h6 (Memref.whole cc0_scratch3) h7 (Memref.whole cc0_scratch4) h8 (Memref.whole cc0_scratch5) h9 cc0_scratch6 cc0_scratch7 cc0_scratch8 cc0_scratch9 cc0_scratch10 cc0_scratch11 cc0_scratch12) Q := by
  refine BIBase.Entails.trans ?_ (wp_fupd _ _ _ _ _)
  refine BIBase.Entails.trans (BIBase.Entails.trans (sep_mono ?_ .rfl) (wp_frame_r _ _ _ (Q := fun _ => iprop(|={Set.univ}=> After m c)))) (wp_mono _ _ _ fun _ => ?_)
  · unfold Before Xk
    iintro ⟨Hsc, Hx, ⟨%K, HX⟩, H⟩
    iapply ((begin_state m K c).trans (kernel_body (m := m) (K := K) (c := c) (Q := fun _ => iprop(|={Set.univ}=> After m c)) (by unfold After; exact end_state m K c)))
    isplitl [Hsc]; · iexact Hsc
    isplitl [Hx]; · iexact Hx
    isplitl [HX]; · iexact HX
    iexact H
  · iintro ⟨H, HR⟩
    imod H with H
    imodintro
    iapply hQ
    isplitl [H]; · iexact H
    iexact HR

end

/-- The kernel's run, as the region asks for it. -/
theorem body (c : Dev nD) : BodyObligation (dat0 (F := F) m c) (defs₀ (F := F)) 𝒱₀ 0 Set.univ := fun t => by
  obtain rfl := fin_N0 t
  rw [bigSep_W0, bigSep_W0]
  simp only [owns_whole_eq]
  rw [phi_zero m c t0_0.castSucc rfl, phi_pos m c t0_0.succ (by decide)]
  refine BIBase.Entails.trans ?_ (kernel_run m c (R := iprop(∃ r, prngReg c r)) ?_)
  · unfold Before
    iintro ⟨⟨Hsc, Hp, Hx, HX⟩, HO, ⟨%d0, %f0, %hf0, H0⟩, ⟨%d1, %f1, %hf1, H1⟩, ⟨%d2, %f2, -, H2⟩⟩
    rw [before0, blk0] at hf0
    rw [before1, blk1] at hf1
    subst hf0
    subst hf1
    ihave HO := (owes_out m c _ (OL c 0) (owed_first m c)) $$ HO
    isplitr [Hp]; swap; · iexact Hp
    isplitl [Hsc]; · iexact Hsc
    isplitl [Hx]; · iexact Hx
    isplitl [HX]; · iexact HX
    isplitl [HO]; · iexact HO
    isplitl [H0]; · unfold Tb; iexact H0
    isplitl [H1]; · unfold Wi; iexact H1
    iexists f2; iexact H2
  · unfold After
    iintro ⟨⟨Hsc, Hx, Hs, HO, H0, H1, H2⟩, Hp⟩
    isplitl [Hsc Hp Hx Hs]
    · isplitl [Hsc]; · iexact Hsc
      isplitl [Hp]; · iexact Hp
      isplitl [Hx]; · iexact Hx
      iexact Hs
    isplitl [HO]; · iapply (owes_in m c t0_0.succ 0 (owed_last m c)); iexact HO
    isplitl [H0]
    · iexists _; isplitr; swap; · unfold Tb; iexact H0
      ipureintro; exact (blk0 m c).symm
    isplitl [H1]
    · iexists _; isplitr; swap; · unfold Wi; iexact H1
      ipureintro; exact (blk1 m c).symm
    iexists _; isplitr; swap; · iexact H2
    ipureintro; rfl

/-! ## The region and the host segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever a device owes during the kernel is of a level above 0. -/
theorem owed_cut (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then OL c 0 else 0 := rfl
  rw [e] at h
  split at h
  · obtain ⟨x, hx, rfl, rfl⟩ := TalkSites.tallyL_pos h
    obtain ⟨p, hp, rfl⟩ := List.mem_map.mp hx
    refine ⟨?_, rk_lt hp⟩
    show rk p ∈ L (pcell c p)
    unfold L
    rw [if_pos (pcell_tc c p)]
    exact Finset.mem_range.mpr (rk_bound p (List.mem_of_mem_drop hp))
  · exact absurd h (Nat.lt_irrefl 0)

/-- The region's invariant before the kernel, from what the region brings. -/
theorem hin0 : iprop(Pipeline.scopedRest (Pipeline.pin (pcfgs (F := F)) adm 0).spec c ∗ (∃ r, prngReg c r)
    ∗ StableHlo.held (c.tc : Thread nD τ) xRef (V₁ m c) ∗ Xk m c) ⊢ (pdats m 0 c).Φ 0 := by
  rw [show (pdats m 0 c).Φ 0 = iprop(Scr c ∗ (∃ r, prngReg c r) ∗ XP m c ∗ Xk m c) from phi_zero m c 0 rfl, held_x1]
  rw [show Pipeline.scopedRest (Pipeline.pin (pcfgs (F := F)) adm 0).spec c = (Scr c : sProp 𝕄) from scr_eq c]

/-- And what the region takes, from its invariant after the kernel. -/
theorem hout0 : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) xRef (V₂ m c) ∗ Pipeline.ownSems0 csem c ∗ semVal (barCell c) 0) := by
  rw [show (pdats m 0 c).Φ (Fin.last _) = iprop(Scr c ∗ (∃ r, prngReg c r) ∗ XP m c ∗ Pipeline.ownSems0 csem c ∗ semVal (barCell c) 0) from
    phi_pos m c _ (by rw [Fin.val_last]; show cfg0.N ≠ 0; rw [show cfg0.N = 1 from N_0]; decide), held_x2]
  rw [show Pipeline.scopedRest (Pipeline.pin (pcfgs (F := F)) adm 0).spec c = (Scr c : sProp 𝕄) from scr_eq c]

theorem arr_first (w : Fin (Pipeline.pin (pcfgs (F := F)) adm 0).W) :
    (pdats m 0 c).arrAt w 0 = V₁ m c (Proc.devRef .tc (Pipeline.arrRef (Pipeline.pin (pcfgs (F := F)) adm 0).spec w)) := rfl

theorem arr_last (w : Fin cfg0.W) : (dat0 m c).arrAt w cfg0.N = V₂ m c (Proc.devRef .tc (Pipeline.arrRef spec0 w)) := by
  match w with
  | ⟨0, _⟩ => exact ((dat0 m c).arrAt_in 0 rfl _).trans (V₂_of_ne m c main_c (by decide)).symm
  | ⟨1, _⟩ => exact ((dat0 m c).arrAt_in 1 rfl _).trans (V₂_of_ne m c main_arg1 (by decide)).symm
  | ⟨2, _⟩ => exact (arr2 m c).trans (V₂_out m c).symm

theorem stage_level (w : Fin (Pipeline.pin (pcfgs (F := F)) adm 0).W) (s) :
    (0 : ℕ) ∈ L ((c : Thread nD τ), .dma (((Pipeline.pin (pcfgs (F := F)) adm 0).win w).sem s)) := by
  rw [L_tc]; exact Finset.mem_range.mpr (by decide)

set_option backward.isDefEq.respectTransparency.types false in
/-- The kernel's region: entered with the arrays as the host segment leaves them, left with the result written. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 csem (by decide : Pipeline.OwnSemFacts spec0 csem)
    xRef xRef (Finset.Subset.refl _) kitP rfl (fun c => (body m c).loose)
    (fun _ => 0) (fun c => OL c 0) (fun c => (owed_zero m c).trans (zero_add _).symm) (owed_last m) (fun _ => rfl)
    (fun c => (pdats m 0 c).share_full fun _ => rfl)
    (V₁ m) (V₂ m) (fun _ b hb => absurd hb (by rw [Finset.sdiff_self]; exact Finset.notMem_empty b))
    (Tk m) (fun c => semVal (barCell c) 0) (Xk m) (fun c => semVal (barCell c) 0) (open_all m) (hin0 m) (hout0 m)
    (fun c => by iintro H; imodintro; iexact H)
    (fun _ => 0)
    ⟨fun c w s => stage_level c w s, fun _ _ _ => le_refl 0, fun c t g i h => owed_cut m c t g i h⟩
    (fun _ => iprop(emp))
    (arr_first m) (arr_last m)

/-- What a device holds at the launch besides its buffers. -/
def R (c : Dev nD) : sProp 𝕄 := iprop(Tk m c ∗ (∃ r, prngReg c r) ∗ ∃ W, owes (c : Thread nD τ) (OL c 0) W)

/-- The host segment: the table of places is written. -/
def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (List.forall_iff_forall_mem.mp hostOps0_fresh) (V₀ m) (R m)

def segs : List (Pipeline.Seg (pcfgs (F := F)) adm (pdats m) 0 defs₀ 𝒱₀ L lv) := [.host (seg0 m), .region (reg0 m)]

theorem main_eq : main (F := F) c = Pipeline.Seg.run (segs m) :=
  Gen.main_segs adm (pdats m) 0 𝒱₀ L lv (seg0 m) (reg0 m) rfl c

/-- From the host segment into the region. -/
theorem reg_pre : iprop(StableHlo.held (c : Thread nD τ) (Pipeline.ucRefs τ sig) (V₁ m c) ∗ R m c) ⊢ (reg0 m).pre c := by
  refine BIBase.Entails.trans ?_ (Entails.of_eq (show iprop(StableHlo.held (c.tc : Thread nD τ) (Pipeline.arrRefs (τ := τ) spec0) (V₁ m c) ∗ (∃ r, prngReg c r)
    ∗ (StableHlo.held (c.tc : Thread nD τ) xRef (V₁ m c) ∗ emp) ∗ Tk m c ∗ ∃ Wd, owes (c : Thread nD τ) (0 + OL c 0) Wd) = (reg0 m).pre c from rfl))
  rw [held_uc, zero_add]
  unfold R
  iintro ⟨⟨Hx, Hh⟩, HT, Hp, HO⟩
  isplitl [Hh]; · iexact Hh
  isplitl [Hp]; · iexact Hp
  isplitl [Hx]
  · isplitl [Hx]; · iexact Hx
    iempintro
  isplitl [HT]; · iexact HT
  iexact HO

/-- What a device holds at the end. -/
abbrev Tₙ (c : Dev nD) : sProp 𝕄 := iprop(StableHlo.held (c : Thread nD τ) (Pipeline.ucRefs τ sig) (V₂ m c) ∗ semVal (barCell c) 0)

/-- And out of the region. -/
theorem reg_post : (reg0 m).post c ⊢ iprop(Tₙ m c ∗ ∃ W, owes (c : Thread nD τ) (0 : CellTallies nD τ sig ℕ) W) := by
  refine BIBase.Entails.trans (Entails.of_eq (show (reg0 m).post c = iprop(StableHlo.held (c.tc : Thread nD τ) (Pipeline.arrRefs (τ := τ) spec0) (V₂ m c) ∗ (∃ r, prngReg c r)
    ∗ (StableHlo.held (c.tc : Thread nD τ) xRef (V₂ m c) ∗ emp) ∗ semVal (barCell c) 0 ∗ ∃ Wd, owes (c : Thread nD τ) (0 : CellTallies nD τ sig ℕ) Wd) from rfl)) ?_
  unfold Tₙ
  rw [held_uc]
  iintro ⟨Hh, -, ⟨Hx, -⟩, Hb, HO⟩
  isplitr [HO]; swap; · iexact HO
  isplitr [Hb]; swap; · iexact Hb
  isplitl [Hx]; · iexact Hx
  iexact Hh

end Cert.Ring
end
-- ==== Proof.Launch.lean ====
/-
The launch: the units every device is to receive and the permissions of the payments, dealt to the devices; and the
program's run.
-/
module

public import proofs.«01_k».proof.Proof.Segs

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## Lists -/

section Lists
variable {M : Type} [URA M] {I J : Type}

theorem sep_shift (P Q R : sProp M) : iprop((P ∗ Q) ∗ R) = iprop(P ∗ Q ∗ R) := BI.Entails.antisymm BI.sep_assoc BI.sep_assoc'

/-- A product over a list, where some of the entries stand for nothing. -/
theorem bigSepL_some (f : I → Option J) (Φ : J → sProp M) (Ψ : I → sProp M) (l : List I)
    (h : ∀ i ∈ l, Ψ i = (match f i with | some j => Φ j | none => BI.emp)) : bigSepL l Ψ = bigSepL (l.filterMap f) Φ := by
  induction l with
  | nil => rfl
  | cons i l ih =>
    rw [BI.bigSepL_cons', ih fun j hj => h j (List.mem_cons_of_mem _ hj), h i List.mem_cons_self]
    cases hf : f i with
    | none => rw [List.filterMap_cons_none hf]; exact BI.equiv_iff.mp emp_sep
    | some j => rw [List.filterMap_cons_some hf, BI.bigSepL_cons']

theorem bigSepL_two (Φ Ψ : I → sProp M) (l : List I) : bigSepL l (fun i => iprop(Φ i ∗ Ψ i)) = iprop(bigSepL l Φ ∗ bigSepL l Ψ) := by
  induction l with
  | nil => exact (BI.equiv_iff.mp emp_sep).symm
  | cons i l ih =>
    rw [BI.bigSepL_cons', BI.bigSepL_cons', BI.bigSepL_cons', ih]
    rw [sep_shift, sep_shift, ← sep_shift (Ψ i), ← sep_shift (bigSepL l Φ)]
    rw [show iprop(Ψ i ∗ bigSepL l Φ) = iprop(bigSepL l Φ ∗ Ψ i) from BI.equiv_iff.mp ⟨BI.sep_comm, BI.sep_comm⟩]

/-- Each entry of a list moved along a bijection of the devices of its own. -/
theorem bigSepL_move (e : I → Dev nD ≃ Dev nD) (Φ : Dev nD → I → sProp M) (l : List I) :
    bigSep Finset.univ (fun c : Dev nD => bigSepL l (Φ c)) = bigSep Finset.univ (fun c : Dev nD => bigSepL l fun i => Φ (e i c) i) := by
  induction l with
  | nil => rfl
  | cons i l ih =>
    simp only [BI.bigSepL_cons']
    rw [bigSep_sep', bigSep_sep', ih, bigSep_univ_equiv (e i)]
end Lists

/-! ## Who is paid -/

/-- The device a payment goes to. -/
def dest : PE → Dev nD ≃ Dev nD
  | .bar false => ⟨lf, rt, rt_lf, lf_rt⟩
  | .bar true => ⟨rt, lf, lf_rt, rt_lf⟩
  | .cr X _ => ⟨fr X, tg X, tg_fr X, fr_tg X⟩
  | .is X _ => ⟨tg X, fr X, fr_tg X, tg_fr X⟩
/-- The semaphore it goes to. -/
def psem : PE → SemLoc sig
  | .bar _ => .reg barS
  | .cr X _ => csem (.cr X)
  | .is X q => csem (.rc X (dsl q))
theorem pcell_eq (p : PE) : pcell c p = ((dest p c : Thread nD τ), psem p) := by
  match p with
  | .bar false => rfl
  | .bar true => rfl
  | .cr _ _ => rfl
  | .is _ _ => rfl

/-! ## The units -/

/-- A payment as the device paid sees it. -/
def qpay (c : Dev nD) (p : PE) : Pay nD τ sig := (((c : Thread nD τ), psem p), rk p, pamt p)
/-- The units a device is to receive. -/
def due (c : Dev nD) : CellTallies nD τ sig ℕ := tallyL (payL.map (qpay c))

/-- What all devices owe is what all devices are to receive. -/
theorem owed_sum (l : List PE) : (∑ d : Dev nD, tallyL (l.map (ppay d))) = ∑ d : Dev nD, tallyL (l.map (qpay d)) := by
  induction l with
  | nil => rfl
  | cons p l ih =>
    simp only [List.map_cons, tallyL, Finset.sum_add_distrib]
    rw [ih]
    congr 1
    refine Fintype.sum_equiv (dest p) _ _ fun d => ?_
    unfold ppay qpay
    rw [pcell_eq]

theorem due_own (d : Dev nD) (g : GSem nD τ sig) (h : due d g ≠ 0) : g.1 = (d.tc : Thread nD τ) := by
  obtain ⟨i, hi⟩ := DFunLike.ne_iff.mp h
  obtain ⟨x, hx, rfl, -⟩ := TalkSites.tallyL_pos (Nat.pos_of_ne_zero hi)
  obtain ⟨p, -, rfl⟩ := List.mem_map.mp hx
  rfl

/-- What covers a wait on another device's payment. -/
def pcr (c : Dev nD) (p : PE) : sProp 𝕄 := cred (tallyAt ((c : Thread nD τ), psem p) (rk p) (pamt p))
/-- The payment a wait waits for, if another device's. -/
def wpe : WE → Option PE
  | .rc X q => some (.is X q)
  | .cr X n => some (.cr X n)
  | _ => none

theorem waits_perm : (payL.drop 2).Perm (wl.filterMap wpe) := by decide +kernel
theorem pays_nodup : (payL.drop 2).Nodup := by decide +kernel

omit [FloatOps F] in
/-- What the launch gives a device of units to come, in the order of its waits. -/
theorem creds : (Pipeline.launchCred (fun d => OL d 0) c : sProp 𝕄)
    = iprop(cred (tallyAt (barCell c) 2 2) ∗ bigSepL wl (wcr c)) := by
  rw [Pipeline.launchCred_of_sum (fun d => OL d 0) due (owed_sum payL) due_own c, due, TalkSites.cred_tallyL, BI.bigSepL_map]
  rw [bigSepL_some wpe (pcr c) (wcr c) wl fun w _ => by cases w <;> rfl]
  rw [← TalkSites.bigSepL_perm waits_perm pays_nodup]
  rw [show payL = .bar false :: .bar true :: payL.drop 2 from rfl, BI.bigSepL_cons', BI.bigSepL_cons']
  rw [show tallyAt (barCell c) 2 2 = (tallyAt (barCell c) 2 1 + tallyAt (barCell c) 2 1 : CellTallies nD τ sig ℕ) from (tallyAt_add _ _ 1 1).symm]
  rw [BI.Entails.antisymm (cred_add _ _).1 (cred_add _ _).2]
  exact (sep_shift _ _ _).symm

/-! ## The permissions -/

/-- The permission of a payment, by the semaphore it goes to. -/
def pkey : PE → SemLoc sig × ℕ × Bool
  | .bar d => (.reg barS, 0, d)
  | .cr X n => (csem (.cr X), n, false)
  | .is X q => (csem (.rc X (dsl q)), q / 2, false)
/-- That of giving a hop's source back. -/
def skey : PE → Option (SemLoc sig × ℕ × Bool)
  | .is X q => some (csem (.sd X (dsl q)), q / 2, false)
  | _ => none
/-- All permissions of a device's semaphores. -/
def keys : List (SemLoc sig × ℕ × Bool) :=
  payL.map pkey ++ (payL.filterMap skey ++ [(csem .stg, 0, false), (csem .stg, 1, false)])
theorem keys_nodup : keys.Nodup := by decide +kernel

def keyEmb (c : Dev nD) : SemLoc sig × ℕ × Bool ↪ GSem nD τ sig × ℕ × Bool :=
  ⟨fun x => (((c : Thread nD τ), x.1), x.2), fun _ _ h =>
    Prod.ext (congrArg (fun t : GSem nD τ sig × ℕ × Bool => t.1.2) h) (congrArg (fun t : GSem nD τ sig × ℕ × Bool => t.2) h)⟩
/-- All permissions. -/
def toks : Finset (GSem nD τ sig × ℕ × Bool) := Finset.univ.biUnion fun c : Dev nD => keys.toFinset.map (keyEmb c)
theorem toks_disjoint (c d : Dev nD) (h : c ≠ d) : Disjoint (keys.toFinset.map (keyEmb c)) (keys.toFinset.map (keyEmb d)) := by
  rw [Finset.disjoint_left]
  intro g h₁ h₂
  obtain ⟨x, -, rfl⟩ := Finset.mem_map.mp h₁
  obtain ⟨y, -, e⟩ := Finset.mem_map.mp h₂
  exact h (congrArg (fun t : GSem nD τ sig × ℕ × Bool => t.1.1.1) e).symm

/-- A permission. -/
def ktok (c : Dev nD) (x : SemLoc sig × ℕ × Bool) : sProp 𝕄 := dutyTok ER ((c : Thread nD τ), x.1) x.2.1 x.2.2
def stok (c : Dev nD) (p : PE) : sProp 𝕄 := match skey p with
  | some x => ktok c x
  | none => BI.emp

omit [FloatOps F] in
theorem ptok_eq (p : PE) : (ptok c p : sProp 𝕄) = iprop(ktok (dest p c) (pkey p) ∗ stok c p) := by
  match p with
  | .bar false => exact (BI.equiv_iff.mp sep_emp).symm
  | .bar true => exact (BI.equiv_iff.mp sep_emp).symm
  | .cr _ _ => exact (BI.equiv_iff.mp sep_emp).symm
  | .is _ _ => rfl

/-- The permissions a device uses. -/
def perms (c : Dev nD) : sProp 𝕄 :=
  iprop(bigSepL payL (ptok c) ∗ (dutyTok ER (cell c .stg) 0 false ∗ dutyTok ER (cell c .stg) 1 false))

omit [FloatOps F] in
/-- All permissions, each with the device that is to use it. -/
theorem toks_eq : (bigSep toks (fun x => dutyTok ER x.1 x.2.1 x.2.2) : sProp 𝕄)
    = bigSep Finset.univ fun c : Dev nD => perms c := by
  unfold perms
  have h1 (c : Dev nD) : bigSep keys.toFinset (fun x => (ktok c x : sProp 𝕄))
      = iprop(bigSepL payL (fun p => ktok c (pkey p)) ∗ (bigSepL payL (stok c)
        ∗ (dutyTok ER (cell c .stg) 0 false ∗ dutyTok ER (cell c .stg) 1 false))) := by
    rw [bigSep_eq_bigSepL keys keys_nodup, keys, BI.bigSepL_append, BI.bigSepL_append, BI.bigSepL_map,
      bigSepL_some skey (ktok c) (stok c) payL fun p _ => by cases p <;> rfl]
    rfl
  have h2 : (bigSep toks (fun x => dutyTok ER x.1 x.2.1 x.2.2) : sProp 𝕄)
      = bigSep Finset.univ fun c : Dev nD => bigSep keys.toFinset (fun x => ktok c x) := by
    unfold toks
    rw [bigSep_biUnion_eq _ _ _ fun c _ d _ h => toks_disjoint c d h]
    exact bigSep_congr fun c _ => bigSep_map _
  have h3 (c : Dev nD) : (bigSepL payL (ptok c) : sProp 𝕄)
      = iprop(bigSepL payL (fun p => ktok (dest p c) (pkey p)) ∗ bigSepL payL (stok c)) := by
    exact (congrArg (bigSepL payL) (funext fun p => ptok_eq c p)).trans (bigSepL_two _ _ _)
  rw [h2]
  simp only [h1, h3]
  rw [bigSep_sep', bigSep_sep', bigSep_sep', bigSep_sep', bigSepL_move dest (fun c p => (ktok c (pkey p) : sProp 𝕄)),
    bigSep_sep', bigSep_sep', sep_shift]

/-! ## The launch -/

def barEmb : Dev nD ↪ GSem nD τ sig := ⟨fun c => barCell c, fun _ _ h => congrArg (fun g : GSem nD τ sig => g.1.1) h⟩
def ownEmb : Dev nD × Kn ↪ GSem nD τ sig :=
  ⟨fun x => cell x.1 x.2, fun _ _ h => Prod.ext (congrArg (fun g : GSem nD τ sig => g.1.1) h) (csem_injective (congrArg Prod.snd h))⟩
/-- The barriers, and the kernel's own semaphores. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact csem_ne_bar x.2 (congrArg Prod.snd h)

theorem ocell_mem (x : Dev nD × Option Kn) : ocell x ∈ (barCells ∪ ownCells : Finset (GSem nD τ sig)) := by
  match x with
  | (c, none) => exact Finset.mem_union_left _ (Finset.mem_map_of_mem barEmb (Finset.mem_univ c))
  | (c, some k) => exact Finset.mem_union_right _ (Finset.mem_map_of_mem ownEmb (Finset.mem_univ (c, k)))

/-- The ghost state at the launch. -/
def u₀ : UU :=
  (initOf (Pipeline.cells (Pipeline.pin (pcfgs (F := F)) adm) cellOf_inj) (Pipeline.launchToks (Pipeline.pin (pcfgs (F := F)) adm) cellOf_inj),
    launchOf barCells ownCells toks)

/-- A resource left with device `0`. -/
def parked (X : sProp 𝕄) (c : Dev nD) : sProp 𝕄 := if c = 0 then X else iprop(emp)
omit [FloatOps F] in
theorem parked_all (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
/-- The protocol's ghost state, until it is dealt. -/
def G : Dev nD → sProp 𝕄 := parked (BI.own (ER (launchOf barCells ownCells toks)))

omit [FloatOps F] in
theorem unscopedSems0_eq : (unscopedSems0 c : sProp 𝕄) = semVal (barCell c) 0 := by
  unfold unscopedSems0
  rw [show (Finset.univ.filter fun sm : SemLoc sig => ¬ sm.isScoped .tc = true) = {SemLoc.reg barS} from by decide, BI.bigSep_singleton]

/-- What a device holds at the launch. -/
abbrev T₀ (c : Dev nD) : sProp 𝕄 := iprop(StableHlo.held (c : Thread nD τ) (Pipeline.ucRefs τ sig) (V₀ m c) ∗ R m c)
/-- Of it, what is not the protocol's; -/
def bundle (c : Dev nD) : sProp 𝕄 :=
  iprop(StableHlo.held (c : Thread nD τ) (Pipeline.ucRefs τ sig) (V₀ m c) ∗ (cred (tallyAt (barCell c) 2 2) ∗ bigSepL wl (wcr c))
    ∗ owes (c : Thread nD τ) (OL c 0) ∅ ∗ ∃ r, prngReg c r)
/-- and what is. -/
def linear (c : Dev nD) : sProp 𝕄 :=
  iprop(atPos ER (barCell c) 0 ∅ 0 ∗ bigSep Finset.univ (fun k : Kn => openTok ER (cell c k))
    ∗ perms c)

theorem launch_one (K : Dev nD × Option Kn → ℕ) : iprop(Recs m K ∗ (linear c ∗ bundle m c)) ⊢ T₀ m c := by
  unfold bundle linear perms T₀ R Tk Hold
  iintro ⟨#HR, ⟨Hat, Hopen, Htok, Hst⟩, Hh, ⟨Hcb, Hcw⟩, HO, Hp⟩
  isplitl [Hh]; · iexact Hh
  isplitr [Hp HO]
  · iexists K
    isplitr; · iexact HR
    isplitl [Hopen]; · iexact Hopen
    isplitl [Hat Hcb]; · isplitl [Hat]; · iexact Hat
                         iexact Hcb
    isplitl [Htok]; · iexact Htok
    isplitl [Hst]; · iexact Hst
    iexact Hcw
  isplitl [Hp]; · iexact Hp
  iexists ∅; iexact HO

/-- What the launch gives a device, in these terms. -/
theorem launch_core : iprop(unscopedBufs c (fun b => m ((c : Thread nD τ).loc b)) ∗ unscopedSems0 c
      ∗ owes (c : Thread nD τ) (OL c 0) ∅ ∗ Pipeline.launchCred (fun d => OL d 0) c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V₀ m c) from
    Pipeline.unscopedBufs_held c (V₀ m c), unscopedSems0_eq, creds]
  unfold bundle
  iintro ⟨Hh, Hus, HO, Hcr, Hp, HG⟩
  isplitr [Hus HG]
  · isplitl [Hh]; · iexact Hh
    isplitl [Hcr]; · iexact Hcr
    isplitl [HO]; · iexact HO
    iexists (ρ c); iexact Hp
  isplitl [Hus]; · iexact Hus
  iexact HG

omit [FloatOps F] in
/-- A product over the barriers, device by device; and over the kernel's own semaphores. -/
theorem bar_all (Φ : GSem nD τ sig → sProp 𝕄) : bigSep barCells Φ = bigSep Finset.univ fun c : Dev nD => Φ (barCell c) := bigSep_map barEmb
omit [FloatOps F] in
theorem own_all (Φ : GSem nD τ sig → sProp 𝕄) : bigSep ownCells Φ = bigSep Finset.univ fun c : Dev nD => bigSep Finset.univ fun k : Kn => Φ (cell c k) := by
  unfold ownCells; rw [bigSep_map, bigSep_univ_prod]; rfl
omit [FloatOps F] in
theorem G_all : bigSep Finset.univ (G (F := F)) = BI.own (ER (launchOf barCells ownCells toks)) := parked_all _

/-- The invariants, under names by device. -/
theorem recs_intro (κ : GSem nD τ sig → ℕ) : iprop((bigSep (barCells ∪ ownCells) fun g => cellInv ER (Rd m) (κ g) g)
    ∗ bigSep Finset.univ (fun c : Dev nD => reached ER (barCell c) 0)) ⊢ (Recs m (fun x => κ (ocell x)) : sProp 𝕄) := by
  unfold Recs
  exact sep_mono_left (bigSep_intro_persistent fun x _ => bigSep_elim (ocell_mem x))

/-- All semaphores put under the schedule. -/
theorem fund : iprop(bigSep Finset.univ (fun c : Dev nD => semVal (barCell c) 0) ∗ bigSep Finset.univ G)
    ⊢ (|={Set.univ}=> ∃ K, Recs m K ∗ bigSep Finset.univ linear : sProp 𝕄) := by
  rw [G_all, ← bar_all (fun g => semVal g 0)]
  refine BIBase.Entails.trans (Rounds.fund_launch ER (Rd m) cells_disjoint (fun g _ h => h) toks (Es := Set.univ)) ?_
  rw [bar_all, bar_all, own_all, toks_eq]
  iintro H
  imod H with ⟨%κ, -, #Hinv, #Hr, Hat, Hopen, Htok⟩
  imodintro
  iexists (fun x => κ (ocell x))
  isplitr
  · iapply (recs_intro m κ)
    isplitr; · iexact Hinv
    iexact Hr
  unfold linear
  rw [bigSep_sep', bigSep_sep']
  isplitl [Hat]; · iexact Hat
  isplitl [Hopen]; · iexact Hopen
  iexact Htok

/-- The launch: everything dealt. -/
theorem init : iprop((bigSep Finset.univ fun c : Dev nD => iprop(unscopedBufs c (fun b => m ((c : Thread nD τ).loc b)) ∗ unscopedSems0 c
        ∗ owes (c : Thread nD τ) (OL c 0) ∅ ∗ Pipeline.launchCred (fun d => OL d 0) c ∗ prngReg c (ρ c) ∗ G c)) ∗ levAts L lv)
      ⊢ (|={Set.univ}=> bigSep Finset.univ (T₀ m) : sProp 𝕄) := by
  refine BIBase.Entails.trans (sep_mono_left (bigSep_mono fun c _ => launch_core m ρ c)) ?_
  rw [bigSep_sep', bigSep_sep']
  iintro ⟨⟨HB, H⟩, -⟩
  imod (fund m) $$ H with ⟨%K, #HR, Hl⟩
  imodintro
  iapply (bigSep_with_persistent (R := Recs m K) (Φ := fun c => iprop(linear c ∗ bundle m c)) fun c _ => launch_one m c K)
  isplitr; · iexact HR
  rw [bigSep_sep']
  isplitl [Hl]; · iexact Hl
  iexact HB

/-! ## The run -/

theorem V₂_arg0 : V₂ m c main_arg0 = m ((c : Thread nD τ).loc main_arg0) := (V₂_of_ne m c main_arg0 (by decide)).trans (V_main_arg0 m c)
theorem V₂_arg1 : V₂ m c main_arg1 = m ((c : Thread nD τ).loc main_arg1) := (V₂_of_ne m c main_arg1 (by decide)).trans (V_main_arg1 m c)
theorem unscoped_bar : ∀ sm : SemLoc sig, sm.isScoped .tc = false → sm = .reg barS := by decide

omit [FloatOps F] in
/-- Three of the buffers a device holds at the end. -/
theorem held_out (W : Valuation τ sig (Elt F)) : (StableHlo.held (c : Thread nD τ) (Pipeline.ucRefs τ sig) W : sProp 𝕄)
    ⊢ iprop(((c : Thread nD τ).loc main_arg0 ↦{fullShare} W main_arg0) ∗ ((c : Thread nD τ).loc main_arg1 ↦{fullShare} W main_arg1)
      ∗ ((c : Thread nD τ).loc main_v1 ↦{fullShare} W main_v1)) := by
  rw [StableHlo.held_sub_split (c.tc : Thread nD τ)
    (show ({Proc.devRef .tc main_arg0, Proc.devRef .tc main_arg1, Proc.devRef .tc main_v1} : Finset (DevRef τ sig)) ⊆ Pipeline.ucRefs τ sig by decide) W]
  unfold StableHlo.held
  rw [BI.bigSep_eq_bigSepL_of_eq [Proc.devRef .tc main_arg0, Proc.devRef .tc main_arg1, Proc.devRef .tc main_v1] (by decide) (by decide)]
  rw [BI.bigSepL_cons', BI.bigSepL_cons', bigSepL_singleton]
  iintro ⟨⟨H0, H1, H2⟩, -⟩
  isplitl [H0]; · iexact H0
  isplitl [H1]; · iexact H1
  iexact H2

set_option backward.isDefEq.respectTransparency.types false in
/-- From any memory, with the counters at zero, every fair execution of the program on the sixteen devices ends, with the
    arguments unchanged, the result as computed on every device, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outAt m c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => OL d 0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v1) = V₂ m c main_v1) ∧ s.sem (barCell c) = 0)
    (hfin := fun c s' => by
      dsimp only [Tₙ]
      iintro ⟨⟨Hh, Hb0⟩, HSI⟩
      ihave Hh := (held_out c (V₂ m c)) $$ Hh
      icases Hh with ⟨H0, H1, H2⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_arg0] at h0; rw [V₂_arg1] at h1; rw [V₂_out] at h2
        exact ⟨h0, h1, h2⟩,
      sem_eq_zero hs fun c sm hsm => by
        obtain rfl := unscoped_bar sm hsm
        exact (h c).2⟩)

end Cert.Ring
end
-- ==== Proof.Value.lean ====
/- The value of the run over the extended reals: what a device ends with is its columns of the reference's result. -/
module

public import proofs.«01_k».proof.Proof.Launch
public import proofs.«01_k».proof.Proof.Gen.ReferenceIdeal.Run
public import Idealize.ShloMosaic.Lib.Pointwise

@[expose] public section

noncomputable section

namespace Cert.Ring

open Cert.KernelIdeal Cert.KernelIdeal.Gen Idealize.ShloMosaic Idealize.ShloMosaic.TcCoe Idealize.SL.Sem

set_option maxRecDepth 16384 in
/-- One stored block at an index: the row of `x` by the column of the weights, with zero for a negative sum. -/
theorem pay_apply (x : Vec Ideal S256x8192 .f32) (w : Vec Ideal S8192x256 .f32) (r l : Fin 256) :
    k0_pay9 (F := Ideal) (k0_pay2 x) (k0_pay3 w) (ix2 r l) = max (∑ k : Fin 8192, x (ix2 r k) * w (ix2 k l)) 0 := by
  pointwise [k0_pay9, k0_pay2, k0_pay3]

/-- The reference's result, as a term of its two arguments. -/
def refV (x : FVec Ideal ReferenceIdeal.S8192x8192 .f32) (w : FVec Ideal ReferenceIdeal.S8192x4096 .f32) :
    FVec Ideal ReferenceIdeal.S8192x4096 .bf16 :=
  truncf .bf16 (maximumf (Host.dotGeneral ReferenceIdeal.dot_S8192x8192_S8192x4096_S8192x4096_1_0_0_1_n_n none
    (truncf .bf16 x ReferenceIdeal.Facts₀.bitsLt_bf16_f32) (truncf .bf16 w ReferenceIdeal.Facts₀.bitsLt_bf16_f32))
    (broadcastInDim ReferenceIdeal.S8192x4096 ![] ReferenceIdeal.Facts₀.bcast_S_S8192x4096 (constant ReferenceIdeal.S_ .f32 0x00000000#32)))
    ReferenceIdeal.Facts₀.bitsLt_bf16_f32

set_option maxRecDepth 16384 in
/-- The reference's result at an index: the same. -/
theorem refV_apply (x : FVec Ideal ReferenceIdeal.S8192x8192 .f32) (w : FVec Ideal ReferenceIdeal.S8192x4096 .f32)
    (r : Fin 8192) (l : Fin 4096) : refV x w (ix2 r l) = max (∑ k : Fin 8192, x (ix2 r k) * w (ix2 k l)) 0 := by
  pointwise [refV]

variable (m : (ℓ : Loc nD τ sig) → Buf (Elt Ideal) ℓ)

/-- A half of a device's block of `x` at an index. -/
theorem xh_apply (c : Dev nD) (h : Fin 2) (r : Fin 256) (k : Fin 8192) :
    xh m c h (ix2 r k) = (m ((c : Thread nD τ).loc main_arg0) : S512x8192.Idx → EReal) (ix2 ⟨h.val * 256 + r.val, by omega⟩ k) := by
  show (m ((c : Thread nD τ).loc main_arg0) : S512x8192.Idx → EReal) _ = _
  refine congrArg (m ((c : Thread nD τ).loc main_arg0) : S512x8192.Idx → EReal) (funext fun a => Fin.ext ?_)
  match a with
  | ⟨0, _⟩ => show h.val * 256 + 1 * r.val = h.val * 256 + r.val; omega
  | ⟨1, _⟩ => show 0 + 1 * k.val = k.val; omega

/-- A device's result at an index, when the devices hold the rows of `x` and the columns of `w`. -/
theorem outAt_apply (x : ReferenceIdeal.S8192x8192.Idx → EReal) (w : ReferenceIdeal.S8192x4096.Idx → EReal)
    (hx : ∀ c : Dev nD, m ((c : Thread nD τ).loc main_arg0) = Layout.block ⟨2, ![512, 8192]⟩ ⟨2, ![8192, 8192]⟩ 0 16 c x)
    (hw : ∀ c : Dev nD, m ((c : Thread nD τ).loc main_arg1) = Layout.block ⟨2, ![8192, 256]⟩ ⟨2, ![8192, 4096]⟩ 1 16 c w)
    (c : Dev nD) (r : Fin 8192) (l : Fin 256) :
    outAt m c (ix2 r l) = max (∑ k : Fin 8192, x (ix2 r k) * w (ix2 k ⟨c.val * 256 + l.val, by have : c.val < 16 := c.isLt; omega⟩)) 0 := by
  have hc : c.val < 16 := c.isLt
  have hr : outAt m c (ix2 r l) = oblk m c ⟨r.val / 512 % 16, Nat.mod_lt _ (by decide)⟩ ⟨r.val / 256 % 2, Nat.mod_lt _ (by decide)⟩
      (ix2 ⟨r.val % 256, Nat.mod_lt _ (by decide)⟩ l) := by
    unfold outAt
    refine congrArg _ (funext fun a => ?_)
    match a with
    | ⟨0, _⟩ => rfl
    | ⟨1, _⟩ => rfl
  rw [hr]
  unfold oblk chk wbf
  rw [pay_apply]
  refine congrArg (max · 0) (Finset.sum_congr rfl fun k _ => ?_)
  rw [xh_apply, wv_eq, hx, hw, Layout.block_apply, Layout.block_apply]
  refine congrArg₂ (· * ·) (congrArg x (funext fun a => ?_)) (congrArg w (funext fun a => ?_))
  · refine Fin.ext ?_
    match a with
    | ⟨0, _⟩ => show r.val / 512 % 16 * 512 + (r.val / 256 % 2 * 256 + r.val % 256) = r.val; omega
    | ⟨1, _⟩ => rfl
  · match a with
    | ⟨0, _⟩ => rfl
    | ⟨1, _⟩ => rfl

/-- A device's result is its columns of the reference's. -/
theorem outAt_eq (x : ReferenceIdeal.S8192x8192.Idx → EReal) (w : ReferenceIdeal.S8192x4096.Idx → EReal)
    (hx : ∀ c : Dev nD, m ((c : Thread nD τ).loc main_arg0) = Layout.block ⟨2, ![512, 8192]⟩ ⟨2, ![8192, 8192]⟩ 0 16 c x)
    (hw : ∀ c : Dev nD, m ((c : Thread nD τ).loc main_arg1) = Layout.block ⟨2, ![8192, 256]⟩ ⟨2, ![8192, 4096]⟩ 1 16 c w)
    (c : Dev nD) : outAt m c = Layout.block ⟨2, ![8192, 256]⟩ ⟨2, ![8192, 4096]⟩ 1 16 c (refV x w) := by
  funext y
  obtain ⟨r, l, rfl⟩ : ∃ (r : Fin 8192) (l : Fin 256), y = ix2 r l := ⟨y 0, y 1, eq_ix2 y⟩
  have hc : c.val < 16 := c.isLt
  refine (outAt_apply m x w hx hw c r l).trans (((refV_apply x w r ⟨c.val * 256 + l.val, by omega⟩).symm).trans ?_)
  rw [Layout.block_apply]
  refine congrArg (refV x w) (funext fun a => ?_)
  match a with
  | ⟨0, _⟩ => rfl
  | ⟨1, _⟩ => rfl

end Cert.Ring
end
-- ==== Proof.Same.lean ====
/- The compiled kernel and its idealization are one text, so the run of the one is a run of the other. -/
module

public import proofs.«01_k».proof.Proof.Launch
public import proofs.«01_k».proof.Proof.Gen.Kernel

@[expose] public section

set_option maxRecDepth 100000
set_option maxHeartbeats 1000000

noncomputable section

namespace Cert.Ring

open Idealize.ShloMosaic Idealize.SL.Sem

variable {F : FTy → Type} [FloatOps F]

/-- The two kernel bodies are the same program. -/
theorem body_same : @Cert.Kernel.cc0_body F _ Cert.Kernel.Gen.facts = @Cert.KernelIdeal.cc0_body F _ Cert.KernelIdeal.Gen.facts := rfl

/-- So are the tables that hold them. -/
theorem bodies_same : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => rfl

/-- So are the tables with the pipeline's labels added. -/
theorem defs_same : Cert.Kernel.defs (F := F) = Cert.KernelIdeal.defs (F := F) :=
  congrArg (Pipeline.defs Cert.KernelIdeal.pcfgs) bodies_same

/-- The run that the compiled kernel makes. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
          ∧ r.2.mem ((c.tc : Thread Cert.Kernel.nD Cert.Kernel.τ).loc Cert.Kernel.main_arg1)
            = m ((c.tc : Thread Cert.Kernel.nD Cert.Kernel.τ).loc Cert.Kernel.main_arg1))
      ∧ r.2.sem = fun _ => 0) := by
  have h := (θ_run (Cert.KernelIdeal.defs (F := F)) _ _).mono
    (fun r (h : _ ∧ r.2.sem = fun _ => 0) => And.intro (fun c => And.intro (h.1 c).1 (h.1 c).2.1) h.2) (run_main (F := F) m ρ)
  rw [← defs_same] at h
  exact h

end Cert.Ring
end
-- ==== Proof.lean ====
/-
The five claims, put together: the three programs end with their arguments unchanged and their counters at zero, the
idealization is the kernel's own text, and what the devices end with is, put side by side, the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Ring

/-- The compiled kernel ends with its arguments unchanged and every counter at zero. -/
theorem frame_kernel : Cert.quiescent_Kernel := fun m ρ _ => run_kernel (F := Bits) m ρ

/-- The kernel over the extended reals ends with its arguments unchanged and every counter at zero. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference ends with its arguments unchanged. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- On every device the kernel's result is the device's columns of the reference's. -/
theorem value : Cert.algebraic_KernelIdeal_ReferenceIdeal := fun m ρ m' ρ' _ hin =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c).2.2.trans (outAt_eq m _ _ (fun c => (hin c).1) (fun c => (hin c).2) c), (h.1 c).1, (h.1 c).2.1⟩) (run_main (F := Ideal) m ρ),
    (θ_run Cert.ReferenceIdeal.defs _ _).mono (fun _ h => h 0) (Cert.ReferenceIdeal.Value.run (F := Ideal) m' ρ')⟩

/-- All the claims of the statement. -/
theorem claim : Cert.Claim := ⟨Cert.Kernel.Gen.facts, Cert.KernelIdeal.Gen.facts, Cert.ReferenceIdeal.Gen.facts,
  frame_kernel, frame_kernelIdeal, frame_reference, trivial, value⟩

end Cert.Proof

end
